-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "inv_step" .f32 0x41E2A0FF#32 ((67108864 / 2368943 : ℝ) : EReal)

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v63)) (v1 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_v65) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v115) = v0 c
          ∧ r.2.mem ((c.tc : Thread Cert.ReferenceIdeal.nD Cert.ReferenceIdeal.τ).loc Cert.ReferenceIdeal.main_v117) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S4x96000 : Shape := ⟨2, ![4, 96000]⟩
abbrev S4 : Shape := ⟨1, ![4]⟩
abbrev S80x201 : Shape := ⟨2, ![80, 201]⟩
abbrev S80x258 : Shape := ⟨2, ![80, 258]⟩
abbrev S_ : Shape := ⟨0, ![]⟩
abbrev S256 : Shape := ⟨1, ![256]⟩
abbrev S80x256 : Shape := ⟨2, ![80, 256]⟩
abbrev S1x256 : Shape := ⟨2, ![1, 256]⟩
abbrev S80x1 : Shape := ⟨2, ![80, 1]⟩
abbrev S80 : Shape := ⟨1, ![80]⟩
abbrev S598 : Shape := ⟨1, ![598]⟩
abbrev S598x1 : Shape := ⟨2, ![598, 1]⟩
abbrev S400 : Shape := ⟨1, ![400]⟩
abbrev S1x400 : Shape := ⟨2, ![1, 400]⟩
abbrev S598x400 : Shape := ⟨2, ![598, 400]⟩
abbrev S598x400x1 : Shape := ⟨3, ![598, 400, 1]⟩
abbrev S4x598x400 : Shape := ⟨3, ![4, 598, 400]⟩
abbrev S201 : Shape := ⟨1, ![201]⟩
abbrev S400x1 : Shape := ⟨2, ![400, 1]⟩
abbrev S1x201 : Shape := ⟨2, ![1, 201]⟩
abbrev S400x201 : Shape := ⟨2, ![400, 201]⟩
abbrev S1x1x400 : Shape := ⟨3, ![1, 1, 400]⟩
abbrev S4x598x400x1 : Shape := ⟨4, ![4, 598, 400, 1]⟩
abbrev S1x1x400x201 : Shape := ⟨4, ![1, 1, 400, 201]⟩
abbrev S4x598x400x201 : Shape := ⟨4, ![4, 598, 400, 201]⟩
abbrev S4x598x201 : Shape := ⟨3, ![4, 598, 201]⟩
abbrev S201x80 : Shape := ⟨2, ![201, 80]⟩
abbrev S4x598x80 : Shape := ⟨3, ![4, 598, 80]⟩
abbrev S4x598x80x1 : Shape := ⟨4, ![4, 598, 80, 1]⟩
abbrev S1x1x80x258 : Shape := ⟨4, ![1, 1, 80, 258]⟩
abbrev S4x598x80x258 : Shape := ⟨4, ![4, 598, 80, 258]⟩
abbrev S4x598x80x257 : Shape := ⟨4, ![4, 598, 80, 257]⟩

class Facts : Prop where
  bcast_S_S4 : S_.BroadcastsInDim S4 (![] : Fin 0 → Fin S4.rank)
  bcast_S_S256 : S_.BroadcastsInDim S256 (![] : Fin 0 → Fin S256.rank)
  slices_S80x258_S80x256_0_0 : S80x258.Slices ![0, 0] S80x256
  bcast_S256_S1x256_1 : S256.BroadcastsInDim S1x256 (![1] : Fin 1 → Fin S1x256.rank)
  bcast_S1x256_S80x256_0_1 : S1x256.BroadcastsInDim S80x256 (![0, 1] : Fin 2 → Fin S80x256.rank)
  slices_S80x258_S80x1_0_256 : S80x258.Slices ![0, 256] S80x1
  shapeCasts_S80x1_S80 : S80x1.ShapeCasts S80
  bcast_S_S80 : S_.BroadcastsInDim S80 (![] : Fin 0 → Fin S80.rank)
  slices_S80x258_S80x1_0_257 : S80x258.Slices ![0, 257] S80x1
  bcast_S598_S598x1_0 : S598.BroadcastsInDim S598x1 (![0] : Fin 1 → Fin S598x1.rank)
  bcast_S_S598x1 : S_.BroadcastsInDim S598x1 (![] : Fin 0 → Fin S598x1.rank)
  bcast_S400_S1x400_1 : S400.BroadcastsInDim S1x400 (![1] : Fin 1 → Fin S1x400.rank)
  bcast_S598x1_S598x400_0_1 : S598x1.BroadcastsInDim S598x400 (![0, 1] : Fin 2 → Fin S598x400.rank)
  bcast_S1x400_S598x400_0_1 : S1x400.BroadcastsInDim S598x400 (![0, 1] : Fin 2 → Fin S598x400.rank)
  bcast_S_S598x400 : S_.BroadcastsInDim S598x400 (![] : Fin 0 → Fin S598x400.rank)
  bcast_S598x400_S598x400x1_0_1 : S598x400.BroadcastsInDim S598x400x1 (![0, 1] : Fin 2 → Fin S598x400x1.rank)
  bcast_S_S400 : S_.BroadcastsInDim S400 (![] : Fin 0 → Fin S400.rank)
  bcast_S400_S400x1_0 : S400.BroadcastsInDim S400x1 (![0] : Fin 1 → Fin S400x1.rank)
  bcast_S201_S1x201_1 : S201.BroadcastsInDim S1x201 (![1] : Fin 1 → Fin S1x201.rank)
  bcast_S400x1_S400x201_0_1 : S400x1.BroadcastsInDim S400x201 (![0, 1] : Fin 2 → Fin S400x201.rank)
  bcast_S1x201_S400x201_0_1 : S1x201.BroadcastsInDim S400x201 (![0, 1] : Fin 2 → Fin S400x201.rank)
  bcast_S_S400x201 : S_.BroadcastsInDim S400x201 (![] : Fin 0 → Fin S400x201.rank)
  bcast_S400_S1x1x400_2 : S400.BroadcastsInDim S1x1x400 (![2] : Fin 1 → Fin S1x1x400.rank)
  bcast_S1x1x400_S4x598x400_0_1_2 : S1x1x400.BroadcastsInDim S4x598x400 (![0, 1, 2] : Fin 3 → Fin S4x598x400.rank)
  bcast_S4x598x400_S4x598x400x1_0_1_2 : S4x598x400.BroadcastsInDim S4x598x400x1 (![0, 1, 2] : Fin 3 → Fin S4x598x400x1.rank)
  bcast_S400x201_S1x1x400x201_2_3 : S400x201.BroadcastsInDim S1x1x400x201 (![2, 3] : Fin 2 → Fin S1x1x400x201.rank)
  bcast_S4x598x400x1_S4x598x400x201_0_1_2_3 : S4x598x400x1.BroadcastsInDim S4x598x400x201 (![0, 1, 2, 3] : Fin 4 → Fin S4x598x400x201.rank)
  bcast_S1x1x400x201_S4x598x400x201_0_1_2_3 : S1x1x400x201.BroadcastsInDim S4x598x400x201 (![0, 1, 2, 3] : Fin 4 → Fin S4x598x400x201.rank)
  reducesTo_S4x598x400x201_S4x598x201_d2 : S4x598x400x201.ReducesTo [2] S4x598x201
  h_S_ : 0 < S_.numel
  transposes_S80x201_S201x80_1_0 : S80x201.Transposes [1, 0] S201x80
  bcast_S_S4x598x80 : S_.BroadcastsInDim S4x598x80 (![] : Fin 0 → Fin S4x598x80.rank)
  bcast_S4x598x80_S4x598x80x1_0_1_2 : S4x598x80.BroadcastsInDim S4x598x80x1 (![0, 1, 2] : Fin 3 → Fin S4x598x80x1.rank)
  bcast_S80x258_S1x1x80x258_2_3 : S80x258.BroadcastsInDim S1x1x80x258 (![2, 3] : Fin 2 → Fin S1x1x80x258.rank)
  bcast_S4x598x80x1_S4x598x80x258_0_1_2_3 : S4x598x80x1.BroadcastsInDim S4x598x80x258 (![0, 1, 2, 3] : Fin 4 → Fin S4x598x80x258.rank)
  bcast_S1x1x80x258_S4x598x80x258_0_1_2_3 : S1x1x80x258.BroadcastsInDim S4x598x80x258 (![0, 1, 2, 3] : Fin 4 → Fin S4x598x80x258.rank)
  slices_S4x598x80x258_S4x598x80x257_0_0_0_0 : S4x598x80x258.Slices ![0, 0, 0, 0] S4x598x80x257
  slices_S4x598x80x258_S4x598x80x257_0_0_0_1 : S4x598x80x258.Slices ![0, 0, 0, 1] S4x598x80x257
  reducesTo_S4_S_d0 : S4.ReducesTo [0] S_
  reducesTo_S80x256_S_d0_1 : S80x256.ReducesTo [0, 1] S_
  reducesTo_S80_S_d0 : S80.ReducesTo [0] S_
  reducesTo_S4x598x80x257_S_d0_1_2_3 : S4x598x80x257.ReducesTo [0, 1, 2, 3] S_
  gather_S4x96000_S598x400x1_S4x598x400_0_1_n_n_1_2_41_wf : GatherDims.WF S4x96000 S598x400x1 S4x598x400 [0] [1] [] [1] [] 2 ![4, 1]
  dot_S4x598x201_S201x80_S4x598x80_2_0_01_1_n_n_wf : DotDims.WF S4x598x201 S201x80 S4x598x80 [2] [0] [0, 1] [1] [] []

variable [Facts]

def gather_S4x96000_S598x400x1_S4x598x400_0_1_n_n_1_2_41 : GatherDims S4x96000 S598x400x1 S4x598x400 where
  offsetDims := [0]
  collapsedSliceDims := [1]
  operandBatchingDims := []
  startIndicesBatchingDims := []
  startIndexMap := [1]
  indexVectorDim := 2
  sliceSizes := ![4, 1]
  wf := gather_S4x96000_S598x400x1_S4x598x400_0_1_n_n_1_2_41_wf
def dot_S4x598x201_S201x80_S4x598x80_2_0_01_1_n_n : DotDims S4x598x201 S201x80 S4x598x80 where
  lhsContracting := [2]
  rhsContracting := [0]
  lhsNonContracting := [0, 1]
  rhsNonContracting := [1]
  lhsBatch := []
  rhsBatch := []
  wf := dot_S4x598x201_S201x80_S4x598x80_2_0_01_1_n_n_wf
def fn_where {F : FTy → Type} [FloatOps F] (arg0 : IVec S4x598x80 1) (arg1 : FVec F S_ .f32) (arg2 : FVec F S4x598x80 .f32) : FVec F S4x598x80 .f32 :=
  let v0 : FVec F S_ .f32 := id arg1
  let v1 : FVec F S4x598x80 .f32 := broadcastInDim S4x598x80 ![] bcast_S_S4x598x80 v0
  let v2 : FVec F S4x598x80 .f32 := select arg0 v1 arg2
  v2

def fn_part5 {F : FTy → Type} [FloatOps F] (main_arg3 : FVec F S80x258 .f32) (main_v4 : IVec S4 1) (main_v14 : IVec S80x256 1) (main_v18 : IVec S80 1) (main_v22 : IVec S80 1) (main_v96 : FVec F S4x598x80x1 .f32) : IVec S_ 1 × IVec S_ 1 × IVec S_ 1 × IVec S_ 1 × IVec S_ 1 :=
  let main_v97 : FVec F S1x1x80x258 .f32 := broadcastInDim S1x1x80x258 ![2, 3] bcast_S80x258_S1x1x80x258_2_3 main_arg3
  let main_v98 : FVec F S4x598x80x258 .f32 := broadcastInDim S4x598x80x258 ![0, 1, 2, 3] bcast_S4x598x80x1_S4x598x80x258_0_1_2_3 main_v96
  let main_v99 : FVec F S4x598x80x258 .f32 := broadcastInDim S4x598x80x258 ![0, 1, 2, 3] bcast_S1x1x80x258_S4x598x80x258_0_1_2_3 main_v97
  let main_v100 : FVec F S4x598x80x258 .f32 := subf main_v98 main_v99
  let main_v101 : FVec F S4x598x80x258 .f32 := Host.absf main_v100
  let main_v102 : FVec F S4x598x80x257 .f32 := (extractStridedSlice S4x598x80x257 ![0, 0, 0, 0] · slices_S4x598x80x258_S4x598x80x257_0_0_0_0) main_v101
  let main_v103 : FVec F S4x598x80x257 .f32 := (extractStridedSlice S4x598x80x257 ![0, 0, 0, 1] · slices_S4x598x80x258_S4x598x80x257_0_0_0_1) main_v101
  let main_v104 : IVec S4x598x80x257 1 := cmpf .une main_v102 main_v103
  let main_c_21 : IVec S_ 1 := constantI S_ 1 1#1
  let main_v105 : IVec S_ 1 := (fun x v => Host.reduce IntOp.andi x v reducesTo_S4_S_d0 h_S_) main_v4 main_c_21
  let main_c_22 : IVec S_ 1 := constantI S_ 1 1#1
  let main_v106 : IVec S_ 1 := (fun x v => Host.reduce IntOp.andi x v reducesTo_S80x256_S_d0_1 h_S_) main_v14 main_c_22
  let main_c_23 : IVec S_ 1 := constantI S_ 1 1#1
  let main_v107 : IVec S_ 1 := (fun x v => Host.reduce IntOp.andi x v reducesTo_S80_S_d0 h_S_) main_v18 main_c_23
  let main_c_24 : IVec S_ 1 := constantI S_ 1 1#1
  let main_v108 : IVec S_ 1 := (fun x v => Host.reduce IntOp.andi x v reducesTo_S80_S_d0 h_S_) main_v22 main_c_24
  let main_c_25 : IVec S_ 1 := constantI S_ 1 1#1
  let main_v109 : IVec S_ 1 := (fun x v => Host.reduce IntOp.andi x v reducesTo_S4x598x80x257_S_d0_1_2_3 h_S_) main_v104 main_c_25
  (main_v105, main_v106, main_v107, main_v108, main_v109)

def fn_part4 {F : FTy → Type} [FloatOps F] (main_arg2 : FVec F S80x201 .f32) (main_arg3 : FVec F S80x258 .f32) (main_v4 : IVec S4 1) (main_v14 : IVec S80x256 1) (main_v18 : IVec S80 1) (main_v22 : IVec S80 1) (main_v70 : FVec F S4x598x201 .f32) (main_v78 : FVec F S4x598x201 .f32) : IVec S_ 1 × IVec S_ 1 × IVec S_ 1 × IVec S_ 1 × IVec S_ 1 :=
  let main_v79 : FVec F S4x598x201 .f32 := mulf main_v70 main_v70
  let main_v80 : FVec F S4x598x201 .f32 := mulf main_v78 main_v78
  let main_v81 : FVec F S4x598x201 .f32 := addf main_v79 main_v80
  let main_v82 : FVec F S201x80 .f32 := (transpose S201x80 [1, 0] · transposes_S80x201_S201x80_1_0) main_arg2
  let main_v83 : FVec F S4x598x80 .f32 := (fun l r => Host.dotGeneral dot_S4x598x201_S201x80_S4x598x80_2_0_01_1_n_n none l r) main_v81 main_v82
  let main_cst_15 : FVec F S_ .f32 := constant S_ .f32 0x2EDBE6FF#32
  let main_v84 : FVec F S4x598x80 .f32 := broadcastInDim S4x598x80 ![] bcast_S_S4x598x80 main_cst_15
  let main_v85 : FVec F S4x598x80 .f32 := addf main_v83 main_v84
  let main_v86 : FVec F S4x598x80 .f32 := Host.log main_v85
  let main_cst_16 : FVec F S_ .f32 := constant S_ .f32 0x40000000#32
  let main_v87 : FVec F S4x598x80 .f32 := broadcastInDim S4x598x80 ![] bcast_S_S4x598x80 main_cst_16
  let main_v88 : IVec S4x598x80 1 := cmpf .ogt main_v86 main_v87
  let main_cst_17 : FVec F S_ .f32 := constant S_ .f32 0x40000000#32
  let main_v89 : FVec F S4x598x80 .f32 := fn_where (F := F) main_v88 main_cst_17 main_v86
  let main_cst_18 : FVec F S_ .f32 := constant S_ .f32 0xC0E00000#32
  let main_v90 : FVec F S4x598x80 .f32 := broadcastInDim S4x598x80 ![] bcast_S_S4x598x80 main_cst_18
  let main_v91 : IVec S4x598x80 1 := cmpf .olt main_v89 main_v90
  let main_cst_19 : FVec F S_ .f32 := constant S_ .f32 0x40400000#32
  let main_v92 : FVec F S4x598x80 .f32 := broadcastInDim S4x598x80 ![] bcast_S_S4x598x80 main_cst_19
  let main_v93 : IVec S4x598x80 1 := cmpf .une main_v89 main_v92
  let main_v94 : IVec S4x598x80 1 := andi main_v91 main_v93
  let main_cst_20 : FVec F S_ .f32 := constant S_ .f32 0xC0E00000#32
  let main_v95 : FVec F S4x598x80 .f32 := fn_where (F := F) main_v94 main_cst_20 main_v89
  let main_v96 : FVec F S4x598x80x1 .f32 := broadcastInDim S4x598x80x1 ![0, 1, 2] bcast_S4x598x80_S4x598x80x1_0_1_2 main_v95
  fn_part5 (F := F) main_arg3 main_v4 main_v14 main_v18 main_v22 main_v96

def fn_part3 {F : FTy → Type} [FloatOps F] (main_arg2 : FVec F S80x201 .f32) (main_arg3 : FVec F S80x258 .f32) (main_v4 : IVec S4 1) (main_v14 : IVec S80x256 1) (main_v18 : IVec S80 1) (main_v22 : IVec S80 1) (main_v38 : FVec F S4x598x400 .f32) (main_v49 : FVec F S400 .f32) (main_v56 : FVec F S400x201 .f32) (main_v57 : FVec F S400x201 .f32) : IVec S_ 1 × IVec S_ 1 × IVec S_ 1 × IVec S_ 1 × IVec S_ 1 :=
  let main_v58 : FVec F S400x201 .f32 := mulf main_v57 main_v56
  let main_cst_12 : FVec F S_ .f32 := constant S_ .f32 0x43C80000#32
  let main_v59 : FVec F S400x201 .f32 := broadcastInDim S400x201 ![] bcast_S_S400x201 main_cst_12
  let main_v60 : FVec F S400x201 .f32 := Host.divf main_v58 main_v59
  let main_v61 : FVec F S1x1x400 .f32 := broadcastInDim S1x1x400 ![2] bcast_S400_S1x1x400_2 main_v49
  let main_v62 : FVec F S4x598x400 .f32 := broadcastInDim S4x598x400 ![0, 1, 2] bcast_S1x1x400_S4x598x400_0_1_2 main_v61
  let main_v63 : FVec F S4x598x400 .f32 := mulf main_v38 main_v62
  let main_v64 : FVec F S4x598x400x1 .f32 := broadcastInDim S4x598x400x1 ![0, 1, 2] bcast_S4x598x400_S4x598x400x1_0_1_2 main_v63
  let main_v65 : FVec F S400x201 .f32 := Host.cos main_v60
  let main_v66 : FVec F S1x1x400x201 .f32 := broadcastInDim S1x1x400x201 ![2, 3] bcast_S400x201_S1x1x400x201_2_3 main_v65
  let main_v67 : FVec F S4x598x400x201 .f32 := broadcastInDim S4x598x400x201 ![0, 1, 2, 3] bcast_S4x598x400x1_S4x598x400x201_0_1_2_3 main_v64
  let main_v68 : FVec F S4x598x400x201 .f32 := broadcastInDim S4x598x400x201 ![0, 1, 2, 3] bcast_S1x1x400x201_S4x598x400x201_0_1_2_3 main_v66
  let main_v69 : FVec F S4x598x400x201 .f32 := mulf main_v67 main_v68
  let main_cst_13 : FVec F S_ .f32 := constant S_ .f32 0x00000000#32
  let main_v70 : FVec F S4x598x201 .f32 := (fun x v => Host.reduceAdd x v reducesTo_S4x598x400x201_S4x598x201_d2 h_S_) main_v69 main_cst_13
  let main_v71 : FVec F S4x598x400x1 .f32 := broadcastInDim S4x598x400x1 ![0, 1, 2] bcast_S4x598x400_S4x598x400x1_0_1_2 main_v63
  let main_v72 : FVec F S400x201 .f32 := Host.sin main_v60
  let main_v73 : FVec F S400x201 .f32 := Host.negf main_v72
  let main_v74 : FVec F S1x1x400x201 .f32 := broadcastInDim S1x1x400x201 ![2, 3] bcast_S400x201_S1x1x400x201_2_3 main_v73
  let main_v75 : FVec F S4x598x400x201 .f32 := broadcastInDim S4x598x400x201 ![0, 1, 2, 3] bcast_S4x598x400x1_S4x598x400x201_0_1_2_3 main_v71
  let main_v76 : FVec F S4x598x400x201 .f32 := broadcastInDim S4x598x400x201 ![0, 1, 2, 3] bcast_S1x1x400x201_S4x598x400x201_0_1_2_3 main_v74
  let main_v77 : FVec F S4x598x400x201 .f32 := mulf main_v75 main_v76
  let main_cst_14 : FVec F S_ .f32 := constant S_ .f32 0x00000000#32
  let main_v78 : FVec F S4x598x201 .f32 := (fun x v => Host.reduceAdd x v reducesTo_S4x598x400x201_S4x598x201_d2 h_S_) main_v77 main_cst_14
  fn_part4 (F := F) main_arg2 main_arg3 main_v4 main_v14 main_v18 main_v22 main_v70 main_v78

def fn_part2 {F : FTy → Type} [FloatOps F] (main_arg2 : FVec F S80x201 .f32) (main_arg3 : FVec F S80x258 .f32) (main_v4 : IVec S4 1) (main_v14 : IVec S80x256 1) (main_v18 : IVec S80 1) (main_v22 : IVec S80 1) (main_v38 : FVec F S4x598x400 .f32) : IVec S_ 1 × IVec S_ 1 × IVec S_ 1 × IVec S_ 1 × IVec S_ 1 :=
  let main_v39 : IVec S400 32 := iotaInDim S400 32 0
  let main_v40 : FVec F S400 .f32 := sitofp .f32 main_v39
  let main_cst_7 : FVec F S_ .f32 := constant S_ .f32 0x40C90FDB#32
  let main_v41 : FVec F S400 .f32 := broadcastInDim S400 ![] bcast_S_S400 main_cst_7
  let main_v42 : FVec F S400 .f32 := mulf main_v41 main_v40
  let main_cst_8 : FVec F S_ .f32 := constant S_ .f32 0x43C78000#32
  let main_v43 : FVec F S400 .f32 := broadcastInDim S400 ![] bcast_S_S400 main_cst_8
  let main_v44 : FVec F S400 .f32 := Host.divf main_v42 main_v43
  let main_v45 : FVec F S400 .f32 := Host.cos main_v44
  let main_cst_9 : FVec F S_ .f32 := constant S_ .f32 0x3F000000#32
  let main_v46 : FVec F S400 .f32 := broadcastInDim S400 ![] bcast_S_S400 main_cst_9
  let main_v47 : FVec F S400 .f32 := mulf main_v46 main_v45
  let main_cst_10 : FVec F S_ .f32 := constant S_ .f32 0x3F000000#32
  let main_v48 : FVec F S400 .f32 := broadcastInDim S400 ![] bcast_S_S400 main_cst_10
  let main_v49 : FVec F S400 .f32 := subf main_v48 main_v47
  let main_v50 : IVec S201 32 := iotaInDim S201 32 0
  let main_v51 : IVec S400x1 32 := broadcastInDim S400x1 ![0] bcast_S400_S400x1_0 main_v39
  let main_v52 : IVec S1x201 32 := broadcastInDim S1x201 ![1] bcast_S201_S1x201_1 main_v50
  let main_v53 : IVec S400x201 32 := broadcastInDim S400x201 ![0, 1] bcast_S400x1_S400x201_0_1 main_v51
  let main_v54 : IVec S400x201 32 := broadcastInDim S400x201 ![0, 1] bcast_S1x201_S400x201_0_1 main_v52
  let main_v55 : IVec S400x201 32 := muli main_v53 main_v54
  let main_v56 : FVec F S400x201 .f32 := sitofp .f32 main_v55
  let main_cst_11 : FVec F S_ .f32 := constant S_ .f32 0x40C90FDB#32
  let main_v57 : FVec F S400x201 .f32 := broadcastInDim S400x201 ![] bcast_S_S400x201 main_cst_11
  fn_part3 (F := F) main_arg2 main_arg3 main_v4 main_v14 main_v18 main_v22 main_v38 main_v49 main_v56 main_v57

def fn_part1 {F : FTy → Type} [FloatOps F] (main_arg0 : FVec F S4x96000 .f32) (main_arg2 : FVec F S80x201 .f32) (main_arg3 : FVec F S80x258 .f32) (main_v4 : IVec S4 1) (main_v14 : IVec S80x256 1) (main_v18 : IVec S80 1) : IVec S_ 1 × IVec S_ 1 × IVec S_ 1 × IVec S_ 1 × IVec S_ 1 :=
  let main_v19 : FVec F S80x1 .f32 := (extractStridedSlice S80x1 ![0, 257] · slices_S80x258_S80x1_0_257) main_arg3
  let main_v20 : FVec F S80 .f32 := shapeCast S80 main_v19 shapeCasts_S80x1_S80
  let main_cst_3 : FVec F S_ .f32 := constant S_ .f32 0x40A00000#32
  let main_v21 : FVec F S80 .f32 := broadcastInDim S80 ![] bcast_S_S80 main_cst_3
  let main_v22 : IVec S80 1 := cmpf .oeq main_v20 main_v21
  let main_v23 : IVec S598 32 := iotaInDim S598 32 0
  let main_v24 : IVec S598x1 32 := broadcastInDim S598x1 ![0] bcast_S598_S598x1_0 main_v23
  let main_c_4 : IVec S_ 32 := constantI S_ 32 160#32
  let main_v25 : IVec S598x1 32 := broadcastInDim S598x1 ![] bcast_S_S598x1 main_c_4
  let main_v26 : IVec S598x1 32 := muli main_v24 main_v25
  let main_v27 : IVec S400 32 := iotaInDim S400 32 0
  let main_v28 : IVec S1x400 32 := broadcastInDim S1x400 ![1] bcast_S400_S1x400_1 main_v27
  let main_v29 : IVec S598x400 32 := broadcastInDim S598x400 ![0, 1] bcast_S598x1_S598x400_0_1 main_v26
  let main_v30 : IVec S598x400 32 := broadcastInDim S598x400 ![0, 1] bcast_S1x400_S598x400_0_1 main_v28
  let main_v31 : IVec S598x400 32 := addi main_v29 main_v30
  let main_c_5 : IVec S_ 32 := constantI S_ 32 0#32
  let main_v32 : IVec S598x400 32 := broadcastInDim S598x400 ![] bcast_S_S598x400 main_c_5
  let main_v33 : IVec S598x400 1 := cmpi .slt main_v31 main_v32
  let main_c_6 : IVec S_ 32 := constantI S_ 32 96000#32
  let main_v34 : IVec S598x400 32 := broadcastInDim S598x400 ![] bcast_S_S598x400 main_c_6
  let main_v35 : IVec S598x400 32 := addi main_v31 main_v34
  let main_v36 : IVec S598x400 32 := select main_v33 main_v35 main_v31
  let main_v37 : IVec S598x400x1 32 := broadcastInDim S598x400x1 ![0, 1] bcast_S598x400_S598x400x1_0_1 main_v36
  let main_v38 : FVec F S4x598x400 .f32 := (fun x i => Host.gather gather_S4x96000_S598x400x1_S4x598x400_0_1_n_n_1_2_41 x i) main_arg0 main_v37
  fn_part2 (F := F) main_arg2 main_arg3 main_v4 main_v14 main_v18 main_v22 main_v38

def fn {F : FTy → Type} [FloatOps F] (main_arg0 : FVec F S4x96000 .f32) (main_arg1 : IVec S4 32) (main_arg2 : FVec F S80x201 .f32) (main_arg3 : FVec F S80x258 .f32) : IVec S_ 1 × IVec S_ 1 × IVec S_ 1 × IVec S_ 1 × IVec S_ 1 :=
  let main_c : IVec S_ 32 := constantI S_ 32 400#32
  let main_v0 : IVec S4 32 := broadcastInDim S4 ![] bcast_S_S4 main_c
  let main_v1 : IVec S4 1 := cmpi .sge main_arg1 main_v0
  let main_c_0 : IVec S_ 32 := constantI S_ 32 96000#32
  let main_v2 : IVec S4 32 := broadcastInDim S4 ![] bcast_S_S4 main_c_0
  let main_v3 : IVec S4 1 := cmpi .sle main_arg1 main_v2
  let main_v4 : IVec S4 1 := andi main_v1 main_v3
  let main_v5 : IVec S256 32 := iotaInDim S256 32 0
  let main_v6 : FVec F S256 .f32 := sitofp .f32 main_v5
  let main_cst : FVec F S_ .f32 := constant S_ .f32 0x3D1096BC#32
  let main_v7 : FVec F S256 .f32 := broadcastInDim S256 ![] bcast_S_S256 main_cst
  let main_v8 : FVec F S256 .f32 := mulf main_v6 main_v7
  let main_v9 : FVec F S80x256 .f32 := (extractStridedSlice S80x256 ![0, 0] · slices_S80x258_S80x256_0_0) main_arg3
  let main_cst_1 : FVec F S_ .f32 := constant S_ .f32 0xC0E00000#32
  let main_v10 : FVec F S256 .f32 := broadcastInDim S256 ![] bcast_S_S256 main_cst_1
  let main_v11 : FVec F S256 .f32 := addf main_v8 main_v10
  let main_v12 : FVec F S1x256 .f32 := broadcastInDim S1x256 ![1] bcast_S256_S1x256_1 main_v11
  let main_v13 : FVec F S80x256 .f32 := broadcastInDim S80x256 ![0, 1] bcast_S1x256_S80x256_0_1 main_v12
  let main_v14 : IVec S80x256 1 := cmpf .oeq main_v9 main_v13
  let main_v15 : FVec F S80x1 .f32 := (extractStridedSlice S80x1 ![0, 256] · slices_S80x258_S80x1_0_256) main_arg3
  let main_v16 : FVec F S80 .f32 := shapeCast S80 main_v15 shapeCasts_S80x1_S80
  let main_cst_2 : FVec F S_ .f32 := constant S_ .f32 0x40800000#32
  let main_v17 : FVec F S80 .f32 := broadcastInDim S80 ![] bcast_S_S80 main_cst_2
  let main_v18 : IVec S80 1 := cmpf .oeq main_v16 main_v17
  fn_part1 (F := F) main_arg0 main_arg2 main_arg3 main_v4 main_v14 main_v18
-- ==== Kernel.lean ====
abbrev S4x96000 : Shape := ⟨2, ![4, 96000]⟩
abbrev S4 : Shape := ⟨1, ![4]⟩
abbrev S80x201 : Shape := ⟨2, ![80, 201]⟩
abbrev S80x258 : Shape := ⟨2, ![80, 258]⟩
abbrev S4x600x160 : Shape := ⟨3, ![4, 600, 160]⟩
abbrev S_ : Shape := ⟨0, ![]⟩
abbrev S256x80 : Shape := ⟨2, ![256, 80]⟩
abbrev S201x80 : Shape := ⟨2, ![201, 80]⟩
abbrev S1 : Shape := ⟨1, ![1]⟩
abbrev S400 : Shape := ⟨1, ![400]⟩
abbrev S400x1 : Shape := ⟨2, ![400, 1]⟩
abbrev S201 : Shape := ⟨1, ![201]⟩
abbrev S1x201 : Shape := ⟨2, ![1, 201]⟩
abbrev S400x201 : Shape := ⟨2, ![400, 201]⟩
abbrev S480x512 : Shape := ⟨2, ![480, 512]⟩
abbrev S2 : Shape := ⟨1, ![2]⟩
abbrev S2400x160 : Shape := ⟨2, ![2400, 160]⟩
abbrev S2400x80 : Shape := ⟨2, ![2400, 80]⟩
abbrev S1x160 : Shape := ⟨2, ![1, 160]⟩
abbrev S2399x160 : Shape := ⟨2, ![2399, 160]⟩
abbrev S160x512 : Shape := ⟨2, ![160, 512]⟩
abbrev S2400x512 : Shape := ⟨2, ![2400, 512]⟩
abbrev S2400x256 : Shape := ⟨2, ![2400, 256]⟩
abbrev S32 : Shape := ⟨1, ![32]⟩
abbrev S32x1 : Shape := ⟨2, ![32, 1]⟩
abbrev S32x16 : Shape := ⟨2, ![32, 16]⟩
abbrev S192000 : Shape := ⟨1, ![192000]⟩
abbrev S6000 : Shape := ⟨1, ![6000]⟩
abbrev S16 : Shape := ⟨1, ![16]⟩
abbrev S1x16 : Shape := ⟨2, ![1, 16]⟩
abbrev S4x600x80 : Shape := ⟨3, ![4, 600, 80]⟩

abbrev nBuf : Table → Nat
  | .hbm => 122
  | .local .tc .vmem => 4
  | .local .scVector .vmem => 3
  | _ => 0

abbrev bufTy : (tb : Table) → Fin (nBuf tb) → BufTy
  | .hbm, ⟨0, _⟩ => ⟨S4x96000, .f32⟩
  | .hbm, ⟨1, _⟩ => ⟨S4, .i32⟩
  | .hbm, ⟨2, _⟩ => ⟨S80x201, .f32⟩
  | .hbm, ⟨3, _⟩ => ⟨S80x258, .f32⟩
  | .hbm, ⟨4, _⟩ => ⟨S4x600x160, .f32⟩
  | .hbm, ⟨5, _⟩ => ⟨S_, .i32⟩
  | .hbm, ⟨6, _⟩ => ⟨S4, .i32⟩
  | .hbm, ⟨7, _⟩ => ⟨S4, .i32⟩
  | .hbm, ⟨8, _⟩ => ⟨S_, .i32⟩
  | .hbm, ⟨9, _⟩ => ⟨S_, .i32⟩
  | .hbm, ⟨10, _⟩ => ⟨S4, .i32⟩
  | .hbm, ⟨11, _⟩ => ⟨S4, .i32⟩
  | .hbm, ⟨12, _⟩ => ⟨S4, .i32⟩
  | .hbm, ⟨13, _⟩ => ⟨S_, .i32⟩
  | .hbm, ⟨14, _⟩ => ⟨S4, .i32⟩
  | .hbm, ⟨15, _⟩ => ⟨S4, .i1⟩
  | .hbm, ⟨16, _⟩ => ⟨S4, .i32⟩
  | .hbm, ⟨17, _⟩ => ⟨S4, .i32⟩
  | .hbm, ⟨18, _⟩ => ⟨S_, .i32⟩
  | .hbm, ⟨19, _⟩ => ⟨S4, .i32⟩
  | .hbm, ⟨20, _⟩ => ⟨S4, .i1⟩
  | .hbm, ⟨21, _⟩ => ⟨S4, .i1⟩
  | .hbm, ⟨22, _⟩ => ⟨S_, .i32⟩
  | .hbm, ⟨23, _⟩ => ⟨S4, .i32⟩
  | .hbm, ⟨24, _⟩ => ⟨S4, .i32⟩
  | .hbm, ⟨25, _⟩ => ⟨S4, .i32⟩
  | .hbm, ⟨26, _⟩ => ⟨S_, .i32⟩
  | .hbm, ⟨27, _⟩ => ⟨S4, .i32⟩
  | .hbm, ⟨28, _⟩ => ⟨S4, .i32⟩
  | .hbm, ⟨29, _⟩ => ⟨S_, .f32⟩
  | .hbm, ⟨30, _⟩ => ⟨S256x80, .f32⟩
  | .hbm, ⟨31, _⟩ => ⟨S201x80, .f32⟩
  | .hbm, ⟨32, _⟩ => ⟨S_, .i32⟩
  | .hbm, ⟨33, _⟩ => ⟨S1, .i32⟩
  | .hbm, ⟨34, _⟩ => ⟨S256x80, .f32⟩
  | .hbm, ⟨35, _⟩ => ⟨S400, .i32⟩
  | .hbm, ⟨36, _⟩ => ⟨S400x1, .i32⟩
  | .hbm, ⟨37, _⟩ => ⟨S201, .i32⟩
  | .hbm, ⟨38, _⟩ => ⟨S1x201, .i32⟩
  | .hbm, ⟨39, _⟩ => ⟨S400x201, .i32⟩
  | .hbm, ⟨40, _⟩ => ⟨S400x201, .i32⟩
  | .hbm, ⟨41, _⟩ => ⟨S400x201, .i32⟩
  | .hbm, ⟨42, _⟩ => ⟨S400x201, .f32⟩
  | .hbm, ⟨43, _⟩ => ⟨S_, .f32⟩
  | .hbm, ⟨44, _⟩ => ⟨S400x201, .f32⟩
  | .hbm, ⟨45, _⟩ => ⟨S400x201, .f32⟩
  | .hbm, ⟨46, _⟩ => ⟨S_, .f32⟩
  | .hbm, ⟨47, _⟩ => ⟨S400x201, .f32⟩
  | .hbm, ⟨48, _⟩ => ⟨S400x201, .f32⟩
  | .hbm, ⟨49, _⟩ => ⟨S400x1, .f32⟩
  | .hbm, ⟨50, _⟩ => ⟨S_, .f32⟩
  | .hbm, ⟨51, _⟩ => ⟨S400x1, .f32⟩
  | .hbm, ⟨52, _⟩ => ⟨S400x1, .f32⟩
  | .hbm, ⟨53, _⟩ => ⟨S_, .f32⟩
  | .hbm, ⟨54, _⟩ => ⟨S400x1, .f32⟩
  | .hbm, ⟨55, _⟩ => ⟨S400x1, .f32⟩
  | .hbm, ⟨56, _⟩ => ⟨S400x1, .f32⟩
  | .hbm, ⟨57, _⟩ => ⟨S_, .f32⟩
  | .hbm, ⟨58, _⟩ => ⟨S400x1, .f32⟩
  | .hbm, ⟨59, _⟩ => ⟨S400x1, .f32⟩
  | .hbm, ⟨60, _⟩ => ⟨S_, .f32⟩
  | .hbm, ⟨61, _⟩ => ⟨S400x1, .f32⟩
  | .hbm, ⟨62, _⟩ => ⟨S400x1, .f32⟩
  | .hbm, ⟨63, _⟩ => ⟨S400x201, .f32⟩
  | .hbm, ⟨64, _⟩ => ⟨S400x201, .f32⟩
  | .hbm, ⟨65, _⟩ => ⟨S400x201, .f32⟩
  | .hbm, ⟨66, _⟩ => ⟨S400x201, .f32⟩
  | .hbm, ⟨67, _⟩ => ⟨S400x201, .f32⟩
  | .hbm, ⟨68, _⟩ => ⟨S400x201, .f32⟩
  | .hbm, ⟨69, _⟩ => ⟨S400x201, .f32⟩
  | .hbm, ⟨70, _⟩ => ⟨S_, .f32⟩
  | .hbm, ⟨71, _⟩ => ⟨S480x512, .f32⟩
  | .hbm, ⟨72, _⟩ => ⟨S_, .i32⟩
  | .hbm, ⟨73, _⟩ => ⟨S1, .i32⟩
  | .hbm, ⟨74, _⟩ => ⟨S_, .i32⟩
  | .hbm, ⟨75, _⟩ => ⟨S1, .i32⟩
  | .hbm, ⟨76, _⟩ => ⟨S2, .i32⟩
  | .hbm, ⟨77, _⟩ => ⟨S480x512, .f32⟩
  | .hbm, ⟨78, _⟩ => ⟨S_, .i32⟩
  | .hbm, ⟨79, _⟩ => ⟨S1, .i32⟩
  | .hbm, ⟨80, _⟩ => ⟨S_, .i32⟩
  | .hbm, ⟨81, _⟩ => ⟨S1, .i32⟩
  | .hbm, ⟨82, _⟩ => ⟨S2, .i32⟩
  | .hbm, ⟨83, _⟩ => ⟨S480x512, .f32⟩
  | .hbm, ⟨84, _⟩ => ⟨S2400x160, .f32⟩
  | .hbm, ⟨85, _⟩ => ⟨S2400x80, .f32⟩
  | .hbm, ⟨86, _⟩ => ⟨S32, .i32⟩
  | .hbm, ⟨87, _⟩ => ⟨S_, .i32⟩
  | .hbm, ⟨88, _⟩ => ⟨S_, .i32⟩
  | .hbm, ⟨89, _⟩ => ⟨S32, .i32⟩
  | .hbm, ⟨90, _⟩ => ⟨S32, .i32⟩
  | .hbm, ⟨91, _⟩ => ⟨S32, .i32⟩
  | .hbm, ⟨92, _⟩ => ⟨S_, .i32⟩
  | .hbm, ⟨93, _⟩ => ⟨S32, .i32⟩
  | .hbm, ⟨94, _⟩ => ⟨S32, .i1⟩
  | .hbm, ⟨95, _⟩ => ⟨S32, .i32⟩
  | .hbm, ⟨96, _⟩ => ⟨S32, .i32⟩
  | .hbm, ⟨97, _⟩ => ⟨S_, .i32⟩
  | .hbm, ⟨98, _⟩ => ⟨S32, .i32⟩
  | .hbm, ⟨99, _⟩ => ⟨S32, .i1⟩
  | .hbm, ⟨100, _⟩ => ⟨S32, .i1⟩
  | .hbm, ⟨101, _⟩ => ⟨S_, .i32⟩
  | .hbm, ⟨102, _⟩ => ⟨S32, .i32⟩
  | .hbm, ⟨103, _⟩ => ⟨S32, .i32⟩
  | .hbm, ⟨104, _⟩ => ⟨S32, .i32⟩
  | .hbm, ⟨105, _⟩ => ⟨S_, .i32⟩
  | .hbm, ⟨106, _⟩ => ⟨S32, .i32⟩
  | .hbm, ⟨107, _⟩ => ⟨S32, .i1⟩
  | .hbm, ⟨108, _⟩ => ⟨S_, .i32⟩
  | .hbm, ⟨109, _⟩ => ⟨S32, .i32⟩
  | .hbm, ⟨110, _⟩ => ⟨S32, .i32⟩
  | .hbm, ⟨111, _⟩ => ⟨S32, .i32⟩
  | .hbm, ⟨112, _⟩ => ⟨S32x1, .i32⟩
  | .hbm, ⟨113, _⟩ => ⟨S32, .i32⟩
  | .hbm, ⟨114, _⟩ => ⟨S32x1, .i32⟩
  | .hbm, ⟨115, _⟩ => ⟨S32x16, .i32⟩
  | .hbm, ⟨116, _⟩ => ⟨S192000, .f32⟩
  | .hbm, ⟨117, _⟩ => ⟨S192000, .i32⟩
  | .hbm, ⟨118, _⟩ => ⟨S4x600x80, .i32⟩
  | .hbm, ⟨119, _⟩ => ⟨S_, .i32⟩
  | .hbm, ⟨120, _⟩ => ⟨S4, .i32⟩
  | .hbm, ⟨121, _⟩ => ⟨S4, .i32⟩
  | .local .tc .vmem, ⟨0, _⟩ => ⟨S2400x160, .f32⟩
  | .local .tc .vmem, ⟨1, _⟩ => ⟨S480x512, .f32⟩
  | .local .tc .vmem, ⟨2, _⟩ => ⟨S256x80, .f32⟩
  | .local .tc .vmem, ⟨3, _⟩ => ⟨S2400x80, .f32⟩
  | .local .scVector .vmem, ⟨0, _⟩ => ⟨S6000, .f32⟩
  | .local .scVector .vmem, ⟨1, _⟩ => ⟨S6000, .i32⟩
  | .local .scVector .vmem, ⟨2, _⟩ => ⟨S16, .i32⟩
  | _, _ => ⟨S4x96000, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => true
  | ⟨1, _⟩ => true
  | ⟨2, _⟩ => true
  | ⟨3, _⟩ => true
  | ⟨4, _⟩ => false
  | ⟨5, _⟩ => false
  | ⟨6, _⟩ => false
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_c_1 : Ref sig .tc := ⟨.hbm, 26, rfl⟩
abbrev main_v4 : Ref sig .tc := ⟨.hbm, 27, rfl⟩
abbrev main_v5 : Ref sig .tc := ⟨.hbm, 28, rfl⟩
abbrev main_cst : Ref sig .tc := ⟨.hbm, 29, rfl⟩
abbrev main_v6 : Ref sig .tc := ⟨.hbm, 30, rfl⟩
abbrev main_v7 : Ref sig .tc := ⟨.hbm, 31, rfl⟩
abbrev main_c_2 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_cst_3 : Ref sig .tc := ⟨.hbm, 43, rfl⟩
abbrev main_v18 : Ref sig .tc := ⟨.hbm, 44, rfl⟩
abbrev main_v19 : Ref sig .tc := ⟨.hbm, 45, rfl⟩
abbrev main_cst_4 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_cst_5 : Ref sig .tc := ⟨.hbm, 50, rfl⟩
abbrev main_v23 : Ref sig .tc := ⟨.hbm, 51, rfl⟩
abbrev main_v24 : Ref sig .tc := ⟨.hbm, 52, rfl⟩
abbrev main_cst_6 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_cst_7 : Ref sig .tc := ⟨.hbm, 57, rfl⟩
abbrev main_v28 : Ref sig .tc := ⟨.hbm, 58, rfl⟩
abbrev main_v29 : Ref sig .tc := ⟨.hbm, 59, rfl⟩
abbrev main_cst_8 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_cst_9 : Ref sig .tc := ⟨.hbm, 70, rfl⟩
abbrev main_v39 : Ref sig .tc := ⟨.hbm, 71, rfl⟩
abbrev main_c_10 : Ref sig .tc := ⟨.hbm, 72, rfl⟩
abbrev main_v40 : Ref sig .tc := ⟨.hbm, 73, rfl⟩
abbrev main_c_11 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_c_12 : Ref sig .tc := ⟨.hbm, 78, rfl⟩
abbrev main_v44 : Ref sig .tc := ⟨.hbm, 79, rfl⟩
abbrev main_c_13 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_c_14 : Ref sig .tc := ⟨.hbm, 87, rfl⟩
abbrev main_call1_v0 : Ref sig .tc := ⟨.hbm, 88, rfl⟩
abbrev main_call1_v1 : Ref sig .tc := ⟨.hbm, 89, rfl⟩
abbrev main_call1_v2 : Ref sig .tc := ⟨.hbm, 90, rfl⟩
abbrev main_call1_v3 : Ref sig .tc := ⟨.hbm, 91, rfl⟩
abbrev main_call1_v4 : Ref sig .tc := ⟨.hbm, 92, rfl⟩
abbrev main_call1_v5 : Ref sig .tc := ⟨.hbm, 93, rfl⟩
abbrev main_call1_v6 : Ref sig .tc := ⟨.hbm, 94, rfl⟩
abbrev main_call1_v7 : Ref sig .tc := ⟨.hbm, 95, rfl⟩
abbrev main_call1_v8 : Ref sig .tc := ⟨.hbm, 96, rfl⟩
abbrev main_call1_c : Ref sig .tc := ⟨.hbm, 97, rfl⟩
abbrev main_call1_v9 : Ref sig .tc := ⟨.hbm, 98, rfl⟩
abbrev main_call1_v10 : Ref sig .tc := ⟨.hbm, 99, rfl⟩
abbrev main_call1_v11 : Ref sig .tc := ⟨.hbm, 100, rfl⟩
abbrev main_call1_c_0 : Ref sig .tc := ⟨.hbm, 101, rfl⟩
abbrev main_call1_v12 : Ref sig .tc := ⟨.hbm, 102, rfl⟩
abbrev main_call1_v13 : Ref sig .tc := ⟨.hbm, 103, rfl⟩
abbrev main_v51 : Ref sig .tc := ⟨.hbm, 104, rfl⟩
abbrev main_c_15 : Ref sig .tc := ⟨.hbm, 105, rfl⟩
abbrev main_v52 : Ref sig .tc := ⟨.hbm, 106, rfl⟩
abbrev main_v53 : Ref sig .tc := ⟨.hbm, 107, rfl⟩
abbrev main_c_16 : Ref sig .tc := ⟨.hbm, 108, rfl⟩
abbrev main_v54 : Ref sig .tc := ⟨.hbm, 109, rfl⟩
abbrev main_v55 : Ref sig .tc := ⟨.hbm, 110, rfl⟩
abbrev main_v56 : Ref sig .tc := ⟨.hbm, 111, rfl⟩
abbrev main_v57 : Ref sig .tc := ⟨.hbm, 112, rfl⟩
abbrev main_v58 : Ref sig .tc := ⟨.hbm, 113, rfl⟩
abbrev main_v59 : Ref sig .tc := ⟨.hbm, 114, rfl⟩
abbrev main_v60 : Ref sig .tc := ⟨.hbm, 115, rfl⟩
abbrev main_v61 : Ref sig .tc := ⟨.hbm, 116, rfl⟩
abbrev main_v62 : Ref sig .tc := ⟨.hbm, 117, rfl⟩
abbrev main_v63 : Ref sig .tc := ⟨.hbm, 118, rfl⟩
abbrev main_c_17 : Ref sig .tc := ⟨.hbm, 119, rfl⟩
abbrev main_v64 : Ref sig .tc := ⟨.hbm, 120, rfl⟩
abbrev main_v65 : Ref sig .tc := ⟨.hbm, 121, rfl⟩
abbrev main_v61_scv : Ref sig .scVector := ⟨.hbm, 116, rfl⟩
abbrev main_v60_scv : Ref sig .scVector := ⟨.hbm, 115, rfl⟩
abbrev main_v62_scv : Ref sig .scVector := ⟨.hbm, 117, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc0_sem0_0 : DmaSem sig := 0
abbrev cc0_sem1_0 : DmaSem sig := 1
abbrev cc0_sem2_0 : DmaSem sig := 2
abbrev cc0_sem3_0 : DmaSem sig := 3
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

abbrev stage0_0 : Fin 1 → Memref sig .tc .vmem S2400x160 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S480x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x80 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2400x80 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := ⟨2, ![2, 16], ![false, false]⟩

def k1_off1 (i : grid1.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c6000_i32 : BitVec 32 := 6000#32
  let v2 : BitVec 32 := Scalar.muli v1 c6000_i32
  ![v2.toNat]
def k1_off2 (i : grid1.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_10_r1 : BitVec 32 := 0#32
  ![v1.toNat, 0]
@[reducible] def k1_t1_loop : Scf.Loop 32 :=
  let c0_i32_6 : BitVec 32 := 0#32
  let c75_i32_7 : BitVec 32 := 75#32
  let v18 : BitVec 32 := Scalar.addi c0_i32_6 c75_i32_7
  let c1_i32_8 : BitVec 32 := 1#32
  ⟨c0_i32_6, v18, c1_i32_8⟩
def k1_off3 (k1_t1 : Fin k1_t1_loop.trips) (c0_i32_11 : BitVec 32) : Fin 1 → Nat :=
  let c0_i32_6 : BitVec 32 := 0#32
  let c1_i32_8 : BitVec 32 := 1#32
  let arg8 : BitVec 32 := Scf.iv c0_i32_6 c1_i32_8 k1_t1
  let c80_i32 : BitVec 32 := 80#32
  let v41 : BitVec 32 := Scalar.muli arg8 c80_i32
  let v42 : BitVec 32 := Scalar.addi v41 c0_i32_11
  let v43 : Index := Scalar.indexCast v42
  ![v43.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "inv_step" => some ((67108864 / 2368943 : ℝ) : EReal)
  | _ => none
-- ==== ReferenceIdeal.lean ====
abbrev S4x96000 : Shape := ⟨2, ![4, 96000]⟩
abbrev S4 : Shape := ⟨1, ![4]⟩
abbrev S80x201 : Shape := ⟨2, ![80, 201]⟩
abbrev S80x258 : Shape := ⟨2, ![80, 258]⟩
abbrev S598 : Shape := ⟨1, ![598]⟩
abbrev S598x1 : Shape := ⟨2, ![598, 1]⟩
abbrev S_ : Shape := ⟨0, ![]⟩
abbrev S400 : Shape := ⟨1, ![400]⟩
abbrev S1x400 : Shape := ⟨2, ![1, 400]⟩
abbrev S598x400 : Shape := ⟨2, ![598, 400]⟩
abbrev S598x400x1 : Shape := ⟨3, ![598, 400, 1]⟩
abbrev S4x598x400 : Shape := ⟨3, ![4, 598, 400]⟩
abbrev S201 : Shape := ⟨1, ![201]⟩
abbrev S400x1 : Shape := ⟨2, ![400, 1]⟩
abbrev S1x201 : Shape := ⟨2, ![1, 201]⟩
abbrev S400x201 : Shape := ⟨2, ![400, 201]⟩
abbrev S1x1x400 : Shape := ⟨3, ![1, 1, 400]⟩
abbrev S4x598x400x1 : Shape := ⟨4, ![4, 598, 400, 1]⟩
abbrev S1x1x400x201 : Shape := ⟨4, ![1, 1, 400, 201]⟩
abbrev S4x598x400x201 : Shape := ⟨4, ![4, 598, 400, 201]⟩
abbrev S4x598x201 : Shape := ⟨3, ![4, 598, 201]⟩
abbrev S201x80 : Shape := ⟨2, ![201, 80]⟩
abbrev S4x598x80 : Shape := ⟨3, ![4, 598, 80]⟩
abbrev S4x598x80x1 : Shape := ⟨4, ![4, 598, 80, 1]⟩
abbrev S1x1x80x258 : Shape := ⟨4, ![1, 1, 80, 258]⟩
abbrev S4x598x80x258 : Shape := ⟨4, ![4, 598, 80, 258]⟩
abbrev S4x600x80 : Shape := ⟨3, ![4, 600, 80]⟩
abbrev S1 : Shape := ⟨1, ![1]⟩
abbrev S4x80 : Shape := ⟨2, ![4, 80]⟩
abbrev S1x598x1 : Shape := ⟨3, ![1, 598, 1]⟩
abbrev S4x1x1 : Shape := ⟨3, ![4, 1, 1]⟩
abbrev S4x598x1 : Shape := ⟨3, ![4, 598, 1]⟩
abbrev S4x1 : Shape := ⟨2, ![4, 1]⟩
abbrev S4x2 : Shape := ⟨2, ![4, 2]⟩

abbrev nBuf : Space → Nat
  | .hbm => 181
  | .vmem => 0
  | .smem => 0
  | _ => 0

abbrev hbmTy0_0 (i : Nat) : BufTy := match i % 128 with
  | 0 => ⟨S4x96000, .f32⟩
  | 1 => ⟨S4, .i32⟩
  | 2 => ⟨S80x201, .f32⟩
  | 3 => ⟨S80x258, .f32⟩
  | 4 => ⟨S598, .i32⟩
  | 5 => ⟨S598x1, .i32⟩
  | 6 => ⟨S_, .i32⟩
  | 7 => ⟨S598x1, .i32⟩
  | 8 => ⟨S598x1, .i32⟩
  | 9 => ⟨S400, .i32⟩
  | 10 => ⟨S1x400, .i32⟩
  | 11 => ⟨S598x400, .i32⟩
  | 12 => ⟨S598x400, .i32⟩
  | 13 => ⟨S598x400, .i32⟩
  | 14 => ⟨S_, .i32⟩
  | 15 => ⟨S598x400, .i32⟩
  | 16 => ⟨S598x400, .i1⟩
  | 17 => ⟨S_, .i32⟩
  | 18 => ⟨S598x400, .i32⟩
  | 19 => ⟨S598x400, .i32⟩
  | 20 => ⟨S598x400, .i32⟩
  | 21 => ⟨S598x400x1, .i32⟩
  | 22 => ⟨S4x598x400, .f32⟩
  | 23 => ⟨S400, .i32⟩
  | 24 => ⟨S400, .f32⟩
  | 25 => ⟨S_, .f32⟩
  | 26 => ⟨S400, .f32⟩
  | 27 => ⟨S400, .f32⟩
  | 28 => ⟨S_, .f32⟩
  | 29 => ⟨S400, .f32⟩
  | 30 => ⟨S400, .f32⟩
  | 31 => ⟨S400, .f32⟩
  | 32 => ⟨S_, .f32⟩
  | 33 => ⟨S400, .f32⟩
  | 34 => ⟨S400, .f32⟩
  | 35 => ⟨S_, .f32⟩
  | 36 => ⟨S400, .f32⟩
  | 37 => ⟨S400, .f32⟩
  | 38 => ⟨S201, .i32⟩
  | 39 => ⟨S400x1, .i32⟩
  | 40 => ⟨S1x201, .i32⟩
  | 41 => ⟨S400x201, .i32⟩
  | 42 => ⟨S400x201, .i32⟩
  | 43 => ⟨S400x201, .i32⟩
  | 44 => ⟨S400x201, .f32⟩
  | 45 => ⟨S_, .f32⟩
  | 46 => ⟨S400x201, .f32⟩
  | 47 => ⟨S400x201, .f32⟩
  | 48 => ⟨S_, .f32⟩
  | 49 => ⟨S400x201, .f32⟩
  | 50 => ⟨S400x201, .f32⟩
  | 51 => ⟨S1x1x400, .f32⟩
  | 52 => ⟨S4x598x400, .f32⟩
  | 53 => ⟨S4x598x400, .f32⟩
  | 54 => ⟨S4x598x400x1, .f32⟩
  | 55 => ⟨S400x201, .f32⟩
  | 56 => ⟨S1x1x400x201, .f32⟩
  | 57 => ⟨S4x598x400x201, .f32⟩
  | 58 => ⟨S4x598x400x201, .f32⟩
  | 59 => ⟨S4x598x400x201, .f32⟩
  | 60 => ⟨S_, .f32⟩
  | 61 => ⟨S4x598x201, .f32⟩
  | 62 => ⟨S4x598x400x1, .f32⟩
  | 63 => ⟨S400x201, .f32⟩
  | 64 => ⟨S400x201, .f32⟩
  | 65 => ⟨S1x1x400x201, .f32⟩
  | 66 => ⟨S4x598x400x201, .f32⟩
  | 67 => ⟨S4x598x400x201, .f32⟩
  | 68 => ⟨S4x598x400x201, .f32⟩
  | 69 => ⟨S_, .f32⟩
  | 70 => ⟨S4x598x201, .f32⟩
  | 71 => ⟨S4x598x201, .f32⟩
  | 72 => ⟨S4x598x201, .f32⟩
  | 73 => ⟨S4x598x201, .f32⟩
  | 74 => ⟨S201x80, .f32⟩
  | 75 => ⟨S4x598x80, .f32⟩
  | 76 => ⟨S_, .f32⟩
  | 77 => ⟨S4x598x80, .f32⟩
  | 78 => ⟨S4x598x80, .f32⟩
  | 79 => ⟨S4x598x80, .f32⟩
  | 80 => ⟨S_, .i32⟩
  | 81 => ⟨S4, .i32⟩
  | 82 => ⟨S4, .i32⟩
  | 83 => ⟨S_, .i32⟩
  | 84 => ⟨S_, .i32⟩
  | 85 => ⟨S4, .i32⟩
  | 86 => ⟨S4, .i32⟩
  | 87 => ⟨S4, .i32⟩
  | 88 => ⟨S_, .i32⟩
  | 89 => ⟨S4, .i32⟩
  | 90 => ⟨S4, .i1⟩
  | 91 => ⟨S4, .i32⟩
  | 92 => ⟨S4, .i32⟩
  | 93 => ⟨S_, .i32⟩
  | 94 => ⟨S4, .i32⟩
  | 95 => ⟨S4, .i1⟩
  | 96 => ⟨S4, .i1⟩
  | 97 => ⟨S_, .i32⟩
  | 98 => ⟨S4, .i32⟩
  | 99 => ⟨S4, .i32⟩
  | 100 => ⟨S4, .i32⟩
  | 101 => ⟨S_, .i32⟩
  | 102 => ⟨S4, .i32⟩
  | 103 => ⟨S4, .i32⟩
  | 104 => ⟨S_, .f32⟩
  | 105 => ⟨S4x598x80, .f32⟩
  | 106 => ⟨S4x598x80, .i1⟩
  | 107 => ⟨S_, .f32⟩
  | 108 => ⟨S_, .f32⟩
  | 109 => ⟨S4x598x80, .f32⟩
  | 110 => ⟨S4x598x80, .f32⟩
  | 111 => ⟨S_, .f32⟩
  | 112 => ⟨S4x598x80, .f32⟩
  | 113 => ⟨S4x598x80, .i1⟩
  | 114 => ⟨S_, .f32⟩
  | 115 => ⟨S4x598x80, .f32⟩
  | 116 => ⟨S4x598x80, .i1⟩
  | 117 => ⟨S4x598x80, .i1⟩
  | 118 => ⟨S_, .f32⟩
  | 119 => ⟨S_, .f32⟩
  | 120 => ⟨S4x598x80, .f32⟩
  | 121 => ⟨S4x598x80, .f32⟩
  | 122 => ⟨S4x598x80x1, .f32⟩
  | 123 => ⟨S1x1x80x258, .f32⟩
  | 124 => ⟨S4x598x80x258, .f32⟩
  | 125 => ⟨S4x598x80x258, .f32⟩
  | 126 => ⟨S4x598x80x258, .f32⟩
  | 127 => ⟨S4x598x80x258, .f32⟩
  | _ => ⟨S4x96000, .f32⟩

abbrev hbmTy0_1 (i : Nat) : BufTy := match i % 128 with
  | 0 => ⟨S4x598x80x258, .i32⟩
  | 1 => ⟨S_, .f32⟩
  | 2 => ⟨S_, .i32⟩
  | 3 => ⟨S4x598x80, .f32⟩
  | 4 => ⟨S4x598x80, .i32⟩
  | 5 => ⟨S_, .i32⟩
  | 6 => ⟨S4x600x80, .i32⟩
  | 7 => ⟨S_, .i32⟩
  | 8 => ⟨S1, .i32⟩
  | 9 => ⟨S_, .i32⟩
  | 10 => ⟨S4x80, .i32⟩
  | 11 => ⟨S4x600x80, .i32⟩
  | 12 => ⟨S598, .i32⟩
  | 13 => ⟨S1x598x1, .i32⟩
  | 14 => ⟨S4x1x1, .i32⟩
  | 15 => ⟨S4x598x1, .i32⟩
  | 16 => ⟨S4x598x1, .i32⟩
  | 17 => ⟨S4x598x1, .i1⟩
  | 18 => ⟨S_, .i32⟩
  | 19 => ⟨S_, .i32⟩
  | 20 => ⟨S4x598x80, .i1⟩
  | 21 => ⟨S4x598x80, .i32⟩
  | 22 => ⟨S4x598x80, .i32⟩
  | 23 => ⟨S_, .i32⟩
  | 24 => ⟨S1, .i32⟩
  | 25 => ⟨S4x600x80, .i32⟩
  | 26 => ⟨S4, .i32⟩
  | 27 => ⟨S_, .i32⟩
  | 28 => ⟨S4, .i32⟩
  | 29 => ⟨S4, .i32⟩
  | 30 => ⟨S_, .i32⟩
  | 31 => ⟨S4, .i32⟩
  | 32 => ⟨S4, .i1⟩
  | 33 => ⟨S_, .i32⟩
  | 34 => ⟨S4, .i32⟩
  | 35 => ⟨S4, .i32⟩
  | 36 => ⟨S4, .i32⟩
  | 37 => ⟨S_, .i32⟩
  | 38 => ⟨S4, .i32⟩
  | 39 => ⟨S4, .i1⟩
  | 40 => ⟨S_, .i32⟩
  | 41 => ⟨S4, .i32⟩
  | 42 => ⟨S4, .i32⟩
  | 43 => ⟨S4, .i32⟩
  | 44 => ⟨S4x1, .i32⟩
  | 45 => ⟨S4x1, .i32⟩
  | 46 => ⟨S4x2, .i32⟩
  | 47 => ⟨S_, .i32⟩
  | 48 => ⟨S4x80, .i32⟩
  | 49 => ⟨S4x600x80, .i32⟩
  | 50 => ⟨S_, .i32⟩
  | 51 => ⟨S4, .i32⟩
  | 52 => ⟨S4, .i32⟩
  | _ => ⟨S4x96000, .f32⟩

abbrev hbmTy (i : Nat) : BufTy := match i / 128 with
  | 0 => hbmTy0_0 i
  | 1 => hbmTy0_1 i
  | _ => ⟨S4x96000, .f32⟩

abbrev bufTy : (tb : Table) → Fin (tcTables nBuf tb) → BufTy
  | .hbm, ⟨i, _⟩ => hbmTy i
  | _, _ => ⟨S4x96000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_5 : Ref sig .tc := ⟨.hbm, 45, rfl⟩
abbrev main_v34 : Ref sig .tc := ⟨.hbm, 46, rfl⟩
abbrev main_v35 : Ref sig .tc := ⟨.hbm, 47, rfl⟩
abbrev main_cst_6 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_7 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_8 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_cst_9 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_c_10 : Ref sig .tc := ⟨.hbm, 80, rfl⟩
abbrev main_v64 : Ref sig .tc := ⟨.hbm, 81, rfl⟩
abbrev main_v65 : Ref sig .tc := ⟨.hbm, 82, rfl⟩
abbrev main_c_11 : Ref sig .tc := ⟨.hbm, 83, rfl⟩
abbrev main_call0_v0 : Ref sig .tc := ⟨.hbm, 84, rfl⟩
abbrev main_call0_v1 : Ref sig .tc := ⟨.hbm, 85, rfl⟩
abbrev main_call0_v2 : Ref sig .tc := ⟨.hbm, 86, rfl⟩
abbrev main_call0_v3 : Ref sig .tc := ⟨.hbm, 87, rfl⟩
abbrev main_call0_v4 : Ref sig .tc := ⟨.hbm, 88, rfl⟩
abbrev main_call0_v5 : Ref sig .tc := ⟨.hbm, 89, rfl⟩
abbrev main_call0_v6 : Ref sig .tc := ⟨.hbm, 90, rfl⟩
abbrev main_call0_v7 : Ref sig .tc := ⟨.hbm, 91, rfl⟩
abbrev main_call0_v8 : Ref sig .tc := ⟨.hbm, 92, rfl⟩
abbrev main_call0_c : Ref sig .tc := ⟨.hbm, 93, rfl⟩
abbrev main_call0_v9 : Ref sig .tc := ⟨.hbm, 94, rfl⟩
abbrev main_call0_v10 : Ref sig .tc := ⟨.hbm, 95, rfl⟩
abbrev main_call0_v11 : Ref sig .tc := ⟨.hbm, 96, rfl⟩
abbrev main_call0_c_0 : Ref sig .tc := ⟨.hbm, 97, rfl⟩
abbrev main_call0_v12 : Ref sig .tc := ⟨.hbm, 98, rfl⟩
abbrev main_call0_v13 : Ref sig .tc := ⟨.hbm, 99, rfl⟩
abbrev main_v66 : Ref sig .tc := ⟨.hbm, 100, rfl⟩
abbrev main_c_12 : Ref sig .tc := ⟨.hbm, 101, rfl⟩
abbrev main_v67 : Ref sig .tc := ⟨.hbm, 102, rfl⟩
abbrev main_v68 : Ref sig .tc := ⟨.hbm, 103, rfl⟩
abbrev main_cst_13 : Ref sig .tc := ⟨.hbm, 104, rfl⟩
abbrev main_v69 : Ref sig .tc := ⟨.hbm, 105, rfl⟩
abbrev main_v70 : Ref sig .tc := ⟨.hbm, 106, rfl⟩
abbrev main_cst_14 : Ref sig .tc := ⟨.hbm, 107, rfl⟩
abbrev main_call1_v0 : Ref sig .tc := ⟨.hbm, 108, rfl⟩
abbrev main_call1_v1 : Ref sig .tc := ⟨.hbm, 109, rfl⟩
abbrev main_v71 : Ref sig .tc := ⟨.hbm, 110, rfl⟩
abbrev main_cst_15 : Ref sig .tc := ⟨.hbm, 111, rfl⟩
abbrev main_v72 : Ref sig .tc := ⟨.hbm, 112, rfl⟩
abbrev main_v73 : Ref sig .tc := ⟨.hbm, 113, rfl⟩
abbrev main_cst_16 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_cst_17 : Ref sig .tc := ⟨.hbm, 118, rfl⟩
abbrev main_call2_v0 : Ref sig .tc := ⟨.hbm, 119, rfl⟩
abbrev main_call2_v1 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_call3_v0 : Ref sig .tc := ⟨.hbm, 128, rfl⟩
abbrev main_call3_cst : Ref sig .tc := ⟨.hbm, 129, rfl⟩
abbrev main_call3_c : Ref sig .tc := ⟨.hbm, 130, rfl⟩
abbrev main_call3_v1_0 : Ref sig .tc := ⟨.hbm, 131, rfl⟩
abbrev main_v84 : Ref sig .tc := ⟨.hbm, 132, rfl⟩
abbrev main_c_18 : Ref sig .tc := ⟨.hbm, 133, rfl⟩
abbrev main_v85 : Ref sig .tc := ⟨.hbm, 134, rfl⟩
abbrev main_c_19 : Ref sig .tc := ⟨.hbm, 135, rfl⟩
abbrev main_v86 : Ref sig .tc := ⟨.hbm, 136, rfl⟩
abbrev main_c_20 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_c_21 : Ref sig .tc := ⟨.hbm, 146, rfl⟩
abbrev main_call4_v0 : Ref sig .tc := ⟨.hbm, 147, rfl⟩
abbrev main_call4_v1 : Ref sig .tc := ⟨.hbm, 148, rfl⟩
abbrev main_call4_v2 : Ref sig .tc := ⟨.hbm, 149, rfl⟩
abbrev main_v95 : Ref sig .tc := ⟨.hbm, 150, rfl⟩
abbrev main_c_22 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_c_23 : Ref sig .tc := ⟨.hbm, 155, rfl⟩
abbrev main_v99 : Ref sig .tc := ⟨.hbm, 156, rfl⟩
abbrev main_v100 : Ref sig .tc := ⟨.hbm, 157, rfl⟩
abbrev main_c_24 : Ref sig .tc := ⟨.hbm, 158, rfl⟩
abbrev main_v101 : Ref sig .tc := ⟨.hbm, 159, rfl⟩
abbrev main_v102 : Ref sig .tc := ⟨.hbm, 160, rfl⟩
abbrev main_c_25 : Ref sig .tc := ⟨.hbm, 161, rfl⟩
abbrev main_v103 : Ref sig .tc := ⟨.hbm, 162, rfl⟩
abbrev main_v104 : Ref sig .tc := ⟨.hbm, 163, rfl⟩
abbrev main_v105 : Ref sig .tc := ⟨.hbm, 164, rfl⟩
abbrev main_c_26 : Ref sig .tc := ⟨.hbm, 165, rfl⟩
abbrev main_v106 : Ref sig .tc := ⟨.hbm, 166, rfl⟩
abbrev main_v107 : Ref sig .tc := ⟨.hbm, 167, rfl⟩
abbrev main_c_27 : Ref sig .tc := ⟨.hbm, 168, rfl⟩
abbrev main_v108 : Ref sig .tc := ⟨.hbm, 169, rfl⟩
abbrev main_v109 : Ref sig .tc := ⟨.hbm, 170, rfl⟩
abbrev main_v110 : Ref sig .tc := ⟨.hbm, 171, rfl⟩
abbrev main_v111 : Ref sig .tc := ⟨.hbm, 172, rfl⟩
abbrev main_v112 : Ref sig .tc := ⟨.hbm, 173, rfl⟩
abbrev main_v113 : Ref sig .tc := ⟨.hbm, 174, rfl⟩
abbrev main_c_28 : Ref sig .tc := ⟨.hbm, 175, rfl⟩
abbrev main_v114 : Ref sig .tc := ⟨.hbm, 176, rfl⟩
abbrev main_v115 : Ref sig .tc := ⟨.hbm, 177, rfl⟩
abbrev main_c_29 : Ref sig .tc := ⟨.hbm, 178, rfl⟩
abbrev main_v116 : Ref sig .tc := ⟨.hbm, 179, rfl⟩
abbrev main_v117 : Ref sig .tc := ⟨.hbm, 180, rfl⟩

abbrev nD : Nat := 1
abbrev τ : Topo := Topo.v7x

variable {F : FTy → Type} [FloatOps F]
-- ==== Proof.Setup.lean ====
/-
  The launch set-up of the idealized program: the SparseCore call as the launch theorem sees it, the resource algebra
  (the call's handshakes, the TensorCore pipeline's staging cells, the transfers' counters), and the memrefs the tile
  kernel names.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.RegionsLoop
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide,
    fun b c h => by
      rcases b with ⟨p, t, i⟩ | ⟨c', t, i⟩ | ⟨t, i⟩ <;> first | rfl | exact absurd h (by simp [DevRef.owner]),
    fun _ => rfl⟩

/-! ## The resource algebra -/

abbrev UH : Type := URounds (GSem nD τ sig) ℕ
abbrev UP : Type := URounds (GSem nD τ sig) Unit
abbrev UU : Type := UH × (UP × Counters)

local notation "𝕄" => MT nD τ sig (HIx 1) (Elt F) ℕ UU ℕ

def EH : Emb UH (MT nD τ sig (HIx 1) (Elt F) ℕ UU ℕ) :=
  (Emb.inl : Emb UH UU).trans (uEmb (nD := nD) (sig := sig) (Ix := HIx 1) (Val := Elt F) (Name := ℕ) (U := UU) (Lvl := ℕ)).toEmb
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EH_landsIn : (EH : Emb UH 𝕄).LandsIn (upEmb : UEmb _ 𝕄) := by unfold EH; infer_instance
instance EP_landsIn : (EP : Emb UP 𝕄).LandsIn (upEmb : UEmb _ 𝕄) := by unfold EP; infer_instance

/-! ## The arrays of the SparseCore call -/

/-- The features, the rows of lengths and the tokens, as locations of device `d`. -/
abbrev fLoc (d : Dev nD) : Loc nD τ sig := (SparseCore.T d).loc main_v61
abbrev lLoc (d : Dev nD) : Loc nD τ sig := (SparseCore.T d).loc main_v60
abbrev oLoc (d : Dev nD) : Loc nD τ sig := (SparseCore.T d).loc main_v62

end Cert.Proof.Run

end
-- ==== Proof.Ops.lean ====
/-
  The idealized program's host operations as three straight lines, around its TensorCore call and its SparseCore call, and
  the program as those three lines and the two calls.
-/
module

public import proofs.«01_k».proof.Proof.Setup
public import Idealize.ShloMosaic.Lib.StableHlo.Run
public import Idealize.ShloMosaic.Lib.Pipeline.Frame

@[expose] public section

noncomputable section

namespace Cert.Proof.Run

open Cert.KernelIdeal Cert.KernelIdeal.Gen

open Idealize.ShloMosaic
open Idealize.ShloMosaic.TcCoe
open Idealize.ShloMosaic.StableHlo
open Idealize.SL.Sem

variable {F : FTy → Type} [FloatOps F] [Named F]

/-- The host operations before the TensorCore call: lengths, filterbank, table, frames. -/
abbrev ops1 : List (HloOp τ sig (Elt F)) :=
  [ reshape main_arg0 main_v0 (rfl : (.f32 : EltTy) = .f32) shapeCasts_S4x96000_S4x600x160,
    nullary main_c (constantI S_ 32 400#32),
    unary main_c main_v1 (broadcastInDim S4 ![] bcast_S_S4 : (⟨S_, .i32⟩ : BufTy).Contents (Elt F) → (⟨S4, .i32⟩ : BufTy).Contents (Elt F)),
    binary main_arg1 main_v1 main_v2 (subi : (⟨S4, .i32⟩ : BufTy).Contents (Elt F) → (⟨S4, .i32⟩ : BufTy).Contents (Elt F) → (⟨S4, .i32⟩ : BufTy).Contents (Elt F)),
    nullary main_c_0 (constantI S_ 32 160#32),
    TRef.unary (TRef.of (T := ⟨S_, .i32⟩) main_c_0) (TRef.of (T := ⟨S_, .i32⟩) main_call0_v0) id,
    TRef.unary (TRef.of (T := ⟨S_, .i32⟩) main_call0_v0) (TRef.of (T := ⟨S4, .i32⟩) main_call0_v1) (broadcastInDim S4 ![] bcast_S_S4),
    TRef.binary (TRef.of (T := ⟨S4, .i32⟩) main_v2) (TRef.of (T := ⟨S4, .i32⟩) main_call0_v1) (TRef.of (T := ⟨S4, .i32⟩) main_call0_v2) Host.divsi,
    TRef.unary (TRef.of (T := ⟨S4, .i32⟩) main_v2) (TRef.of (T := ⟨S4, .i32⟩) main_call0_v3) signi,
    TRef.unary (TRef.of (T := ⟨S_, .i32⟩) main_call0_v0) (TRef.of (T := ⟨S_, .i32⟩) main_call0_v4) signi,
    TRef.unary (TRef.of (T := ⟨S_, .i32⟩) main_call0_v4) (TRef.of (T := ⟨S4, .i32⟩) main_call0_v5) (broadcastInDim S4 ![] bcast_S_S4),
    TRef.binary (TRef.of (T := ⟨S4, .i32⟩) main_call0_v3) (TRef.of (T := ⟨S4, .i32⟩) main_call0_v5) (TRef.of (T := ⟨S4, .i1⟩) main_call0_v6) (cmpi .ne),
    TRef.unary (TRef.of (T := ⟨S_, .i32⟩) main_call0_v0) (TRef.of (T := ⟨S4, .i32⟩) main_call0_v7) (broadcastInDim S4 ![] bcast_S_S4),
    TRef.binary (TRef.of (T := ⟨S4, .i32⟩) main_v2) (TRef.of (T := ⟨S4, .i32⟩) main_call0_v7) (TRef.of (T := ⟨S4, .i32⟩) main_call0_v8) Host.remsi,
    TRef.nullary (TRef.of (T := ⟨S_, .i32⟩) main_call0_c) (constantI S_ 32 0#32),
    TRef.unary (TRef.of (T := ⟨S_, .i32⟩) main_call0_c) (TRef.of (T := ⟨S4, .i32⟩) main_call0_v9) (broadcastInDim S4 ![] bcast_S_S4),
    TRef.binary (TRef.of (T := ⟨S4, .i32⟩) main_call0_v8) (TRef.of (T := ⟨S4, .i32⟩) main_call0_v9) (TRef.of (T := ⟨S4, .i1⟩) main_call0_v10) (cmpi .ne),
    TRef.binary (TRef.of (T := ⟨S4, .i1⟩) main_call0_v6) (TRef.of (T := ⟨S4, .i1⟩) main_call0_v10) (TRef.of (T := ⟨S4, .i1⟩) main_call0_v11) andi,
    TRef.nullary (TRef.of (T := ⟨S_, .i32⟩) main_call0_c_0) (constantI S_ 32 1#32),
    TRef.unary (TRef.of (T := ⟨S_, .i32⟩) main_call0_c_0) (TRef.of (T := ⟨S4, .i32⟩) main_call0_v12) (broadcastInDim S4 ![] bcast_S_S4),
    TRef.binary (TRef.of (T := ⟨S4, .i32⟩) main_call0_v2) (TRef.of (T := ⟨S4, .i32⟩) main_call0_v12) (TRef.of (T := ⟨S4, .i32⟩) main_call0_v13) subi,
    TRef.ternary (TRef.of (T := ⟨S4, .i1⟩) main_call0_v11) (TRef.of (T := ⟨S4, .i32⟩) main_call0_v13) (TRef.of (T := ⟨S4, .i32⟩) main_call0_v2) (TRef.of (T := ⟨S4, .i32⟩) main_v3) select,
    nullary main_c_1 (constantI S_ 32 1#32),
    unary main_c_1 main_v4 (broadcastInDim S4 ![] bcast_S_S4 : (⟨S_, .i32⟩ : BufTy).Contents (Elt F) → (⟨S4, .i32⟩ : BufTy).Contents (Elt F)),
    binary main_v4 main_v3 main_v5 (addi : (⟨S4, .i32⟩ : BufTy).Contents (Elt F) → (⟨S4, .i32⟩ : BufTy).Contents (Elt F) → (⟨S4, .i32⟩ : BufTy).Contents (Elt F)),
    nullary main_cst (constant S_ .f32 0x00000000#32),
    unary main_cst main_v6 (broadcastInDim S256x80 ![] bcast_S_S256x80 : (⟨S_, .f32⟩ : BufTy).Contents (Elt F) → (⟨S256x80, .f32⟩ : BufTy).Contents (Elt F)),
    unary main_arg2 main_v7 ((transpose S201x80 [1, 0] · transposes_S80x201_S201x80_1_0) : (⟨S80x201, .f32⟩ : BufTy).Contents (Elt F) → (⟨S201x80, .f32⟩ : BufTy).Contents (Elt F)),
    nullary main_c_2 (constantI S_ 32 0#32),
    unary main_c_2 main_v8 (broadcastInDim S1 ![] bcast_S_S1 : (⟨S_, .i32⟩ : BufTy).Contents (Elt F) → (⟨S1, .i32⟩ : BufTy).Contents (Elt F)),
    ternary main_v6 main_v8 main_v7 main_v9 ((fun x i u => Host.scatter scatter_S256x80_S1_S201x80_01_n_0_0 (fun _ b => b) x i u) : (⟨S256x80, .f32⟩ : BufTy).Contents (Elt F) → (⟨S1, .i32⟩ : BufTy).Contents (Elt F) → (⟨S201x80, .f32⟩ : BufTy).Contents (Elt F) → (⟨S256x80, .f32⟩ : BufTy).Contents (Elt F)),
    nullary main_v10 (iotaInDim S400 32 0),
    unary main_v10 main_v11 (broadcastInDim S400x1 ![0] bcast_S400_S400x1_0 : (⟨S400, .i32⟩ : BufTy).Contents (Elt F) → (⟨S400x1, .i32⟩ : BufTy).Contents (Elt F)),
    nullary main_v12 (iotaInDim S201 32 0),
    unary main_v12 main_v13 (broadcastInDim S1x201 ![1] bcast_S201_S1x201_1 : (⟨S201, .i32⟩ : BufTy).Contents (Elt F) → (⟨S1x201, .i32⟩ : BufTy).Contents (Elt F)),
    unary main_v11 main_v14 (broadcastInDim S400x201 ![0, 1] bcast_S400x1_S400x201_0_1 : (⟨S400x1, .i32⟩ : BufTy).Contents (Elt F) → (⟨S400x201, .i32⟩ : BufTy).Contents (Elt F)),
    unary main_v13 main_v15 (broadcastInDim S400x201 ![0, 1] bcast_S1x201_S400x201_0_1 : (⟨S1x201, .i32⟩ : BufTy).Contents (Elt F) → (⟨S400x201, .i32⟩ : BufTy).Contents (Elt F)),
    binary main_v14 main_v15 main_v16 (muli : (⟨S400x201, .i32⟩ : BufTy).Contents (Elt F) → (⟨S400x201, .i32⟩ : BufTy).Contents (Elt F) → (⟨S400x201, .i32⟩ : BufTy).Contents (Elt F)),
    unary main_v16 main_v17 (sitofp .f32 : (⟨S400x201, .i32⟩ : BufTy).Contents (Elt F) → (⟨S400x201, .f32⟩ : BufTy).Contents (Elt F)),
    nullary main_cst_3 (constant S_ .f32 0x40C90FDB#32),
    unary main_cst_3 main_v18 (broadcastInDim S400x201 ![] bcast_S_S400x201 : (⟨S_, .f32⟩ : BufTy).Contents (Elt F) → (⟨S400x201, .f32⟩ : BufTy).Contents (Elt F)),
    binary main_v17 main_v18 main_v19 (mulf : (⟨S400x201, .f32⟩ : BufTy).Contents (Elt F) → (⟨S400x201, .f32⟩ : BufTy).Contents (Elt F) → (⟨S400x201, .f32⟩ : BufTy).Contents (Elt F)),
    nullary main_cst_4 (constant S_ .f32 0x43C80000#32),
    unary main_cst_4 main_v20 (broadcastInDim S400x201 ![] bcast_S_S400x201 : (⟨S_, .f32⟩ : BufTy).Contents (Elt F) → (⟨S400x201, .f32⟩ : BufTy).Contents (Elt F)),
    binary main_v19 main_v20 main_v21 (Host.divf : (⟨S400x201, .f32⟩ : BufTy).Contents (Elt F) → (⟨S400x201, .f32⟩ : BufTy).Contents (Elt F) → (⟨S400x201, .f32⟩ : BufTy).Contents (Elt F)),
    unary main_v11 main_v22 (sitofp .f32 : (⟨S400x1, .i32⟩ : BufTy).Contents (Elt F) → (⟨S400x1, .f32⟩ : BufTy).Contents (Elt F)),
    nullary main_cst_5 (constant S_ .f32 0x40C90FDB#32),
    unary main_cst_5 main_v23 (broadcastInDim S400x1 ![] bcast_S_S400x1 : (⟨S_, .f32⟩ : BufTy).Contents (Elt F) → (⟨S400x1, .f32⟩ : BufTy).Contents (Elt F)),
    binary main_v22 main_v23 main_v24 (mulf : (⟨S400x1, .f32⟩ : BufTy).Contents (Elt F) → (⟨S400x1, .f32⟩ : BufTy).Contents (Elt F) → (⟨S400x1, .f32⟩ : BufTy).Contents (Elt F)),
    nullary main_cst_6 (constant S_ .f32 0x43C78000#32),
    unary main_cst_6 main_v25 (broadcastInDim S400x1 ![] bcast_S_S400x1 : (⟨S_, .f32⟩ : BufTy).Contents (Elt F) → (⟨S400x1, .f32⟩ : BufTy).Contents (Elt F)),
    binary main_v24 main_v25 main_v26 (Host.divf : (⟨S400x1, .f32⟩ : BufTy).Contents (Elt F) → (⟨S400x1, .f32⟩ : BufTy).Contents (Elt F) → (⟨S400x1, .f32⟩ : BufTy).Contents (Elt F)),
    unary main_v26 main_v27 (Host.cos : (⟨S400x1, .f32⟩ : BufTy).Contents (Elt F) → (⟨S400x1, .f32⟩ : BufTy).Contents (Elt F)),
    nullary main_cst_7 (constant S_ .f32 0x3F000000#32),
    unary main_cst_7 main_v28 (broadcastInDim S400x1 ![] bcast_S_S400x1 : (⟨S_, .f32⟩ : BufTy).Contents (Elt F) → (⟨S400x1, .f32⟩ : BufTy).Contents (Elt F)),
    binary main_v28 main_v27 main_v29 (mulf : (⟨S400x1, .f32⟩ : BufTy).Contents (Elt F) → (⟨S400x1, .f32⟩ : BufTy).Contents (Elt F) → (⟨S400x1, .f32⟩ : BufTy).Contents (Elt F)),
    nullary main_cst_8 (constant S_ .f32 0x3F000000#32),
    unary main_cst_8 main_v30 (broadcastInDim S400x1 ![] bcast_S_S400x1 : (⟨S_, .f32⟩ : BufTy).Contents (Elt F) → (⟨S400x1, .f32⟩ : BufTy).Contents (Elt F)),
    binary main_v30 main_v29 main_v31 (subf : (⟨S400x1, .f32⟩ : BufTy).Contents (Elt F) → (⟨S400x1, .f32⟩ : BufTy).Contents (Elt F) → (⟨S400x1, .f32⟩ : BufTy).Contents (Elt F)),
    unary main_v21 main_v32 (Host.cos : (⟨S400x201, .f32⟩ : BufTy).Contents (Elt F) → (⟨S400x201, .f32⟩ : BufTy).Contents (Elt F)),
    unary main_v31 main_v33 (broadcastInDim S400x201 ![0, 1] bcast_S400x1_S400x201_0_1 : (⟨S400x1, .f32⟩ : BufTy).Contents (Elt F) → (⟨S400x201, .f32⟩ : BufTy).Contents (Elt F)),
    binary main_v32 main_v33 main_v34 (mulf : (⟨S400x201, .f32⟩ : BufTy).Contents (Elt F) → (⟨S400x201, .f32⟩ : BufTy).Contents (Elt F) → (⟨S400x201, .f32⟩ : BufTy).Contents (Elt F)),
    unary main_v21 main_v35 (Host.sin : (⟨S400x201, .f32⟩ : BufTy).Contents (Elt F) → (⟨S400x201, .f32⟩ : BufTy).Contents (Elt F)),
    unary main_v35 main_v36 (Host.negf : (⟨S400x201, .f32⟩ : BufTy).Contents (Elt F) → (⟨S400x201, .f32⟩ : BufTy).Contents (Elt F)),
    unary main_v31 main_v37 (broadcastInDim S400x201 ![0, 1] bcast_S400x1_S400x201_0_1 : (⟨S400x1, .f32⟩ : BufTy).Contents (Elt F) → (⟨S400x201, .f32⟩ : BufTy).Contents (Elt F)),
    binary main_v36 main_v37 main_v38 (mulf : (⟨S400x201, .f32⟩ : BufTy).Contents (Elt F) → (⟨S400x201, .f32⟩ : BufTy).Contents (Elt F) → (⟨S400x201, .f32⟩ : BufTy).Contents (Elt F)),
    nullary main_cst_9 (constant S_ .f32 0x00000000#32),
    unary main_cst_9 main_v39 (broadcastInDim S480x512 ![] bcast_S_S480x512 : (⟨S_, .f32⟩ : BufTy).Contents (Elt F) → (⟨S480x512, .f32⟩ : BufTy).Contents (Elt F)),
    nullary main_c_10 (constantI S_ 32 0#32),
    unary main_c_10 main_v40 (broadcastInDim S1 ![] bcast_S_S1 : (⟨S_, .i32⟩ : BufTy).Contents (Elt F) → (⟨S1, .i32⟩ : BufTy).Contents (Elt F)),
    nullary main_c_11 (constantI S_ 32 0#32),
    unary main_c_11 main_v41 (broadcastInDim S1 ![] bcast_S_S1 : (⟨S_, .i32⟩ : BufTy).Contents (Elt F) → (⟨S1, .i32⟩ : BufTy).Contents (Elt F)),
    binary main_v40 main_v41 main_v42 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    ternary main_v39 main_v42 main_v34 main_v43 ((fun x i u => Host.scatter scatter_S480x512_S2_S400x201_01_n_01_0 (fun _ b => b) x i u) : (⟨S480x512, .f32⟩ : BufTy).Contents (Elt F) → (⟨S2, .i32⟩ : BufTy).Contents (Elt F) → (⟨S400x201, .f32⟩ : BufTy).Contents (Elt F) → (⟨S480x512, .f32⟩ : BufTy).Contents (Elt F)),
    nullary main_c_12 (constantI S_ 32 0#32),
    unary main_c_12 main_v44 (broadcastInDim S1 ![] bcast_S_S1 : (⟨S_, .i32⟩ : BufTy).Contents (Elt F) → (⟨S1, .i32⟩ : BufTy).Contents (Elt F)),
    nullary main_c_13 (constantI S_ 32 256#32),
    unary main_c_13 main_v45 (broadcastInDim S1 ![] bcast_S_S1 : (⟨S_, .i32⟩ : BufTy).Contents (Elt F) → (⟨S1, .i32⟩ : BufTy).Contents (Elt F)),
    binary main_v44 main_v45 main_v46 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    ternary main_v43 main_v46 main_v38 main_v47 ((fun x i u => Host.scatter scatter_S480x512_S2_S400x201_01_n_01_0 (fun _ b => b) x i u) : (⟨S480x512, .f32⟩ : BufTy).Contents (Elt F) → (⟨S2, .i32⟩ : BufTy).Contents (Elt F) → (⟨S400x201, .f32⟩ : BufTy).Contents (Elt F) → (⟨S480x512, .f32⟩ : BufTy).Contents (Elt F)),
    reshape main_v0 main_v48 (rfl : (.f32 : EltTy) = .f32) shapeCasts_S4x600x160_S2400x160 ]

/-- The host operations between the two calls: each tile's frame count, and the features read as one row. -/
abbrev ops2 : List (HloOp τ sig (Elt F)) :=
  [ nullary main_v50 (iotaInDim S32 32 0),
    nullary main_c_14 (constantI S_ 32 8#32),
    TRef.unary (TRef.of (T := ⟨S_, .i32⟩) main_c_14) (TRef.of (T := ⟨S_, .i32⟩) main_call1_v0) id,
    TRef.unary (TRef.of (T := ⟨S_, .i32⟩) main_call1_v0) (TRef.of (T := ⟨S32, .i32⟩) main_call1_v1) (broadcastInDim S32 ![] bcast_S_S32),
    TRef.binary (TRef.of (T := ⟨S32, .i32⟩) main_v50) (TRef.of (T := ⟨S32, .i32⟩) main_call1_v1) (TRef.of (T := ⟨S32, .i32⟩) main_call1_v2) Host.divsi,
    TRef.unary (TRef.of (T := ⟨S32, .i32⟩) main_v50) (TRef.of (T := ⟨S32, .i32⟩) main_call1_v3) signi,
    TRef.unary (TRef.of (T := ⟨S_, .i32⟩) main_call1_v0) (TRef.of (T := ⟨S_, .i32⟩) main_call1_v4) signi,
    TRef.unary (TRef.of (T := ⟨S_, .i32⟩) main_call1_v4) (TRef.of (T := ⟨S32, .i32⟩) main_call1_v5) (broadcastInDim S32 ![] bcast_S_S32),
    TRef.binary (TRef.of (T := ⟨S32, .i32⟩) main_call1_v3) (TRef.of (T := ⟨S32, .i32⟩) main_call1_v5) (TRef.of (T := ⟨S32, .i1⟩) main_call1_v6) (cmpi .ne),
    TRef.unary (TRef.of (T := ⟨S_, .i32⟩) main_call1_v0) (TRef.of (T := ⟨S32, .i32⟩) main_call1_v7) (broadcastInDim S32 ![] bcast_S_S32),
    TRef.binary (TRef.of (T := ⟨S32, .i32⟩) main_v50) (TRef.of (T := ⟨S32, .i32⟩) main_call1_v7) (TRef.of (T := ⟨S32, .i32⟩) main_call1_v8) Host.remsi,
    TRef.nullary (TRef.of (T := ⟨S_, .i32⟩) main_call1_c) (constantI S_ 32 0#32),
    TRef.unary (TRef.of (T := ⟨S_, .i32⟩) main_call1_c) (TRef.of (T := ⟨S32, .i32⟩) main_call1_v9) (broadcastInDim S32 ![] bcast_S_S32),
    TRef.binary (TRef.of (T := ⟨S32, .i32⟩) main_call1_v8) (TRef.of (T := ⟨S32, .i32⟩) main_call1_v9) (TRef.of (T := ⟨S32, .i1⟩) main_call1_v10) (cmpi .ne),
    TRef.binary (TRef.of (T := ⟨S32, .i1⟩) main_call1_v6) (TRef.of (T := ⟨S32, .i1⟩) main_call1_v10) (TRef.of (T := ⟨S32, .i1⟩) main_call1_v11) andi,
    TRef.nullary (TRef.of (T := ⟨S_, .i32⟩) main_call1_c_0) (constantI S_ 32 1#32),
    TRef.unary (TRef.of (T := ⟨S_, .i32⟩) main_call1_c_0) (TRef.of (T := ⟨S32, .i32⟩) main_call1_v12) (broadcastInDim S32 ![] bcast_S_S32),
    TRef.binary (TRef.of (T := ⟨S32, .i32⟩) main_call1_v2) (TRef.of (T := ⟨S32, .i32⟩) main_call1_v12) (TRef.of (T := ⟨S32, .i32⟩) main_call1_v13) subi,
    TRef.ternary (TRef.of (T := ⟨S32, .i1⟩) main_call1_v11) (TRef.of (T := ⟨S32, .i32⟩) main_call1_v13) (TRef.of (T := ⟨S32, .i32⟩) main_call1_v2) (TRef.of (T := ⟨S32, .i32⟩) main_v51) select,
    nullary main_c_15 (constantI S_ 32 0#32),
    unary main_c_15 main_v52 (broadcastInDim S32 ![] bcast_S_S32 : (⟨S_, .i32⟩ : BufTy).Contents (Elt F) → (⟨S32, .i32⟩ : BufTy).Contents (Elt F)),
    binary main_v51 main_v52 main_v53 (cmpi .slt : (⟨S32, .i32⟩ : BufTy).Contents (Elt F) → (⟨S32, .i32⟩ : BufTy).Contents (Elt F) → (⟨S32, .i1⟩ : BufTy).Contents (Elt F)),
    nullary main_c_16 (constantI S_ 32 4#32),
    unary main_c_16 main_v54 (broadcastInDim S32 ![] bcast_S_S32 : (⟨S_, .i32⟩ : BufTy).Contents (Elt F) → (⟨S32, .i32⟩ : BufTy).Contents (Elt F)),
    binary main_v51 main_v54 main_v55 (addi : (⟨S32, .i32⟩ : BufTy).Contents (Elt F) → (⟨S32, .i32⟩ : BufTy).Contents (Elt F) → (⟨S32, .i32⟩ : BufTy).Contents (Elt F)),
    ternary main_v53 main_v55 main_v51 main_v56 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    unary main_v56 main_v57 (broadcastInDim S32x1 ![0] bcast_S32_S32x1_0 : (⟨S32, .i32⟩ : BufTy).Contents (Elt F) → (⟨S32x1, .i32⟩ : BufTy).Contents (Elt F)),
    binary main_v5 main_v57 main_v58 ((fun x i => Host.gather gather_S4_S32x1_S32_n_0_n_n_0_1_1 x i) : (⟨S4, .i32⟩ : BufTy).Contents (Elt F) → (⟨S32x1, .i32⟩ : BufTy).Contents (Elt F) → (⟨S32, .i32⟩ : BufTy).Contents (Elt F)),
    unary main_v58 main_v59 (broadcastInDim S32x1 ![0] bcast_S32_S32x1_0 : (⟨S32, .i32⟩ : BufTy).Contents (Elt F) → (⟨S32x1, .i32⟩ : BufTy).Contents (Elt F)),
    unary main_v59 main_v60 (broadcastInDim S32x16 ![0, 1] bcast_S32x1_S32x16_0_1 : (⟨S32x1, .i32⟩ : BufTy).Contents (Elt F) → (⟨S32x16, .i32⟩ : BufTy).Contents (Elt F)),
    reshape main_v49 main_v61 (rfl : (.f32 : EltTy) = .f32) shapeCasts_S2400x80_S192000 ]

/-- The host operations after the SparseCore call: the tokens at their shape, and the lengths with the two end marks. -/
abbrev ops3 : List (HloOp τ sig (Elt F)) :=
  [ reshape main_v62 main_v63 (rfl : (.i32 : EltTy) = .i32) shapeCasts_S192000_S4x600x80,
    nullary main_c_17 (constantI S_ 32 2#32),
    unary main_c_17 main_v64 (broadcastInDim S4 ![] bcast_S_S4 : (⟨S_, .i32⟩ : BufTy).Contents (Elt F) → (⟨S4, .i32⟩ : BufTy).Contents (Elt F)),
    binary main_v5 main_v64 main_v65 (addi : (⟨S4, .i32⟩ : BufTy).Contents (Elt F) → (⟨S4, .i32⟩ : BufTy).Contents (Elt F) → (⟨S4, .i32⟩ : BufTy).Contents (Elt F)) ]

set_option maxRecDepth 8192 in
set_option maxHeartbeats 4000000 in
/-- @main: the three lines and the two calls between them. -/
theorem main_split (d : Dev nD) :
    main (F := F) d = seq ops1 >>= fun _ => SparseCore.liftProg (Prog.lift (.customCall (Pipeline.entry 0) ())) >>= fun _ =>
      seq ops2 >>= fun _ => (sc (F := F)).run d 0 >>= fun _ => seq ops3 >>= fun _ => pure ⟨⟩ := rfl

theorem ops1_sub : ∀ op ∈ (ops1 : List (HloOp τ sig (Elt F))), op.bufs ⊆ Pipeline.ucRefs τ sig := fun op h =>
  Pipeline.sub_ucRefs op (List.forall_iff_forall_mem.mp (show (ops1 : List (HloOp τ sig (Elt F))).Forall fun op => op.bufs ⊆ tcRefs τ sig from
    ⟨reshape_bufs_sub .., nullary_bufs_sub .., unary_bufs_sub .., binary_bufs_sub .., nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., binary_bufs_sub .., nullary_bufs_sub .., unary_bufs_sub .., unary_bufs_sub .., nullary_bufs_sub .., unary_bufs_sub .., ternary_bufs_sub .., nullary_bufs_sub .., unary_bufs_sub .., nullary_bufs_sub .., unary_bufs_sub .., unary_bufs_sub .., unary_bufs_sub .., binary_bufs_sub .., unary_bufs_sub .., nullary_bufs_sub .., unary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., unary_bufs_sub .., binary_bufs_sub .., nullary_bufs_sub .., unary_bufs_sub .., nullary_bufs_sub .., unary_bufs_sub .., nullary_bufs_sub .., unary_bufs_sub .., binary_bufs_sub .., ternary_bufs_sub .., nullary_bufs_sub .., unary_bufs_sub .., nullary_bufs_sub .., unary_bufs_sub .., binary_bufs_sub .., ternary_bufs_sub .., reshape_bufs_sub ..⟩) op h)
theorem ops1_fresh : ∀ op ∈ (ops1 : List (HloOp τ sig (Elt F))), op.fresh = ∅ := List.forall_iff_forall_mem.mp (forall_fresh_of_map rfl)
theorem ops2_sub : ∀ op ∈ (ops2 : List (HloOp τ sig (Elt F))), op.bufs ⊆ Pipeline.ucRefs τ sig := fun op h =>
  Pipeline.sub_ucRefs op (List.forall_iff_forall_mem.mp (show (ops2 : List (HloOp τ sig (Elt F))).Forall fun op => op.bufs ⊆ tcRefs τ sig from
    ⟨nullary_bufs_sub .., nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., reshape_bufs_sub ..⟩) op h)
theorem ops2_fresh : ∀ op ∈ (ops2 : List (HloOp τ sig (Elt F))), op.fresh = ∅ := List.forall_iff_forall_mem.mp (forall_fresh_of_map rfl)
theorem ops3_sub : ∀ op ∈ (ops3 : List (HloOp τ sig (Elt F))), op.bufs ⊆ Pipeline.ucRefs τ sig := fun op h =>
  Pipeline.sub_ucRefs op (List.forall_iff_forall_mem.mp (show (ops3 : List (HloOp τ sig (Elt F))).Forall fun op => op.bufs ⊆ tcRefs τ sig from
    ⟨reshape_bufs_sub .., nullary_bufs_sub .., unary_bufs_sub .., binary_bufs_sub ..⟩) op h)
theorem ops3_fresh : ∀ op ∈ (ops3 : List (HloOp τ sig (Elt F))), op.fresh = ∅ := List.forall_iff_forall_mem.mp (forall_fresh_of_map rfl)

end Cert.Proof.Run

end
-- ==== Proof.Region.lean ====
/-
  The TensorCore call of the idealized program: its body run, its proof data at an entry valuation, and the region over
  the unscoped buffers, entered at `V` and left at `V` with the features written.
-/
module

public import proofs.«01_k».proof.Proof.Setup
public import Idealize.ShloMosaic.Lib.Pipeline.ValueKit

@[expose] public section

noncomputable section

namespace Cert.Proof.Run

open Cert.KernelIdeal Cert.KernelIdeal.Gen

open Idealize.ShloMosaic
open Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig (HIx 1) (Elt F) ℕ UU ℕ

/-- Memref `M`'s buffer on core `c`: its contents, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-! ## The body -/

/-- What the body leaves in the result's staging buffer, over what the three operands' hold, with its run. -/
noncomputable def tcRun (c : Dev nD) (f0 : Bf (F := F) c (stage0_0 0)) (f1 : Bf (F := F) c (stage0_1 0)) (f2 : Bf (F := F) c (stage0_2 0)) :
    { W : Bf (F := F) c (stage0_3 0) // ∀ (f3 : Bf (F := F) c (stage0_3 0)) (E : Set ℕ) (Q : PUnit → sProp 𝕄),
        iprop(pt c (stage0_0 0) f0 ∗ pt c (stage0_1 0) f1 ∗ pt c (stage0_2 0) f2 ∗ pt c (stage0_3 0) f3
            ∗ (iprop(pt c (stage0_0 0) f0 ∗ pt c (stage0_1 0) f1 ∗ pt c (stage0_2 0) f2 ∗ pt c (stage0_3 0) W) -∗ Q ⟨⟩))
          ⊢ wp frame (wpE (defs₀ (F := F)) Variants.none c none) E (cc0__tc_body (stage0_0 0) (hstage0_0 0) (stage0_1 0) (hstage0_1 0) (stage0_2 0) (hstage0_2 0) (stage0_3 0) (hstage0_3 0)) Q } := by
  refine ⟨?_, fun f3 E Q => ?run⟩
  case run =>
    rw [cc0__tc_body_eq_skeleton]
    unfold cc0__tc_body_skel
    iintro ⟨H0, H1, H2, H3, Hk⟩
    sl_exec!
    sl_step
    iapply Hk
    isplitl [H0]; · iexact H0
    isplitl [H1]; · iexact H1
    isplitl [H2]; · iexact H2
    iexact H3

theorem off2 : (![0, 0] : Fin 2 → Nat) = fun _ => 0 := funext fun a => match a with | 0 => rfl | 1 => rfl

/-- It is the features' formula on the operands. -/
theorem tcRun_val (c : Dev nD) (f0 : Bf (F := F) c (stage0_0 0)) (f1 : Bf (F := F) c (stage0_1 0)) (f2 : Bf (F := F) c (stage0_2 0)) :
    (tcRun c f0 f1 f2).1 = k0_pay1 (F := F) f0 f1 f2 := by
  unfold tcRun
  dsimp only
  unfold tcRun.sl.H3_1
  rw [View.writes_cons, View.writes_nil]
  refine (Memref.write_access_unit_zero_univ (Elt F) cc0_stg3_0 off2 inb_S2400x80_S2400x80_0_0 _ _).trans ?_
  exact congr (congr (congrArg (k0_pay1 (F := F)) (Memref.readAt_unit_zero (Elt F) cc0_stg0_0 off2 inb_S2400x160_S2400x160_0_0 f0))
    (Memref.readAt_unit_zero (Elt F) cc0_stg1_0 off2 inb_S480x512_S480x512_0_0 f1))
    (Memref.readAt_unit_zero (Elt F) cc0_stg2_0 off2 inb_S256x80_S256x80_0_0 f2)

/-! ## The proof data, at an entry valuation -/

variable (V : (c : Dev nD) → (b : Ref sig .tc) → Buf (Elt F) ((c : Thread nD τ).loc b)) (b : ℕ)

/-- The operands' blocks as the fetches stage them. -/
abbrev stg0 (c : Dev nD) : (cfg0.win 0).block.Idx → Elt F (cfg0.win 0).elt := ((cfg0.win 0).blk t0_0).view.read (Elt F) (V c main_v48)
abbrev stg1 (c : Dev nD) : (cfg0.win 1).block.Idx → Elt F (cfg0.win 1).elt := ((cfg0.win 1).blk t0_0).view.read (Elt F) (V c main_v47)
abbrev stg2 (c : Dev nD) : (cfg0.win 2).block.Idx → Elt F (cfg0.win 2).elt := ((cfg0.win 2).blk t0_0).view.read (Elt F) (V c main_v9)

/-- The result's buffer after the body. -/
@[irreducible] def tcOut (c : Dev nD) : Bf (F := F) c (stage0_3 0) := (tcRun (F := F) c (stg0 V c) (stg1 V c) (stg2 V c)).1

/-- The waits recorded so far, all at or below level `b`. -/
abbrev low (c : Dev nD) : Set (SemLoc sig × HIx 1) := {p | (K (F := F)).lev ((T c : Thread nD τ), p.1) p.2 ≤ b}

/-- The proof data of the call: its arrays at `V`; after the body the operands' buffers as fetched and the result's at the
    run's contents; what the TensorCore owes the SparseCore call throughout. -/
def dat (c : Dev nD) : Dat τ (Elt F) (HIx 1) ℕ UU ℕ cfg0 c where
  A w := V c (Pipeline.arrRef spec0 w)
  after w _ := match w with
    | ⟨0, _⟩ => stg0 V c
    | ⟨1, _⟩ => stg1 V c
    | ⟨2, _⟩ => stg2 V c
    | ⟨3, _⟩ => tcOut V c
  Φ _ := Pipeline.scopedRest (Ix := HIx 1) (Name := ℕ) (U := UU) (Lvl := ℕ) (Val := Elt F) spec0 c
  q _ := fullShare
  owed _ := (K (F := F)).Otc c 0
  recorded _ := low (F := F) b c

variable (adm : (p : Fin 1) → (pcfgs (F := F) p).Adm)

def pdats : (p : Fin 1) → (c : Dev nD) → Dat τ (Elt F) (HIx 1) ℕ UU ℕ (Pipeline.pin (pcfgs (F := F)) adm p) c
  | ⟨0, _⟩ => fun c => dat V b c

theorem before0 (c : Dev nD) (d : (cfg0.win 0).block.Idx → Elt F (cfg0.win 0).elt) : (dat V b c).before 0 t0_0 d = stg0 V c := by
  unfold Dat.before; rw [if_pos (by decide)]; rfl
theorem before1 (c : Dev nD) (d : (cfg0.win 1).block.Idx → Elt F (cfg0.win 1).elt) : (dat V b c).before 1 t0_0 d = stg1 V c := by
  unfold Dat.before; rw [if_pos (by decide)]; rfl
theorem before2 (c : Dev nD) (d : (cfg0.win 2).block.Idx → Elt F (cfg0.win 2).elt) : (dat V b c).before 2 t0_0 d = stg2 V c := by
  unfold Dat.before; rw [if_pos (by decide)]; rfl

theorem body_obligation (c : Dev nD) : BodyObligation (dat V b c) (defs₀ (F := F)) 𝒱₀ none Set.univ := fun t => by
  obtain rfl := fin_N0 t
  rw [bigSep_W0, bigSep_W0]
  simp only [owns_whole_eq]
  rw [show (dat V b c).Φ t0_0.succ = (dat V b c).Φ t0_0.castSucc from rfl,
    show (dat V b c).owesAt none t0_0.succ = (dat V b c).owesAt none t0_0.castSucc from rfl]
  iintro ⟨HΦ, Howes, ⟨%d0, %f0, %hf0, H0⟩, ⟨%d1, %f1, %hf1, H1⟩, ⟨%d2, %f2, %hf2, H2⟩, ⟨%d3, %f3, -, H3⟩⟩
  rw [before0] at hf0
  rw [before1] at hf1
  rw [before2] at hf2
  subst hf0 hf1 hf2
  iapply ((tcRun (F := F) c (stg0 V c) (stg1 V c) (stg2 V c)).2 f3 Set.univ _)
  isplitl [H0]; · iexact H0
  isplitl [H1]; · iexact H1
  isplitl [H2]; · iexact H2
  isplitl [H3]; · iexact H3
  iintro ⟨H0, H1, H2, H3⟩
  isplitl [HΦ]; · iexact HΦ
  isplitl [Howes]; · iexact Howes
  isplitl [H0]; · iexists _; isplitr; swap; (· iexact H0); ipureintro; dsimp only [dat]
  isplitl [H1]; · iexists _; isplitr; swap; (· iexact H1); ipureintro; dsimp only [dat]
  isplitl [H2]; · iexists _; isplitr; swap; (· iexact H2); ipureintro; dsimp only [dat]
  iexists _; isplitr; swap; (· iexact H3); ipureintro; dsimp only [dat]; unfold tcOut; rfl

/-- The blocks are the arrays. -/
theorem stg0_eq (c : Dev nD) : stg0 V c = V c main_v48 := by
  funext y
  show V c main_v48 (((cfg0.win 0).rect t0_0).emb y) = V c main_v48 y
  congr 1; funext a; apply Fin.ext
  exact Window.rect_emb_val_of_index_zero (cfg0.win 0) t0_0 a rfl y
theorem stg1_eq (c : Dev nD) : stg1 V c = V c main_v47 := by
  funext y
  show V c main_v47 (((cfg0.win 1).rect t0_0).emb y) = V c main_v47 y
  congr 1; funext a; apply Fin.ext
  exact Window.rect_emb_val_of_index_zero (cfg0.win 1) t0_0 a rfl y
theorem stg2_eq (c : Dev nD) : stg2 V c = V c main_v9 := by
  funext y
  show V c main_v9 (((cfg0.win 2).rect t0_0).emb y) = V c main_v9 y
  congr 1; funext a; apply Fin.ext
  exact Window.rect_emb_val_of_index_zero (cfg0.win 2) t0_0 a rfl y

/-- The features after the call. -/
theorem arrAt_out (c : Dev nD) :
    (dat V b c).arrAt 3 cfg0.N = k0_pay1 (F := F) (V c main_v48) (V c main_v47) (V c main_v9) := by
  refine (dat V b c).arrAt_eq_of_after_last 3 t0_0 (by decide +kernel) _ (fun j => ?_)
  have h : tcOut V c = k0_pay1 (F := F) (V c main_v48) (V c main_v47) (V c main_v9) := by
    unfold tcOut
    rw [tcRun_val, stg0_eq, stg1_eq, stg2_eq]
  rw [← h]
  rfl

/-! ## The region over the unscoped buffers -/

/-- What the TensorCore owes and has recorded, the records at or below level `b`. -/
abbrev owesLow (c : Dev nD) : sProp 𝕄 :=
  iprop(∃ W, ⌜(K (F := F)).WBelow (T c) W b⌝ ∗ owes (T c : Thread nD τ) ((K (F := F)).Otc c 0) W)

theorem Otc_none (c : Dev nD) (g : GSem nD τ sig) : (K (F := F)).Otc c 0 g none = 0 := by
  unfold SparseCore.Cfg.Otc
  rw [Finset.sum_apply, Finsupp.finsetSum_apply]
  refine Finset.sum_eq_zero fun q _ => ?_
  rw [if_pos (Nat.zero_le _), Finset.sum_apply, Finsupp.finsetSum_apply]
  refine Finset.sum_eq_zero fun i _ => ?_
  rw [tallyAt_apply, if_neg]
  rintro ⟨-, h⟩
  exact absurd h (by simp)

variable (Vp : (c : Dev nD) → (b : Ref sig .tc) → Buf (Elt F) ((c : Thread nD τ).loc b))

set_option backward.isDefEq.respectTransparency.types false in
def reg (R : Dev nD → sProp 𝕄) (hVp_out : ∀ c, Vp c main_v49 = k0_pay1 (F := F) (V c main_v48) (V c main_v47) (V c main_v9))
    (hVp_ne : ∀ c (b : Ref sig .tc), b ≠ main_v49 → Vp c b = V c b) :
    Pipeline.RegionSeg (pcfgs (F := F)) adm (pdats V b adm) none defs₀ 𝒱₀ (K (F := F)).L (K (F := F)).lev 0 where
  win := (launch0).win.to₀
  block_pos := (launch0).block_pos
  stage_whole := (launch0).stage_whole
  K := PEmpty
  osem k := k.elim
  ho := Pipeline.OwnSemFacts.none _
  hbody c := (body_obligation V b c).loose
  hwaits c := Pipeline.cellsWaits_intro _ _ none 0 c fun w s t => (K (F := F)).mayWait_none _ (Otc_none c)
  pre c := iprop(unscopedBufs c (V c) ∗ R c ∗ owesLow (F := F) b c)
  post c := iprop(unscopedBufs c (Vp c) ∗ R c ∗ owesLow (F := F) b c)
  X _ := BI.emp
  Y _ := BI.emp
  Z c := iprop(Pipeline.unscopedRest (Ix := HIx 1) (Name := ℕ) (U := UU) (Lvl := ℕ) spec0 c (V c) ∗ R c)
  hentry c := by
    rw [Pipeline.ownSems0_none]
    have hsplit := Pipeline.arrays_of_unscopedBufs (p := 0) (pcfgs (F := F)) adm (pdats V b adm) (launch0).win (launch0).arr_whole c
      ((pdats V b adm 0 c).share_full fun _ => rfl) (V c) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    isplitl [Hrest] <;> iassumption
  hin c := by
    rw [show (pdats V b adm 0 c).Φ 0 = Pipeline.scopedRest spec0 c from rfl]
    iintro ⟨-, -, Hr⟩; iexact Hr
  hout c := by
    rw [Pipeline.ownSems0_none, show (pdats V b adm 0 c).Φ (Fin.last _) = Pipeline.scopedRest spec0 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) (launch0).win (launch0).arr_whole c
      (pdats V b adm) ((pdats V b adm 0 c).share_full fun _ => rfl) (V c) (Vp c) ((pdats V b adm 0 c).arrAt · cfg0.N)
      (fun w => by
        fin_cases w
        · exact ((pdats V b adm 0 c).arrAt_in 0 rfl _).trans (hVp_ne c main_v48 (by decide)).symm
        · exact ((pdats V b adm 0 c).arrAt_in 1 rfl _).trans (hVp_ne c main_v47 (by decide)).symm
        · exact ((pdats V b adm 0 c).arrAt_in 2 rfl _).trans (hVp_ne c main_v9 (by decide)).symm
        · exact (arrAt_out V b c).trans (hVp_out c).symm)
      (fun b hb => hVp_ne c b fun h => hb (h ▸ Finset.mem_image.mpr ⟨3, Finset.mem_univ _, rfl⟩))
    iintro ⟨Ha, HO, -, Hrest, HR⟩
    imodintro
    isplitl [Ha Hrest]
    · iapply hjoin; isplitl [Ha] <;> iassumption
    isplitl [HR]; · iexact HR
    unfold Pipeline.Dat.owesAt Pipeline.owesWithin
    icases HO with ⟨%W, %hW, HO⟩; iexists W
    isplitr
    · ipureintro
      intro p hp
      rcases hW hp with h | ⟨w, s, rfl⟩
      · exact h
      · exact Nat.zero_le _
    iexact HO

end Cert.Proof.Run

end
-- ==== Proof.Tok.lean ====
/-
  The tile kernel's value, one element at a time: the token a feature, a length and a row index make, and that each of
  the body's five stored vectors is it lane by lane.
-/
module

public import proofs.«01_k».proof.Proof.Setup
public import Idealize.ShloMosaic.Lib.Pointwise

@[expose] public section

noncomputable section

namespace Cert.Proof.Run

open Cert.KernelIdeal Cert.KernelIdeal.Gen
open Idealize.ShloMosaic

variable {F : FTy → Type} [FloatOps F] [Named F]

/-- A word clamped to 0 or 1. -/
def clamp01 (x : BitVec 32) : BitVec 32 := IntOp.minsi (IntOp.maxsi x 0#32) 1#32
/-- 1 on the rows up to the length (0 among them), 0 past it. -/
def validW (n r : BitVec 32) : BitVec 32 := clamp01 (IntOp.addi (IntOp.subi n r) 1#32)
/-- 1 on row 0 only. -/
def bosW (r : BitVec 32) : BitVec 32 := clamp01 (IntOp.subi 1#32 r)
/-- What a row past the length holds: the end mark right after it, the padding later; 0 on a row with tokens. -/
def tailW (n r : BitVec 32) : BitVec 32 :=
  let e := IntOp.subi (clamp01 (IntOp.addi (IntOp.subi n r) 2#32)) (validW n r)
  IntOp.addi (IntOp.muli 256#32 (IntOp.subi (IntOp.subi 1#32 (validW n r)) e)) (IntOp.muli 258#32 e)
/-- The level a feature quantises to. -/
def quantW (f : F .f32) : BitVec 32 :=
  IntOp.minsi (FloatOps.fptosi 32 (FloatOps.addf (FloatOps.mulf
    (FloatOps.subf (FloatOps.minimumf (FloatOps.maximumf f (Scalar.ofBits .f32 0xC0E00000#32)) (Scalar.ofBits .f32 0x40000000#32)) (Scalar.ofBits .f32 0xC0E00000#32))
    (Named.named κ "inv_step" 0x41E2A0FF#32)) (Scalar.ofBits .f32 0x3F000000#32))) 255#32
/-- A row's word before the begin mark is laid over it. -/
def bodyW (f : F .f32) (n r : BitVec 32) : BitVec 32 := IntOp.addi (IntOp.muli (quantW f) (validW n r)) (tailW n r)
/-- The token: the begin mark on row 0, a level up to the length, the end mark, then padding. -/
def tokW (f : F .f32) (n r : BitVec 32) : BitVec 32 :=
  IntOp.addi (bodyW f n r) (IntOp.muli (bosW r) (IntOp.subi 257#32 (bodyW f n r)))

/-- The row a trip of the loop is on. -/
def rowW (base : BitVec 32) (t : Fin k1_t1_loop.trips) : BitVec 32 := Scalar.addi base (Scf.iv 0#32 1#32 t)

theorem cast16 {α : Type} (v : S16.Idx → α) (h : S16.ShapeCasts S16) : (shapeCast S16 v h : S16.Idx → α) = v := by
  exact funext fun i => congrArg v (Shape.reshapeEquiv_self _ i)

theorem bcast_lane {α : Type} {s : Shape} (x : α) (l : s.Idx) : broadcast s x l = x := rfl

section
variable (n : Vec F S16 .i32) (base : BitVec 32) (t : Fin k1_t1_loop.trips) (v : Vec F S16 .f32)

theorem pay7_tok : k1_pay7 (k1_pay6 (k1_pay12 n) base k1_pay13 k1_pay14 0#32 1#32 t v) = fun l => tokW (v l) (n l) (rowW base t) := by
  funext l
  simp only [k1_pay7, k1_pay6, k1_pay12, cast16, k1_pay3, k1_pay4, k1_pay5, k1_pay2, k1_pay1, k1_pay13, k1_pay14, pointwise, bcast_lane, tokW, bodyW, tailW, bosW, validW, clamp01, quantW, rowW]
theorem pay8_tok : k1_pay8 (k1_pay3 (k1_pay12 n) base k1_pay13 k1_pay14 0#32 1#32 t) (k1_pay4 base k1_pay13 k1_pay14 0#32 1#32 t) (k1_pay5 (k1_pay12 n) base k1_pay13 k1_pay14 0#32 1#32 t) v = fun l => tokW (v l) (n l) (rowW base t) := by
  funext l
  simp only [k1_pay8, k1_pay12, cast16, k1_pay3, k1_pay4, k1_pay5, k1_pay2, k1_pay1, k1_pay13, k1_pay14, pointwise, bcast_lane, tokW, bodyW, tailW, bosW, validW, clamp01, quantW, rowW]
theorem pay10_tok : k1_pay10 (k1_pay3 (k1_pay12 n) base k1_pay13 k1_pay14 0#32 1#32 t) (k1_pay4 base k1_pay13 k1_pay14 0#32 1#32 t) (k1_pay5 (k1_pay12 n) base k1_pay13 k1_pay14 0#32 1#32 t) (k1_pay9 v) (Named.named κ "inv_step" 0x41E2A0FF#32) = fun l => tokW (v l) (n l) (rowW base t) := by
  funext l
  simp only [k1_pay10, k1_pay9, k1_pay12, cast16, k1_pay3, k1_pay4, k1_pay5, k1_pay2, k1_pay1, k1_pay13, k1_pay14, pointwise, bcast_lane, tokW, bodyW, tailW, bosW, validW, clamp01, quantW, rowW]
theorem pay11_tok : k1_pay11 (k1_pay3 (k1_pay12 n) base k1_pay13 k1_pay14 0#32 1#32 t) (k1_pay4 base k1_pay13 k1_pay14 0#32 1#32 t) (k1_pay5 (k1_pay12 n) base k1_pay13 k1_pay14 0#32 1#32 t) v = fun l => tokW (v l) (n l) (rowW base t) := by
  funext l
  simp only [k1_pay11, k1_pay12, cast16, k1_pay3, k1_pay4, k1_pay5, k1_pay2, k1_pay1, k1_pay13, k1_pay14, pointwise, bcast_lane, tokW, bodyW, tailW, bosW, validW, clamp01, quantW, rowW]
theorem pay15_tok : k1_pay15 (k1_pay3 (k1_pay12 n) base k1_pay13 k1_pay14 0#32 1#32 t) (k1_pay4 base k1_pay13 k1_pay14 0#32 1#32 t) (k1_pay5 (k1_pay12 n) base k1_pay13 k1_pay14 0#32 1#32 t) v = fun l => tokW (v l) (n l) (rowW base t) := by
  funext l
  simp only [k1_pay15, k1_pay12, cast16, k1_pay3, k1_pay4, k1_pay5, k1_pay2, k1_pay1, k1_pay13, k1_pay14, pointwise, bcast_lane, tokW, bodyW, tailW, bosW, validW, clamp01, quantW, rowW]
end

end Cert.Proof.Run

end
-- ==== Proof.Tile.lean ====
/-
  The tile kernel, once at a symbolic (SparseCore, tile) pair: the fetches of the tile's features and of its row of
  lengths, the loop over the tile's 75 rows of 80 features, the write-out of the tile's tokens, with the value every
  token has.
-/
module

public import proofs.«01_k».proof.Proof.Tok
public import Idealize.ShloMosaic.Lib.Writes
public import Idealize.ShloMosaic.Lib.ValueIdx

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-! ## The pieces -/

theorem hdivF : 32 ∣ S192000.size 0 := ⟨6000, rfl⟩
theorem hdivL : 32 ∣ S32x16.size 0 := ⟨1, rfl⟩
abbrev flatPart (w : Fin 32) : Rect S192000 := Rect.part (s := S192000) (a₀ := 0) hdivF w
abbrev rowPart (w : Fin 32) : Rect S32x16 := Rect.part (s := S32x16) (a₀ := 0) hdivL w
abbrev flatSet (w : Fin 32) : Finset S192000.Idx := (flatPart w).set
abbrev rowSet (w : Fin 32) : Finset S32x16.Idx := (rowPart w).set

/-- The number of a tile among the 32 of a device's two SparseCores. -/
def tileNo (c : Fin 2) (s : Fin 16) : Fin 32 := ⟨16 * c.val + s.val, by omega⟩

/-- The row's lane of a flat position: 16 divides both a tile's and a row's number of features. -/
def lenAt (w : Fin 32) (p : ℕ) : S32x16.Idx := ValueIdx.ix2 w ⟨p % 16, Nat.mod_lt _ (by decide)⟩
/-- The tile a flat position is in. -/
def tileOf (j : S192000.Idx) : Fin 32 := ⟨(j 0).val / 6000, Nat.div_lt_of_lt_mul (j 0).isLt⟩

/-- The tokens of the features `fe` under the rows of lengths `le`. -/
def outVal (fe : S192000.Idx → F .f32) (le : S32x16.Idx → BitVec 32) (j : S192000.Idx) : BitVec 32 :=
  tokW (fe j) (le (lenAt (tileOf j) (j 0).val)) (BitVec.ofNat 32 ((tileOf j).val % 8 * 75 + (j 0).val % 6000 / 80))

variable (fe : (d : Dev nD) → Buf (Elt F) (fLoc d)) (le : (d : Dev nD) → Buf (Elt F) (lLoc d)) (oe : (d : Dev nD) → Buf (Elt F) (oLoc d))

abbrev fPts (d : Dev nD) (w : Fin 32) : sProp 𝕄 := fLoc d ↦[flatSet w]{fullShare} fe d
abbrev lPts (d : Dev nD) (w : Fin 32) : sProp 𝕄 := lLoc d ↦[rowSet w]{fullShare} le d
abbrev oPts (d : Dev nD) (w : Fin 32) (f : Buf (Elt F) (oLoc d)) : sProp 𝕄 := oLoc d ↦[flatSet w]{fullShare} f
/-- What a tile is handed, and what it hands back. -/
abbrev goP (d : Dev nD) (w : Fin 32) : sProp 𝕄 := iprop(fPts fe d w ∗ lPts le d w ∗ oPts d w (oe d))
abbrev tdP (d : Dev nD) (w : Fin 32) : sProp 𝕄 := iprop(fPts fe d w ∗ lPts le d w ∗ oPts d w (outVal (fe d) (le d)))

/-- The call's payloads: a SparseCore takes its sixteen tiles' pieces and brings them back. -/
def P : (K (F := F)).Pay (nD := nD) (Val := Elt F) (Name := ℕ) (U := UU) where
  st := fun q d c => match q with | 0 => bigSep Finset.univ fun i : Fin ((K (F := F)).nSub 0) => goP fe le oe d (tileNo c i)
  dn := fun q d c => match q with | 0 => bigSep Finset.univ fun i : Fin ((K (F := F)).nSub 0) => tdP fe le d (tileNo c i)
  go := fun q d c i => match q with | 0 => goP fe le oe d (tileNo c i)
  td := fun q d c i => match q with | 0 => tdP fe le d (tileNo c i)
  x := fun _ _ => iprop(emp)

instance P_storable : (P fe le oe).IsStorable where
  st q d c := match q with
    | 0 => (inferInstance : BI.Storable (upEmb : UEmb _ 𝕄) (bigSep Finset.univ fun i : Fin ((K (F := F)).nSub 0) => goP fe le oe d (tileNo c i)))
  dn q d c := match q with
    | 0 => (inferInstance : BI.Storable (upEmb : UEmb _ 𝕄) (bigSep Finset.univ fun i : Fin ((K (F := F)).nSub 0) => tdP fe le d (tileNo c i)))
  go q d c i := match q with
    | 0 => (inferInstance : BI.Storable (upEmb : UEmb _ 𝕄) (goP fe le oe d (tileNo c i)))
  td q d c i := match q with
    | 0 => (inferInstance : BI.Storable (upEmb : UEmb _ 𝕄) (tdP fe le d (tileNo c i)))

/-! ## The tile's memrefs -/

abbrev fV : Memref sig .scVector .hbm S192000 .f32 := Memref.whole main_v61_scv
abbrev lV : Memref sig .scVector .hbm S32x16 .i32 := Memref.whole main_v60_scv
abbrev oV : Memref sig .scVector .hbm S192000 .i32 := Memref.whole main_v62_scv
abbrev sF : Memref sig .scVector .vmem S6000 .f32 := Memref.whole cc1_scratch0
abbrev sO : Memref sig .scVector .vmem S6000 .i32 := Memref.whole cc1_scratch1
abbrev sL : Memref sig .scVector .vmem S16 .i32 := Memref.whole cc1_scratch2

variable (d : Dev nD) (L : grid1.Coords)

abbrev cV (L : grid1.Coords) : Fin τ.nSC := (L 0).castLE hcore1
abbrev jV (L : grid1.Coords) : Fin τ.nSub := (L 1).castLE hsub1
/-- The tile's number. -/
abbrev wL (L : grid1.Coords) : Fin 32 := tileNo (show Fin 2 from L 0) (show Fin 16 from L 1)
theorem wL_val (L : grid1.Coords) : (wL L).val = 16 * (L 0).val + (L 1).val := rfl

abbrev flatK (L : grid1.Coords) : Rect S192000 := Rect.unit (s := S192000) (k1_off1 L) S6000.size (k1_off1_inb L)
abbrev rowK (L : grid1.Coords) : Rect S32x16 := Rect.unit (s := S32x16) (k1_off2 L) S1x16.size (k1_off2_inb L)
abbrev fK (L : grid1.Coords) : Memref sig .scVector .hbm S6000 .f32 := (fV).slice (flatK L) (fun _ => rfl)
abbrev oK (L : grid1.Coords) : Memref sig .scVector .hbm S6000 .i32 := (oV).slice (flatK L) (fun _ => rfl)
abbrev lK (L : grid1.Coords) : Memref sig .scVector .hbm S16 .i32 := ((lV).slice (rowK L) (fun _ => rfl)).squeeze S16 squeezes_S1x16_S16

theorem flatK_eq : flatK L = flatPart (wL L) := by
  unfold flatK flatPart Rect.part Rect.block
  congr 1 <;> funext a
  · rw [k1_off1_eq]
    match a with
    | 0 => simp [Shape.partIx, Shape.partSize, tileNo]; omega
  · match a with
    | 0 => simp [Shape.partSize]
theorem rowK_eq : rowK L = rowPart (wL L) := by
  unfold rowK rowPart Rect.part Rect.block
  congr 1 <;> funext a
  · rw [k1_off2_eq]
    match a with
    | 0 => simp [Shape.partIx, Shape.partSize, tileNo]
    | 1 => simp [Shape.partIx, Shape.partSize]
  · match a with
    | 0 => simp [Shape.partSize]
    | 1 => simp [Shape.partSize]

theorem set_fK : (fK L).view.set = flatSet (wL L) := by
  show ((fV).view.slice (flatK L)).set = _
  rw [View.set_slice, flatK_eq]; exact Finset.map_refl
theorem set_oK : (oK L).view.set = flatSet (wL L) := by
  show ((oV).view.slice (flatK L)).set = _
  rw [View.set_slice, flatK_eq]; exact Finset.map_refl
theorem set_lK : (lK L).view.set = rowSet (wL L) := by
  show (((lV).view.slice (rowK L)).reshape S16 squeezes_S1x16_S16.numel_eq).set = _
  rw [View.set_reshape, View.set_slice]
  exact Finset.map_refl.trans (congrArg (fun r : Rect S32x16 => r.set) (rowK_eq L))

theorem pts_fK (f : Buf (Elt F) (fLoc d)) :
    ((fK L).view.loc (V d (cV L) (jV L)) ↦[(fK L).view.set]{fullShare} f : sProp 𝕄) = fLoc d ↦[flatSet (wL L)]{fullShare} f := by
  rw [set_fK]
theorem pts_oK (f : Buf (Elt F) (oLoc d)) :
    ((oK L).view.loc (V d (cV L) (jV L)) ↦[(oK L).view.set]{fullShare} f : sProp 𝕄) = oLoc d ↦[flatSet (wL L)]{fullShare} f := by
  rw [set_oK]
theorem pts_lK (f : Buf (Elt F) (lLoc d)) :
    ((lK L).view.loc (V d (cV L) (jV L)) ↦[(lK L).view.set]{fullShare} f : sProp 𝕄) = lLoc d ↦[rowSet (wL L)]{fullShare} f := by
  rw [set_lK]
theorem pts_sF (f : Buf (Elt F) ((V d (cV L) (jV L)).loc cc1_scratch0)) :
    ((sF).view.loc (V d (cV L) (jV L)) ↦{fullShare} f : sProp 𝕄) = (V d (cV L) (jV L)).loc cc1_scratch0 ↦{fullShare} f := rfl
theorem pts_sO (f : Buf (Elt F) ((V d (cV L) (jV L)).loc cc1_scratch1)) :
    ((sO).view.loc (V d (cV L) (jV L)) ↦{fullShare} f : sProp 𝕄) = (V d (cV L) (jV L)).loc cc1_scratch1 ↦{fullShare} f := rfl
theorem pts_sL (f : Buf (Elt F) ((V d (cV L) (jV L)).loc cc1_scratch2)) :
    ((sL).view.loc (V d (cV L) (jV L)) ↦{fullShare} f : sProp 𝕄) = (V d (cV L) (jV L)).loc cc1_scratch2 ↦{fullShare} f := rfl

abbrev cell0 (d : Dev nD) (c : Fin τ.nSC) (i : Fin τ.nSub) : GSem nD τ sig := (V d c i, .dma cc1_scoped0.sem)
abbrev cell1 (d : Dev nD) (c : Fin τ.nSC) (i : Fin τ.nSub) : GSem nD τ sig := (V d c i, .dma cc1_scoped1.sem)
abbrev cell2 (d : Dev nD) (c : Fin τ.nSC) (i : Fin τ.nSub) : GSem nD τ sig := (V d c i, .dma cc1_scoped2.sem)

theorem ownSems0_V :
    (ownSems0 (V d (cV L) (jV L)) : sProp 𝕄)
      = iprop(semVal (cell0 d (cV L) (jV L)) 0 ∗ semVal (cell1 d (cV L) (jV L)) 0 ∗ semVal (cell2 d (cV L) (jV L)) 0
          ∗ bigSep ((((ownCells (V d (cV L) (jV L))).erase (cell0 d (cV L) (jV L))).erase (cell1 d (cV L) (jV L))).erase (cell2 d (cV L) (jV L))) fun g => semVal g 0) := by
  unfold SparseCore.Cfg.ownSems0
  rw [SparseCore.bigSep_erase' ((mem_ownCells (g := cell0 d (cV L) (jV L))).mpr ⟨rfl, by
      show (SemLoc.dma cc1_scoped0.sem : SemLoc sig).isScoped .scVector = true; decide⟩),
    SparseCore.bigSep_erase' (Finset.mem_erase.mpr ⟨by simp [cell0, cell1]; decide, (mem_ownCells (g := cell1 d (cV L) (jV L))).mpr ⟨rfl, by
      show (SemLoc.dma cc1_scoped1.sem : SemLoc sig).isScoped .scVector = true; decide⟩⟩),
    SparseCore.bigSep_erase' (Finset.mem_erase.mpr ⟨by simp [cell1, cell2]; decide, Finset.mem_erase.mpr ⟨by simp [cell0, cell2]; decide,
      (mem_ownCells (g := cell2 d (cV L) (jV L))).mpr ⟨rfl, by show (SemLoc.dma cc1_scoped2.sem : SemLoc sig).isScoped .scVector = true; decide⟩⟩⟩)]

theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ (∃ f, (V d (cV L) (jV L)).loc cc1_scratch2 ↦{fullShare} f)
          ∗ bigSep ((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩),
    SparseCore.bigSep_erase' (Finset.mem_erase.mpr ⟨fun e => absurd (Proc.devRef_injective _ e) (show (cc1_scratch2 : Ref sig .scVector) ≠ cc1_scratch1 by decide),
      Finset.mem_erase.mpr ⟨fun e => absurd (Proc.devRef_injective _ e) (show (cc1_scratch2 : Ref sig .scVector) ≠ cc1_scratch0 by decide),
      SparseCore.Cfg.mem_ownRefs_of_owner (p := Proc.scVector (cV L) (jV L)) (b := (Proc.scVector (cV L) (jV L)).devRef cc1_scratch2) rfl⟩⟩)]

/-! ## The loop -/

/-- The tile's first row within its sequence, as the body computes it. -/
def baseW (i : grid1.Coords) : BitVec 32 :=
  let v1 : BitVec 32 := Scalar.addi (Scalar.muli (BitVec.ofNat 32 (i 0).val) 16#32) (BitVec.ofNat 32 (i 1).val)
  let v6 : BitVec 32 := Scalar.select (Scalar.cmpi .eq 8#32 0#32) 1#32 8#32
  let v7 : BitVec 32 := Scalar.remsi v1 v6
  let v12 : BitVec 1 := Scalar.andi (Scalar.xori (Scalar.cmpi .slt v7 0#32) (Scalar.cmpi .slt v6 0#32)) (Scalar.cmpi .ne v7 0#32)
  Scalar.muli (Scalar.select v12 (Scalar.addi v7 v6) v7) 75#32
theorem baseW_eq : ∀ i : grid1.Coords, baseW i = BitVec.ofNat 32 ((16 * (i 0).val + (i 1).val) % 8 * 75) := by decide +kernel

theorem rowW_eq (base : BitVec 32) (t : Fin k1_t1_loop.trips) : rowW base t = IntOp.addi base (BitVec.ofNat 32 t.val) := by
  simp [rowW, Scf.iv, Scalar.addi]

/-- A row's lane of a position. -/
def lane16 (p : ℕ) : S16.Idx := fun | 0 => ⟨p % 16, Nat.mod_lt _ (by decide)⟩

/-- What the tile's token scratch holds at `j` once row `j / 80` is done, over the fetched features and lengths. -/
def tileVal (g : S6000.Idx → F .f32) (n : S16.Idx → BitVec 32) (base : BitVec 32) (j : S6000.Idx) : BitVec 32 :=
  tokW (g j) (n (lane16 (j 0).val)) (IntOp.addi base (BitVec.ofNat 32 ((j 0).val / 80)))

/-- The loop's invariant: the features' scratch, and the token scratch right on the rows done. -/
def inv (g : Buf (Elt F) ((V d (cV L) (jV L)).loc cc1_scratch0)) (n : S16.Idx → BitVec 32) (base : BitVec 32) (t : ℕ) (_ : Unit) : sProp 𝕄 :=
  iprop(((sF).view.loc (V d (cV L) (jV L)) ↦{fullShare} g)
    ∗ ∃ f, ⌜∀ j : S6000.Idx, (j 0).val < 80 * t → f j = tileVal g n base j⌝ ∗ (sO).view.loc (V d (cV L) (jV L)) ↦{fullShare} f)

/-- One store of a row: 16 of the row's 80 features from the row's offset `16 * r` on. -/
theorem piece_val (g : S6000.Idx → F .f32) (n : S16.Idx → BitVec 32) (base : BitVec 32) (t : Fin k1_t1_loop.trips) (r : ℕ) (hr : r < 5)
    (o : Fin 1 → ℕ) (ho : o 0 = 80 * t.val + 16 * r) (h : ∀ a, o a + S16.size a ≤ S6000.size a) (x : S16.Idx) :
    tokW (View.readAt (Elt F) (View.whole (cc1_scratch0 : Ref sig .scVector)) (Rect.unit (s := S6000) o S16.size h).toLoadRect g x) (n x) (rowW base t)
      = tileVal g n base ((Rect.unit (s := S6000) o S16.size h).emb x) := by
  have hx : (x 0).val < 16 := (x 0).isLt
  have he : (((Rect.unit (s := S6000) o S16.size h).emb x) 0).val = 80 * t.val + 16 * r + (x 0).val := by
    show o 0 + 1 * (x 0).val = _
    rw [ho]; omega
  unfold tileVal
  rw [he, rowW_eq, show (80 * t.val + 16 * r + (x 0).val) / 80 = t.val by omega]
  have hn : lane16 (80 * t.val + 16 * r + (x 0).val) = x := by
    funext a; match a with | 0 => exact Fin.ext (show (80 * t.val + 16 * r + (x 0).val) % 16 = _ by omega)
  rw [hn]; rfl

/-- What the five stores of a row leave: the rows done and this one right. -/
theorem pieces_val (g : S6000.Idx → F .f32) (n : S16.Idx → BitVec 32) (base : BitVec 32) (t : Fin k1_t1_loop.trips)
    (f : S6000.Idx → BitVec 32) (hf : ∀ j : S6000.Idx, (j 0).val < 80 * t.val → f j = tileVal g n base j)
    (ps : List (View.Piece (Elt F) S6000 .i32))
    (hG : ∀ p ∈ ps, ∀ x : p.1.shape.Idx, p.2 x = tileVal g n base (p.1.emb x))
    (hm : ∀ r < 5, ∃ p ∈ ps, ∀ y : S6000.Idx, 80 * t.val + 16 * r ≤ (y 0).val → (y 0).val < 80 * t.val + 16 * r + 16 → y ∈ p.1.set)
    (hn : ∀ p ∈ ps, ∀ y : S6000.Idx, (y 0).val < 80 * t.val → y ∉ p.1.set)
    (j : S6000.Idx) (hj : (j 0).val < 80 * (t.val + 1)) :
    (View.whole (cc1_scratch1 : Ref sig .scVector)).writes (Elt F) f ps j = tileVal g n base j := by
  show (View.whole (cc1_scratch1 : Ref sig .scVector)).read (Elt F) ((View.whole (cc1_scratch1 : Ref sig .scVector)).writes (Elt F) f ps) j = _
  by_cases h : (j 0).val < 80 * t.val
  · rw [View.read_writes_apply_of_forall_not_mem _ _ j ps fun p hp => hn p hp j h]; exact hf j h
  · obtain ⟨p, hp, hy⟩ := hm (((j 0).val - 80 * t.val) / 16) (by omega)
    exact View.read_writes_apply_of_pieces _ _ (tileVal g n base) ps hG j ⟨p, hp, hy j (by omega) (by omega)⟩

theorem mem_unit (o : Fin 1 → ℕ) (k : ℕ) (ho : o 0 = k) (h : ∀ a, o a + S16.size a ≤ S6000.size a) (y : S6000.Idx) :
    y ∈ (Rect.unit (s := S6000) o S16.size h).set ↔ k ≤ (y 0).val ∧ (y 0).val < k + 16 := by
  rw [Rect.mem_set_unit]
  constructor
  · intro H; have := H 0; rw [ho] at this; exact this
  · intro H a; match a with | 0 => rw [ho]; exact H

theorem off3 (t : Fin k1_t1_loop.trips) (r : Fin 5) : k1_off3 t (BitVec.ofNat 32 (16 * r.val)) 0 = 80 * t.val + 16 * r.val := by
  rw [k1_off3_eq]; rfl

theorem step (g : Buf (Elt F) ((V d (cV L) (jV L)).loc cc1_scratch0)) (n : Vec F S16 .i32) (base : BitVec 32) (t : Fin k1_t1_loop.trips) :
    inv d L g n base t.val ()
      ⊢ wp frame (wpE (defs₀ (F := F)) 𝒱₀ (V d (cV L) (jV L)) none) Set.univ
          (k1_t1_body L fV (Memref.isWhole_whole _) lV (Memref.isWhole_whole _) oV (Memref.isWhole_whole _)
            sF (Memref.isWhole_whole _) sO (Memref.isWhole_whole _) sL (Memref.isWhole_whole _) cc1_scoped0 cc1_scoped1 cc1_scoped2 n base t ())
          fun _ => inv d L g n base (t.val + 1) () := by
  simp only [k1_t1_body, k1_part1_eq_skeleton, k1_part2_eq_skeleton, k1_part3_eq_skeleton, k1_part1_skel, k1_part2_skel, k1_part3_skel]
  unfold inv
  iintro ⟨Hg, %f, %hf, Ho⟩
  sl_exec
  sl_step
  isplitl [Hg]; · iexact Hg
  iexists _; isplitr; swap; (· iexact Ho)
  ipureintro
  dsimp only
  simp only [pay7_tok, pay8_tok, pay10_tok, pay11_tok, pay15_tok]
  refine pieces_val g n base t f hf _ ?_ ?_ ?_
  · simp only [List.forall_mem_cons]
    exact ⟨piece_val g n base t 4 (by decide) _ (off3 t 4) _, piece_val g n base t 3 (by decide) _ (off3 t 3) _,
      piece_val g n base t 2 (by decide) _ (off3 t 2) _, piece_val g n base t 1 (by decide) _ (off3 t 1) _,
      piece_val g n base t 0 (by decide) _ (off3 t 0) _, fun _ h => absurd h List.not_mem_nil⟩
  · intro r hr
    match r, hr with
    | 4, _ => exact ⟨_, .head _, fun y h1 h2 => (mem_unit _ _ (off3 t 4) (k1_off3_inb t 4) y).2 ⟨h1, h2⟩⟩
    | 3, _ => exact ⟨_, .tail _ (.head _), fun y h1 h2 => (mem_unit _ _ (off3 t 3) (k1_off3_inb t 3) y).2 ⟨h1, h2⟩⟩
    | 2, _ => exact ⟨_, .tail _ (.tail _ (.head _)), fun y h1 h2 => (mem_unit _ _ (off3 t 2) (k1_off3_inb t 2) y).2 ⟨h1, h2⟩⟩
    | 1, _ => exact ⟨_, .tail _ (.tail _ (.tail _ (.head _))), fun y h1 h2 => (mem_unit _ _ (off3 t 1) (k1_off3_inb t 1) y).2 ⟨h1, h2⟩⟩
    | 0, _ => exact ⟨_, .tail _ (.tail _ (.tail _ (.tail _ (.head _)))), fun y h1 h2 => (mem_unit _ _ (off3 t 0) (k1_off3_inb t 0) y).2 ⟨h1, h2⟩⟩
  · simp only [List.forall_mem_cons]
    exact ⟨fun y h hm => absurd ((mem_unit _ _ (off3 t 4) _ y).1 hm).1 (by omega), fun y h hm => absurd ((mem_unit _ _ (off3 t 3) _ y).1 hm).1 (by omega),
      fun y h hm => absurd ((mem_unit _ _ (off3 t 2) _ y).1 hm).1 (by omega), fun y h hm => absurd ((mem_unit _ _ (off3 t 1) _ y).1 hm).1 (by omega),
      fun y h hm => absurd ((mem_unit _ _ (off3 t 0) _ y).1 hm).1 (by omega), fun _ h => absurd h List.not_mem_nil⟩

end Cert.Proof.Run

end
-- ==== Proof.TileBody.lean ====
/-
  The tile kernel's whole body with its value, the obligation the launch asks of it, and the split of the call's operands
  over the 32 tiles.
-/
module

public import proofs.«01_k».proof.Proof.Tile

@[expose] public section

set_option maxRecDepth 16384

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

variable (fe : (d : Dev nD) → Buf (Elt F) (fLoc d)) (le : (d : Dev nD) → Buf (Elt F) (lLoc d)) (oe : (d : Dev nD) → Buf (Elt F) (oLoc d))
variable (d : Dev nD) (L : grid1.Coords)

theorem fK_emb (y : S6000.Idx) : (((fK L).view.emb y) 0).val = 6000 * (wL L).val + (y 0).val := by
  show k1_off1 L 0 + 1 * (y 0).val = _
  rw [k1_off1_eq, wL_val]
  show 96000 * (L 0).val + 6000 * (L 1).val + 1 * (y 0).val = _
  omega

theorem lK_emb (x : S16.Idx) : (lK L).view.emb x = ValueIdx.ix2 (wL L) (x 0) := by
  have h0 : (k1_off2 L) 0 = 16 * (L 0).val + (L 1).val := by rw [k1_off2_eq]; rfl
  have h1 : (k1_off2 L) 1 = 0 := by rw [k1_off2_eq]; rfl
  have he : (Shape.reshapeEquiv (s := S1x16) (s' := S16) squeezes_S1x16_S16.numel_eq x) = Fin.cons ⟨0, Nat.one_pos⟩ x :=
    Shape.reshapeEquiv_cons_one (n := 1) (d := ![16]) _ x
  show (rowK L).emb (Shape.reshapeEquiv (s := S1x16) (s' := S16) squeezes_S1x16_S16.numel_eq x) = _
  rw [he]
  funext a
  match a with
  | 0 => exact Fin.ext (show (k1_off2 L) 0 + 1 * 0 = 16 * (L 0).val + (L 1).val by rw [h0]; rfl)
  | 1 => exact Fin.ext (show (k1_off2 L) 1 + 1 * (x 0).val = (x 0).val by rw [h1]; omega)

/-- One store of the whole of a view is read back as stored. -/
theorem read_writes_whole {sig : RefSig} {κ : Kind} {sp : Space} {s : Shape} {e : EltTy} (v : View sig κ sp s e) (f : v.ty.Contents (Elt F))
    (w : s.Idx → Elt F e) (y : s.Idx) : v.read (Elt F) (v.writes (Elt F) f [⟨Rect.whole s, w⟩]) y = w y := by
  have := View.read_writes_cons_emb v (Val := Elt F) f (Rect.whole s) w [] y
  rwa [Rect.emb_whole_apply] at this

/-- What holds at every element a view places holds on the view's set. -/
theorem forall_set {sig : RefSig} {κ : Kind} {sp : Space} {s : Shape} {e : EltTy} (v : View sig κ sp s e) (p : v.ty.Idx → Prop)
    (h : ∀ y, p (v.emb y)) : ∀ j ∈ v.set, p j := by
  intro j hj
  obtain ⟨y, -, rfl⟩ := Finset.mem_map.1 hj
  exact h y

/-- The tile's tokens at the tile's own position `y` are the tokens' value at the position `i` it has in the array. -/
theorem tile_out (g : S192000.Idx → F .f32) (n : S32x16.Idx → BitVec 32) (w : Fin 32) (y : S6000.Idx) (i : S192000.Idx)
    (hi : (i 0).val = 6000 * w.val + (y 0).val) :
    tokW (g i) (n (ValueIdx.ix2 w (lane16 (y 0).val 0))) (IntOp.addi (BitVec.ofNat 32 (w.val % 8 * 75)) (BitVec.ofNat 32 ((y 0).val / 80)))
      = outVal g n i := by
  have hy : (y 0).val < 6000 := (y 0).isLt
  have ht : tileOf i = w := Fin.ext (show (i 0).val / 6000 = w.val by omega)
  unfold outVal
  rw [ht, hi]
  have h1 : (6000 * w.val + (y 0).val) % 6000 = (y 0).val := by omega
  have h2 : lenAt w (6000 * w.val + (y 0).val) = ValueIdx.ix2 w (lane16 (y 0).val 0) := by
    unfold lenAt lane16
    exact congrArg _ (Fin.ext (show (6000 * w.val + (y 0).val) % 16 = (y 0).val % 16 by omega))
  rw [h1, h2]
  refine congrArg _ ?_
  show BitVec.ofNat 32 _ + BitVec.ofNat 32 _ = _
  rw [← BitVec.ofNat_add]

theorem out_tile (f : S6000.Idx → BitVec 32)
    (hf : ∀ y, f y = tileVal (fun y => fe d ((fK L).view.emb y)) (fun x => le d ((lK L).view.emb x)) (baseW L) y) (y : S6000.Idx) :
    f y = outVal (fe d) (le d) ((fK L).view.emb y) := by
  rw [hf]
  unfold tileVal
  beta_reduce
  rw [lK_emb, baseW_eq]
  exact tile_out (fe d) (le d) (wL L) y _ (fK_emb L y)

theorem oK_read (o : S192000.Idx → BitVec 32) (y : S6000.Idx) :
    (oK L).view.read (Elt F) o y = o ((oK L).view.emb y) := rfl

theorem oK_writes (o : S192000.Idx → BitVec 32) (f : S6000.Idx → BitVec 32) (y : S6000.Idx) :
    (oK L).view.writes (Elt F) o [⟨Rect.whole S6000, f⟩] ((oK L).view.emb y) = f y := by
  have h := read_writes_whole (F := F) (oK L).view o f y
  generalize (oK L).view.writes (Elt F) o [⟨Rect.whole S6000, f⟩] = X at h ⊢
  exact h

/-- The tile's scratch of tokens, written out at the tile's piece, is the tokens' value there. -/
theorem out_val (f : S6000.Idx → BitVec 32)
    (hf : ∀ y, f y = tileVal (fun y => fe d ((fK L).view.emb y)) (fun x => le d ((lK L).view.emb x)) (baseW L) y) :
    ∀ j ∈ flatSet (wL L), (oK L).view.writes (Elt F) (oe d) [⟨Rect.whole S6000, f⟩] j = outVal (fe d) (le d) j := by
  rw [← set_oK]
  exact forall_set (oK L).view _ fun y => (oK_writes (F := F) L (oe d) f y).trans (out_tile fe le d L f hf y)

theorem tile_body (hF : (K (F := F)).Facts) (O : CellTallies nD τ sig (HIx 1)) (W : Waits sig (HIx 1)) (hO : ∀ g, O g none = 0) :
    iprop(levAts (K (F := F)).L (K (F := F)).lev ∗ emp ∗ goP fe le oe d (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__sc_body L fV (Memref.isWhole_whole _) lV (Memref.isWhole_whole _) oV (Memref.isWhole_whole _)
            sF (Memref.isWhole_whole _) sO (Memref.isWhole_whole _) sL (Memref.isWhole_whole _) cc1_scoped0 cc1_scoped1 cc1_scoped2)
          fun _ => iprop(tdP fe le d (wL L) ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  rw [(K (F := F)).scopedBufs_V hF d (cV L) (jV L), SparseCore.Cfg.scopedSems0_V (Val := Elt F) d (cV L) (jV L), ownSems0_V, ownBufs_V]
  rw [cc1__sc_body_eq_skeleton]
  unfold cc1__sc_body_skel
  rw [k1_part4_eq_skeleton]
  unfold k1_part4_skel
  iintro ⟨#Hlv, -, ⟨Hf, Hl, Ho⟩, ⟨⟨%fs, Hs⟩, ⟨%fo, Hc⟩, ⟨%fl, Hn⟩, Hbufs⟩, ⟨HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hf' := (Entails.of_eq (pts_fK (F := F) d L _).symm) $$ Hf
  ihave Hl' := (Entails.of_eq (pts_lK (F := F) d L _).symm) $$ Hl
  ihave Ho' := (Entails.of_eq (pts_oK (F := F) d L _).symm) $$ Ho
  ihave Hs' := (Entails.of_eq (pts_sF (F := F) d L _).symm) $$ Hs
  ihave Hc' := (Entails.of_eq (pts_sO (F := F) d L _).symm) $$ Hc
  ihave Hn' := (Entails.of_eq (pts_sL (F := F) d L _).symm) $$ Hn
  sl_exec
  rw [bind_assoc]
  sl_for (inv d L (View.write (Elt F) (sF).view fs (tile_body.sl.dma0 fe d L) Finset.univ)
      (View.readAt (Elt F) (sL).view (Rect.unit ![0] S16.size inb_S16_S16_0).toLoadRect
        (View.write (Elt F) (sL).view fl (tile_body.sl.dma0_1 le d L) Finset.univ)) (baseW L)) $$ [Hs' Hc']
  case region => intro k _; exact step d L _ _ _ k
  · unfold inv
    isplitl [Hs']; · iexact Hs'
    iexists _; isplitr; swap; (· iexact Hc')
    ipureintro; intro j hj; exact absurd hj (by omega)
  iintro %_ HI
  unfold inv
  icases HI with ⟨Hs', %f, %hf, Hc'⟩
  sl_exec
  sl_step
  have hv : ∀ y : S6000.Idx, f y = tileVal (fun y => fe d ((fK L).view.emb y)) (fun x => le d ((lK L).view.emb x)) (baseW L) y := by
    intro y
    refine (hf y (show (y 0).val < 6000 from (y 0).isLt)).trans ?_
    have e1 : View.write (Elt F) (sF).view fs (tile_body.sl.dma0 fe d L) Finset.univ = fun y => fe d ((fK L).view.emb y) :=
      View.write_whole_univ (Val := Elt F) cc1_scratch0 fs _
    have e2 : View.readAt (Elt F) (sL).view (Rect.unit ![0] S16.size inb_S16_S16_0).toLoadRect
        (View.write (Elt F) (sL).view fl (tile_body.sl.dma0_1 le d L) Finset.univ) = fun x => le d ((lK L).view.emb x) :=
      (congrArg (View.readAt (Elt F) (sL).view (Rect.unit ![0] S16.size inb_S16_S16_0).toLoadRect)
        (View.write_whole_univ (Val := Elt F) cc1_scratch2 fl _)).trans
        (Memref.readAt_unit_zero (Elt F) cc1_scratch2 (funext fun a => match a with | 0 => rfl) inb_S16_S16_0 _)
    rw [e1, e2]
  isplitl [Hf' Hl' Ho']
  · isplitl [Hf']; · iapply (Entails.of_eq (pts_fK (F := F) d L _)); iexact Hf'
    isplitl [Hl']; · iapply (Entails.of_eq (pts_lK (F := F) d L _)); iexact Hl'
    ihave Ho := (Entails.of_eq (pts_oK (F := F) d L _)) $$ Ho'
    iapply (Entails.of_eq (pointsTo_congr (out_val fe le oe d L f hv)))
    iexact Ho
  isplitl [Hs' Hc' Hn' Hbufs]
  · isplitl [Hs']; · iexists _; iexact Hs'
    isplitl [Hc']; · iexists _; iexact Hc'
    isplitl [Hn']; · iexists _; iexact Hn'
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p _
  rcases p.2 with _ | q
  · exact .inr (.inl rfl)
  · exact .inr (.inr (congrArg some (Subsingleton.elim q 0)))

/-! ## The obligation -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1__sc_body (coordsV c s)
          fV (Memref.isWhole_whole _) lV (Memref.isWhole_whole _) oV (Memref.isWhole_whole _)
          sF (Memref.isWhole_whole _) sO (Memref.isWhole_whole _) sL (Memref.isWhole_whole _) cc1_scoped0 cc1_scoped1 cc1_scoped2) ⟨⟩ c s := rfl

theorem tileObl (hF : (K (F := F)).Facts) : (K (F := F)).TileObl (D (F := F)) 𝒱 (P fe le oe) v₀ 0 := by
  intro d c i O W hO _ _
  simp only [show (P fe le oe).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body fe le oe d (coordsV ⟨_, hci.1⟩ ⟨_, hci.2⟩) hF O W hO

theorem vecSplit : (K (F := F)).VecSplit' (P fe le oe) 0 := by
  intro d c
  show (bigSep Finset.univ fun i : Fin ((K (F := F)).nSub 0) => goP fe le oe d (tileNo c i)) ⊢ |={Set.univ}=> iprop(
      (bigSep Finset.univ fun i : Fin ((K (F := F)).nSub 0) => goP fe le oe d (tileNo c i))
      ∗ ((bigSep Finset.univ fun i : Fin ((K (F := F)).nSub 0) => tdP fe le d (tileNo c i))
          -∗ (bigSep Finset.univ fun i : Fin ((K (F := F)).nSub 0) => tdP fe le d (tileNo c i))))
  iintro H; imodintro
  isplitl [H]; · iexact H
  iintro H; iexact H

/-! ## The operands over the tiles -/

theorem flat_disjoint : ∀ i ∈ (Finset.univ : Finset (Fin 32)), ∀ j ∈ (Finset.univ : Finset (Fin 32)), i ≠ j → Disjoint (flatSet i) (flatSet j) :=
  fun _ _ _ _ h => Rect.part_disjoint hdivF h
theorem row_disjoint : ∀ i ∈ (Finset.univ : Finset (Fin 32)), ∀ j ∈ (Finset.univ : Finset (Fin 32)), i ≠ j → Disjoint (rowSet i) (rowSet j) :=
  fun _ _ _ _ h => Rect.part_disjoint hdivL h
theorem flat_cover : (Finset.univ : Finset (Fin 32)).biUnion flatSet = Finset.univ := Rect.biUnion_part hdivF
theorem row_cover : (Finset.univ : Finset (Fin 32)).biUnion rowSet = Finset.univ := Rect.biUnion_part hdivL

theorem fPts_tiles (f : Buf (Elt F) (fLoc d)) :
    (fLoc d ↦{fullShare} f : sProp 𝕄) = bigSep Finset.univ fun w : Fin 32 => fLoc d ↦[flatSet w]{fullShare} f := by
  rw [← pointsTo_biUnion Finset.univ (ℓ := fLoc d) flatSet flat_disjoint, flat_cover]
theorem oPts_tiles (f : Buf (Elt F) (oLoc d)) :
    (oLoc d ↦{fullShare} f : sProp 𝕄) = bigSep Finset.univ fun w : Fin 32 => oLoc d ↦[flatSet w]{fullShare} f := by
  rw [← pointsTo_biUnion Finset.univ (ℓ := oLoc d) flatSet flat_disjoint, flat_cover]
theorem lPts_tiles (f : Buf (Elt F) (lLoc d)) :
    (lLoc d ↦{fullShare} f : sProp 𝕄) = bigSep Finset.univ fun w : Fin 32 => lLoc d ↦[rowSet w]{fullShare} f := by
  rw [← pointsTo_biUnion Finset.univ (ℓ := lLoc d) rowSet row_disjoint, row_cover]

/-- The tiles of the two SparseCores, numbered. -/
def tileEquiv : Fin 2 × Fin 16 ≃ Fin 32 where
  toFun p := tileNo p.1 p.2
  invFun w := (⟨w.val / 16, by omega⟩, ⟨w.val % 16, by omega⟩)
  left_inv p := by
    refine Prod.ext (Fin.ext ?_) (Fin.ext ?_)
    · show (16 * p.1.val + p.2.val) / 16 = _; omega
    · show (16 * p.1.val + p.2.val) % 16 = _; omega
  right_inv w := Fin.ext (show 16 * (w.val / 16) + w.val % 16 = w.val by omega)

theorem bigSep_tiles (Φ : Fin 32 → sProp 𝕄) :
    (bigSep Finset.univ fun c : Fin ((K (F := F)).nCore 0) => bigSep Finset.univ fun i : Fin ((K (F := F)).nSub 0) => Φ (tileNo c i))
      = bigSep Finset.univ Φ := by
  show (bigSep Finset.univ fun c : Fin 2 => bigSep Finset.univ fun i : Fin 16 => Φ (tileNo c i)) = _
  rw [← SparseCore.bigSep_product Finset.univ Finset.univ (fun p : Fin 2 × Fin 16 => Φ (tileNo p.1 p.2)), Finset.univ_product_univ,
    show (fun p : Fin 2 × Fin 16 => Φ (tileNo p.1 p.2)) = fun p => Φ (tileEquiv.toEmbedding p) from rfl,
    ← BI.bigSep_map tileEquiv.toEmbedding, Finset.map_univ_equiv]

end Cert.Proof.Run

end
-- ==== Proof.Main.lean ====
/-
  The idealized program's run over any floats: its host lines, its TensorCore call and its SparseCore call in order, what
  every buffer of the TensorCore holds at the end, and every counter back at zero.
-/
module

public import proofs.«01_k».proof.Proof.Ops
public import proofs.«01_k».proof.Proof.Region
public import proofs.«01_k».proof.Proof.TileBody
public import Idealize.ShloMosaic.Lib.SparseCore.Quiescent

@[expose] public section

noncomputable section

namespace Cert.Proof.Run

open Cert.KernelIdeal Cert.KernelIdeal.Gen

open Idealize.ShloMosaic
open Idealize.ShloMosaic.TcCoe
open Idealize.ShloMosaic.SparseCore (S V T)
open Idealize.ShloMosaic.SparseCore.Cfg (HIx)
open Idealize.ShloMosaic.StableHlo (seq after held launchContents)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig (HIx 1) (Elt F) ℕ UU ℕ

variable (m : (ℓ : Loc nD τ sig) → Buf (Elt F) ℓ) (ρ : Dev nD → PrngReg)

/-! ## What the buffers hold, between the lines and the calls -/

/-- Before the TensorCore call. -/
def VA (d : Dev nD) : Valuation τ sig (Elt F) := after ops1 (launchContents m d)
/-- After the TensorCore call: the features are written. -/
def VB (d : Dev nD) : Valuation τ sig (Elt F) :=
  Function.update (VA m d) (main_v49 : DevRef τ sig) (k0_pay1 (F := F) (VA m d main_v48) (VA m d main_v47) (VA m d main_v9))
/-- Before the SparseCore call. -/
def VC (d : Dev nD) : Valuation τ sig (Elt F) := after ops2 (VB m d)
/-- After the SparseCore call: the tokens are written. -/
def VD (d : Dev nD) : Valuation τ sig (Elt F) :=
  Function.update (VC m d) (main_v62 : DevRef τ sig) (outVal (F := F) (VC m d main_v61) (VC m d main_v60))
/-- At the end. -/
def VE (d : Dev nD) : Valuation τ sig (Elt F) := after ops3 (VD m d)

theorem VB_out (d : Dev nD) : VB m d main_v49 = k0_pay1 (F := F) (VA m d main_v48) (VA m d main_v47) (VA m d main_v9) := by
  unfold VB; exact Function.update_self ..
theorem VB_ne (d : Dev nD) (b : Ref sig .tc) (h : b ≠ main_v49) : VB m d b = VA m d b := by
  unfold VB; exact Function.update_of_ne (StableHlo.devRef_ne_of_ne h) _ _
theorem VD_out (d : Dev nD) : VD m d main_v62 = outVal (F := F) (VC m d main_v61) (VC m d main_v60) := by
  unfold VD; exact Function.update_self ..
theorem VD_ne (d : Dev nD) (b : Ref sig .tc) (h : b ≠ main_v62) : VD m d b = VC m d b := by
  unfold VD; exact Function.update_of_ne (StableHlo.devRef_ne_of_ne h) _ _

/-- The call's payloads at those contents. -/
abbrev PP : (K (F := F)).Pay (nD := nD) (Val := Elt F) (Name := ℕ) (U := UU) :=
  P (F := F) (fun d => VC m d main_v61) (fun d => VC m d main_v60) (fun d => VC m d main_v62)

/-! ## The launch element -/

abbrev adm : (p : Fin 1) → (pcfgs (F := F) p).Adm := fun p => match p with | 0 => ⟨fun i => i.elim0, trivial⟩

theorem phinj : Function.Injective (Pipeline.cellOf (nD := nD) (τ := τ) (Pipeline.pin (pcfgs (F := F)) adm)) := cellOf_inj

def u₀ : UU := (initOf (K (F := F)).hsCells (K (F := F)).hsToks,
  (initOf (Pipeline.cells (Pipeline.pin (pcfgs (F := F)) adm) phinj) (Pipeline.launchToks (Pipeline.pin (pcfgs (F := F)) adm) phinj), 1))

/-- The TensorCore call's cells and tokens, on device `d`. -/
abbrev GG (d : Dev nD) : sProp 𝕄 :=
  iprop(Pipeline.cellsGhost (Pipeline.pin (pcfgs (F := F)) adm) EP 0 d ∗ Pipeline.toksInit (Pipeline.pin (pcfgs (F := F)) adm) EP 0 d)

theorem bigSep_emp' {I : Type} (s : Finset I) : (bigSep s fun _ => iprop(emp)) = (iprop(emp) : sProp 𝕄) := bigSep_emp_const s

theorem GG_join :
    (iprop((bigSep Finset.univ fun d : Dev nD => bigSep Finset.univ fun p : Fin 1 => Pipeline.cellsGhost (Pipeline.pin (pcfgs (F := F)) adm) EP p d)
        ∗ bigSep Finset.univ fun d : Dev nD => bigSep Finset.univ fun p : Fin 1 => Pipeline.toksInit (Pipeline.pin (pcfgs (F := F)) adm) EP p d) : sProp 𝕄)
      = bigSep Finset.univ fun d : Dev nD => GG (F := F) d := by
  rw [← bigSep_sep']
  refine bigSep_congr fun d _ => ?_
  rw [bigSep_univ_of_subsingleton (0 : Fin 1), bigSep_univ_of_subsingleton (0 : Fin 1)]

theorem hu₀ : (ownU (u₀ (F := F)) : sProp 𝕄)
    ⊢ |={Set.univ}=> iprop(BI.own (EH (initOf (K (F := F)).hsCells (K (F := F)).hsToks)) ∗ (bigSep Finset.univ fun d : Dev nD => GG (F := F) d)
        ∗ bigSep Finset.univ fun thr : Thread nD τ => bigSep Finset.univ fun q : Fin 1 => (PP m).x q thr) := by
  unfold u₀
  iintro Hu
  ihave H := (ownU_pair (initOf (K (F := F)).hsCells (K (F := F)).hsToks) _) $$ Hu
  icases H with ⟨HH, HP⟩
  ihave HP' := (show (BI.own (embR (nD := nD) (τ := τ) (sig := sig) (Ix := HIx 1) (Val := Elt F) (Name := ℕ) (Lvl := ℕ) (A := UH) (B := UP × Counters)
      (initOf (Pipeline.cells (Pipeline.pin (pcfgs (F := F)) adm) phinj) (Pipeline.launchToks (Pipeline.pin (pcfgs (F := F)) adm) phinj), (1 : Counters))) : sProp 𝕄)
      ⊢ BI.own (EP (initOf (Pipeline.cells (Pipeline.pin (pcfgs (F := F)) adm) phinj) (Pipeline.launchToks (Pipeline.pin (pcfgs (F := F)) adm) phinj))) from .rfl) $$ HP
  imod (Pipeline.fund_ghost (Pipeline.pin (pcfgs (F := F)) adm) EP phinj) $$ HP' with ⟨HC, HT⟩
  imodintro
  isplitl [HH]; · iexact HH
  isplitl [HC HT]
  · iapply (Entails.of_eq GG_join)
    isplitl [HC]
    · iexact HC
    iexact HT
  rw [show (bigSep Finset.univ fun thr : Thread nD τ => bigSep Finset.univ fun q : Fin 1 => (PP (F := F) m).x q thr) = bigSep Finset.univ fun _ => iprop(emp) from
    bigSep_congr fun _ _ => bigSep_univ_of_subsingleton (0 : Fin 1), bigSep_emp']
  iempintro

/-! ## The three arrays of the SparseCore call, in and out of the buffers -/

/-- The SparseCore call's arrays. -/
abbrev scRefs : Finset (DevRef τ sig) := {(main_v61 : DevRef τ sig), (main_v60 : DevRef τ sig), (main_v62 : DevRef τ sig)}

theorem scRefs_sub : scRefs ⊆ Pipeline.ucRefs τ sig := by
  intro b hb
  simp only [scRefs, Finset.mem_insert, Finset.mem_singleton] at hb
  rcases hb with rfl | rfl | rfl <;> exact Pipeline.devRef_mem_ucRefs (by decide)

theorem held_sc (d : Dev nD) (W : Valuation τ sig (Elt F)) :
    (held (T d : Thread nD τ) scRefs W : sProp 𝕄)
      = iprop((fLoc d ↦{fullShare} W main_v61) ∗ (lLoc d ↦{fullShare} W main_v60) ∗ oLoc d ↦{fullShare} W main_v62) := by
  unfold held scRefs
  rw [SparseCore.bigSep_insert' (by
      simp only [Finset.mem_insert, Finset.mem_singleton, not_or]
      exact ⟨StableHlo.devRef_ne_of_ne (by decide), StableHlo.devRef_ne_of_ne (by decide)⟩),
    SparseCore.bigSep_insert' (by
      simp only [Finset.mem_singleton]
      exact StableHlo.devRef_ne_of_ne (by decide)), bigSep_singleton]

theorem st0_eq (d : Dev nD) :
    (bigSep Finset.univ fun c : Fin ((K (F := F)).nCore 0) => (PP m).st 0 d c)
      = (held (T d : Thread nD τ) scRefs (VC m d) : sProp 𝕄) := by
  rw [held_sc, fPts_tiles d, lPts_tiles d, oPts_tiles d, ← bigSep_sep', ← bigSep_sep']
  exact bigSep_tiles (F := F) (fun w => goP (F := F) _ _ _ d w)
theorem dn0_eq (d : Dev nD) :
    (bigSep Finset.univ fun c : Fin ((K (F := F)).nCore 0) => (PP m).dn 0 d c)
      = (held (T d : Thread nD τ) scRefs (VD m d) : sProp 𝕄) := by
  rw [held_sc, VD_out, VD_ne m d main_v61 (by decide), VD_ne m d main_v60 (by decide), fPts_tiles d, lPts_tiles d, oPts_tiles d, ← bigSep_sep', ← bigSep_sep']
  exact bigSep_tiles (F := F) (fun w => tdP (F := F) _ _ d w)
theorem held_rest (d : Dev nD) :
    (held (T d : Thread nD τ) (Pipeline.ucRefs τ sig \ scRefs) (VC m d) : sProp 𝕄) = held (T d : Thread nD τ) (Pipeline.ucRefs τ sig \ scRefs) (VD m d) :=
  StableHlo.held_congr _ fun b hb => by
    unfold VD
    refine (Function.update_of_ne (fun h => (Finset.mem_sdiff.mp hb).2 ?_) _ _).symm
    rw [h]; simp [scRefs]

/-! ## @main on the TensorCore -/

abbrev FIN (d : Dev nD) : sProp 𝕄 := held (T d : Thread nD τ) (Pipeline.ucRefs τ sig) (VE m d)

theorem tcRes_held (d : Dev nD) :
    (unscopedBufs d (fun b => m ((T d : Thread nD τ).loc b)) : sProp 𝕄) = held (T d : Thread nD τ) (Pipeline.ucRefs τ sig) (launchContents m d) :=
  Pipeline.unscopedBufs_held d (launchContents m d)

/-- The level below which the TensorCore's records lie before the SparseCore call. -/
abbrev lev₀ : ℕ := 8 * 0

abbrev theReg [∀ e, Nonempty (Elt F e)] := reg (F := F) (fun c b => VA m c b) (lev₀) adm (fun c b => VB m c b) (fun _ => iprop(emp)) (fun c => VB_out m c) (fun c b h => VB_ne m c b h)

/-- The TensorCore call's step, over the unscoped buffers. -/
theorem reg_step [∀ e, Nonempty (Elt F e)] (d : Dev nD) {α : Type} (k : PUnit → Prog (TpuEff nD τ sig (Elt F) (ΛP (F := F)) .tc) α) (Q : α → sProp 𝕄) :
    iprop((iprop(boundary (T d : Thread nD τ) ∗ unscopedBufs d (fun b => VB m d b) ∗ emp ∗ owesLow (F := F) lev₀ d)
            -∗ wp frame (wpE (D (F := F)) 𝒱 (T d : Thread nD τ) none) Set.univ (k ⟨⟩) Q)
        ∗ boundary (T d : Thread nD τ) ∗ iprop(unscopedBufs d (fun b => VA m d b) ∗ emp ∗ owesLow (F := F) lev₀ d) ∗ levAts (K (F := F)).L (K (F := F)).lev
        ∗ Pipeline.cellsGhost (Pipeline.pin (pcfgs (F := F)) adm) EP 0 d ∗ Pipeline.toksInit (Pipeline.pin (pcfgs (F := F)) adm) EP 0 d)
      ⊢ wp frame (wpE (D (F := F)) 𝒱 (T d : Thread nD τ) none) Set.univ (.op (.customCall (Pipeline.entry 0) ()) k) Q :=
  (theReg m).wp (pcfgs (F := F)) adm (pdats (F := F) (fun c b => VA m c b) lev₀ adm) none phinj EP defs₀ 𝒱₀ (K (F := F)).L (K (F := F)).lev d none (fun _ h => nomatch h) k Q

set_option backward.isDefEq.respectTransparency.types false in
theorem hmain [∀ e, Nonempty (Elt F e)] (κ : GSem nD τ sig → ℕ) (d : Dev nD) :
    iprop((K (F := F)).ctx EH (PP m) κ ∗ (K (F := F)).tcSt EH d 0 ∗ (K (F := F)).tcRes m ρ d ∗ GG (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [tcRes_held, main_split]
  iintro ⟨#Hctx, Hst, ⟨Hb, Hh, Hts, -⟩, HG⟩
  icases HG with ⟨Hcg, Htk⟩
  ihave Hlev := (SparseCore.Cfg.ctx_levAts κ) $$ Hctx
  iapply (StableHlo.wp_seq 𝒱 none Set.univ d (Pipeline.ucRefs τ sig) _ ops1 ops1_sub ops1_fresh (launchContents m d)) $$ [Hb Hh]
  · isplitl [Hb] <;> iassumption
  iintro ⟨Hb, Hh⟩
  rw [wp_bind]
  iapply ((K (F := F)).wp_liftProg (D (F := F)) 𝒱 (T d) Set.univ none _ _)
  unfold SparseCore.Cfg.tcSt
  icases Hst with ⟨HO, Hrest⟩
  iapply (reg_step m d _ _)
  isplitr [Hb Hh HO Hcg Htk]
  rotate_left
  · isplitl [Hb]; · iexact Hb
    isplitl [Hh HO]
    · isplitl [Hh]; · iapply (Entails.of_eq (Pipeline.unscopedBufs_held d (VA m d)).symm); iexact Hh
      isplitr; · iempintro
      iexact HO
    isplitr; · iexact Hlev
    isplitl [Hcg] <;> iassumption
  iintro ⟨Hb, Hh, -, HO⟩
  rw [wp_ret]
  imodintro
  ihave Hh' := (Entails.of_eq (Pipeline.unscopedBufs_held d (VB m d))) $$ Hh
  iapply (StableHlo.wp_seq 𝒱 none Set.univ d (Pipeline.ucRefs τ sig) _ ops2 ops2_sub ops2_fresh (VB m d)) $$ [Hb Hh']
  · isplitl [Hb] <;> iassumption
  iintro ⟨Hb, Hh⟩
  ihave Hh1 := (show (held (d.tc : Thread nD τ) (Pipeline.ucRefs τ sig) (after ops2 (VB m d)) : sProp 𝕄) ⊢ held (T d : Thread nD τ) (Pipeline.ucRefs τ sig) (VC m d) from .rfl) $$ Hh
  ihave Hh2 := (Entails.of_eq (StableHlo.held_sub_split (T d : Thread nD τ) scRefs_sub (VC m d))) $$ Hh1
  icases Hh2 with ⟨H3, Hr⟩
  rw [wp_bind]
  iapply ((K (F := F)).wp_run (D (F := F)) 𝒱 (EH := EH) (P := PP m) κ d 0) $$ [HO Hrest H3 Hr Hb Hts]
  isplitr; · iexact Hctx
  isplitl [HO Hrest]
  · unfold SparseCore.Cfg.tcSt
    isplitl [HO]; · iexact HO
    iexact Hrest
  isplitl [H3]; · iapply (Entails.of_eq (st0_eq m d).symm); iexact H3
  iintro ⟨Hst, Hdn⟩
  ihave Hdn' := (Entails.of_eq (dn0_eq m d)) $$ Hdn
  ihave Hr' := (Entails.of_eq (held_rest m d)) $$ Hr
  iapply (StableHlo.wp_seq 𝒱 none Set.univ d (Pipeline.ucRefs τ sig) _ ops3 ops3_sub ops3_fresh (VD m d)) $$ [Hb Hdn' Hr']
  · isplitl [Hb]; · iexact Hb
    iapply (Entails.of_eq (StableHlo.held_sub_split (T d : Thread nD τ) scRefs_sub (VD m d)).symm)
    isplitl [Hdn'] <;> iassumption
  iintro ⟨Hb, Hh⟩
  rw [wp_pure]
  imodintro
  unfold SparseCore.Cfg.tcSt
  isplitl [Hst]; · iexact Hst
  isplitl [Hh]; · iexact Hh
  isplitl [Hb] <;> iassumption

/-! ## The run -/

theorem SI_held (d : Dev nD) (s' : Phys nD τ sig (Elt F)) (W : Valuation τ sig (Elt F)) :
    iprop(held (T d : Thread nD τ) (Pipeline.ucRefs τ sig) W ∗ SI s') ⊢ (⌜∀ b ∈ Pipeline.ucRefs τ sig, s'.mem.mem (d, b) = W b⌝ : sProp 𝕄) := by
  unfold held
  iintro ⟨H, HSI⟩
  ihave %h := (SI_pointsTo_bufs_agree (qs := fun _ => fullShare) (Pipeline.ucRefs τ sig)) $$ [HSI H]
  · isplitl [HSI]; · iexact HSI
    iexact H
  ipureintro
  exact fun b hb => h b hb

def fq (d : Dev nD) (s' : Phys nD τ sig (Elt F)) : Prop := ∀ b ∈ Pipeline.ucRefs τ sig, s'.mem.mem (d, b) = VE m d b

theorem hfin (d : Dev nD) (s' : Phys nD τ sig (Elt F)) : iprop(FIN m d ∗ SI s') ⊢ (⌜fq m d s'⌝ : sProp 𝕄) := SI_held d s' _

def QC : PUnit × MemSt nD τ sig (Elt F) → Prop := fun r =>
  (∀ c : Dev nD, ∀ b : Ref sig .tc, b.isScoped = false → r.2.mem (c, (b : DevRef τ sig)) = VE m c b) ∧ r.2.sem = fun _ => 0

/-- Every weakly fair execution ends, with the TensorCore's buffers at `VE` and every counter at zero. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PP m) (A := ∅) facts v₀
    (fun q hq => match q with | 0 => nomatch hq)
    (fun q _ => match q with | 0 => tileObl _ _ _ facts)
    (fun q _ => match q with | 0 => SparseCore.Cfg.VecSplit.of_plain (vecSplit _ _ _))
    m ρ main (fun d => GG (F := F) d) (FIN m) (u₀ (F := F)) (sep_elim_left.trans (hu₀ m)) (hmain m ρ) (fq m) (hfin m) (QC m)
    (fun _ h hz => ⟨fun c b hb => h c _ (Pipeline.devRef_mem_ucRefs hb), hz⟩)

end Cert.Proof.Run

end
-- ==== Proof.RefRun.lean ====
/-
  The reference program's @main as one straight line of host operations, and its run read back: every weakly fair execution
  terminates with each result at the operations' composed pure term of the arguments' launch contents, the arguments
  unchanged. The first result's term is long, so it has a name.
-/
module

public import proofs.«01_k».proof.Proof.Gen.ReferenceIdeal
public import Idealize.ShloMosaic.Lib.StableHlo.Run

@[expose] public section

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- The function of the operation that writes `main_v113`, named. -/
def fn_main_v113 : (⟨S4x1, .i32⟩ : BufTy).Contents (Elt F) → (⟨S4x1, .i32⟩ : BufTy).Contents (Elt F) → (⟨S4x2, .i32⟩ : BufTy).Contents (Elt F) :=
  (fun a b => concatenate S4x2 1 [⟨S4x1, a⟩, ⟨S4x1, b⟩] concatenates_S4x1_S4x1_S4x2_d1)

/-- @main's 177 operations, in order (a called function's operations stand in its call's place, spelt `TRef.…`). -/
abbrev ops : List (HloOp τ sig (Elt F)) :=
  [ nullary main_v0 (iotaInDim S598 32 0),
    unary main_v0 main_v1 (broadcastInDim S598x1 ![0] bcast_S598_S598x1_0 : (⟨S598, .i32⟩ : BufTy).Contents (Elt F) → (⟨S598x1, .i32⟩ : BufTy).Contents (Elt F)),
    nullary main_c (constantI S_ 32 160#32),
    unary main_c main_v2 (broadcastInDim S598x1 ![] bcast_S_S598x1 : (⟨S_, .i32⟩ : BufTy).Contents (Elt F) → (⟨S598x1, .i32⟩ : BufTy).Contents (Elt F)),
    binary main_v1 main_v2 main_v3 (muli : (⟨S598x1, .i32⟩ : BufTy).Contents (Elt F) → (⟨S598x1, .i32⟩ : BufTy).Contents (Elt F) → (⟨S598x1, .i32⟩ : BufTy).Contents (Elt F)),
    nullary main_v4 (iotaInDim S400 32 0),
    unary main_v4 main_v5 (broadcastInDim S1x400 ![1] bcast_S400_S1x400_1 : (⟨S400, .i32⟩ : BufTy).Contents (Elt F) → (⟨S1x400, .i32⟩ : BufTy).Contents (Elt F)),
    unary main_v3 main_v6 (broadcastInDim S598x400 ![0, 1] bcast_S598x1_S598x400_0_1 : (⟨S598x1, .i32⟩ : BufTy).Contents (Elt F) → (⟨S598x400, .i32⟩ : BufTy).Contents (Elt F)),
    unary main_v5 main_v7 (broadcastInDim S598x400 ![0, 1] bcast_S1x400_S598x400_0_1 : (⟨S1x400, .i32⟩ : BufTy).Contents (Elt F) → (⟨S598x400, .i32⟩ : BufTy).Contents (Elt F)),
    binary main_v6 main_v7 main_v8 (addi : (⟨S598x400, .i32⟩ : BufTy).Contents (Elt F) → (⟨S598x400, .i32⟩ : BufTy).Contents (Elt F) → (⟨S598x400, .i32⟩ : BufTy).Contents (Elt F)),
    nullary main_c_0 (constantI S_ 32 0#32),
    unary main_c_0 main_v9 (broadcastInDim S598x400 ![] bcast_S_S598x400 : (⟨S_, .i32⟩ : BufTy).Contents (Elt F) → (⟨S598x400, .i32⟩ : BufTy).Contents (Elt F)),
    binary main_v8 main_v9 main_v10 (cmpi .slt : (⟨S598x400, .i32⟩ : BufTy).Contents (Elt F) → (⟨S598x400, .i32⟩ : BufTy).Contents (Elt F) → (⟨S598x400, .i1⟩ : BufTy).Contents (Elt F)),
    nullary main_c_1 (constantI S_ 32 96000#32),
    unary main_c_1 main_v11 (broadcastInDim S598x400 ![] bcast_S_S598x400 : (⟨S_, .i32⟩ : BufTy).Contents (Elt F) → (⟨S598x400, .i32⟩ : BufTy).Contents (Elt F)),
    binary main_v8 main_v11 main_v12 (addi : (⟨S598x400, .i32⟩ : BufTy).Contents (Elt F) → (⟨S598x400, .i32⟩ : BufTy).Contents (Elt F) → (⟨S598x400, .i32⟩ : BufTy).Contents (Elt F)),
    ternary main_v10 main_v12 main_v8 main_v13 (select : (⟨S598x400, .i1⟩ : BufTy).Contents (Elt F) → (⟨S598x400, .i32⟩ : BufTy).Contents (Elt F) → (⟨S598x400, .i32⟩ : BufTy).Contents (Elt F) → (⟨S598x400, .i32⟩ : BufTy).Contents (Elt F)),
    unary main_v13 main_v14 (broadcastInDim S598x400x1 ![0, 1] bcast_S598x400_S598x400x1_0_1 : (⟨S598x400, .i32⟩ : BufTy).Contents (Elt F) → (⟨S598x400x1, .i32⟩ : BufTy).Contents (Elt F)),
    binary main_arg0 main_v14 main_v15 ((fun x i => Host.gather gather_S4x96000_S598x400x1_S4x598x400_0_1_n_n_1_2_41 x i) : (⟨S4x96000, .f32⟩ : BufTy).Contents (Elt F) → (⟨S598x400x1, .i32⟩ : BufTy).Contents (Elt F) → (⟨S4x598x400, .f32⟩ : BufTy).Contents (Elt F)),
    nullary main_v16 (iotaInDim S400 32 0),
    unary main_v16 main_v17 (sitofp .f32 : (⟨S400, .i32⟩ : BufTy).Contents (Elt F) → (⟨S400, .f32⟩ : BufTy).Contents (Elt F)),
    nullary main_cst (constant S_ .f32 0x40C90FDB#32),
    unary main_cst main_v18 (broadcastInDim S400 ![] bcast_S_S400 : (⟨S_, .f32⟩ : BufTy).Contents (Elt F) → (⟨S400, .f32⟩ : BufTy).Contents (Elt F)),
    binary main_v18 main_v17 main_v19 (mulf : (⟨S400, .f32⟩ : BufTy).Contents (Elt F) → (⟨S400, .f32⟩ : BufTy).Contents (Elt F) → (⟨S400, .f32⟩ : BufTy).Contents (Elt F)),
    nullary main_cst_2 (constant S_ .f32 0x43C78000#32),
    unary main_cst_2 main_v20 (broadcastInDim S400 ![] bcast_S_S400 : (⟨S_, .f32⟩ : BufTy).Contents (Elt F) → (⟨S400, .f32⟩ : BufTy).Contents (Elt F)),
    binary main_v19 main_v20 main_v21 (Host.divf : (⟨S400, .f32⟩ : BufTy).Contents (Elt F) → (⟨S400, .f32⟩ : BufTy).Contents (Elt F) → (⟨S400, .f32⟩ : BufTy).Contents (Elt F)),
    unary main_v21 main_v22 (Host.cos : (⟨S400, .f32⟩ : BufTy).Contents (Elt F) → (⟨S400, .f32⟩ : BufTy).Contents (Elt F)),
    nullary main_cst_3 (constant S_ .f32 0x3F000000#32),
    unary main_cst_3 main_v23 (broadcastInDim S400 ![] bcast_S_S400 : (⟨S_, .f32⟩ : BufTy).Contents (Elt F) → (⟨S400, .f32⟩ : BufTy).Contents (Elt F)),
    binary main_v23 main_v22 main_v24 (mulf : (⟨S400, .f32⟩ : BufTy).Contents (Elt F) → (⟨S400, .f32⟩ : BufTy).Contents (Elt F) → (⟨S400, .f32⟩ : BufTy).Contents (Elt F)),
    nullary main_cst_4 (constant S_ .f32 0x3F000000#32),
    unary main_cst_4 main_v25 (broadcastInDim S400 ![] bcast_S_S400 : (⟨S_, .f32⟩ : BufTy).Contents (Elt F) → (⟨S400, .f32⟩ : BufTy).Contents (Elt F)),
    binary main_v25 main_v24 main_v26 (subf : (⟨S400, .f32⟩ : BufTy).Contents (Elt F) → (⟨S400, .f32⟩ : BufTy).Contents (Elt F) → (⟨S400, .f32⟩ : BufTy).Contents (Elt F)),
    nullary main_v27 (iotaInDim S201 32 0),
    unary main_v16 main_v28 (broadcastInDim S400x1 ![0] bcast_S400_S400x1_0 : (⟨S400, .i32⟩ : BufTy).Contents (Elt F) → (⟨S400x1, .i32⟩ : BufTy).Contents (Elt F)),
    unary main_v27 main_v29 (broadcastInDim S1x201 ![1] bcast_S201_S1x201_1 : (⟨S201, .i32⟩ : BufTy).Contents (Elt F) → (⟨S1x201, .i32⟩ : BufTy).Contents (Elt F)),
    unary main_v28 main_v30 (broadcastInDim S400x201 ![0, 1] bcast_S400x1_S400x201_0_1 : (⟨S400x1, .i32⟩ : BufTy).Contents (Elt F) → (⟨S400x201, .i32⟩ : BufTy).Contents (Elt F)),
    unary main_v29 main_v31 (broadcastInDim S400x201 ![0, 1] bcast_S1x201_S400x201_0_1 : (⟨S1x201, .i32⟩ : BufTy).Contents (Elt F) → (⟨S400x201, .i32⟩ : BufTy).Contents (Elt F)),
    binary main_v30 main_v31 main_v32 (muli : (⟨S400x201, .i32⟩ : BufTy).Contents (Elt F) → (⟨S400x201, .i32⟩ : BufTy).Contents (Elt F) → (⟨S400x201, .i32⟩ : BufTy).Contents (Elt F)),
    unary main_v32 main_v33 (sitofp .f32 : (⟨S400x201, .i32⟩ : BufTy).Contents (Elt F) → (⟨S400x201, .f32⟩ : BufTy).Contents (Elt F)),
    nullary main_cst_5 (constant S_ .f32 0x40C90FDB#32),
    unary main_cst_5 main_v34 (broadcastInDim S400x201 ![] bcast_S_S400x201 : (⟨S_, .f32⟩ : BufTy).Contents (Elt F) → (⟨S400x201, .f32⟩ : BufTy).Contents (Elt F)),
    binary main_v34 main_v33 main_v35 (mulf : (⟨S400x201, .f32⟩ : BufTy).Contents (Elt F) → (⟨S400x201, .f32⟩ : BufTy).Contents (Elt F) → (⟨S400x201, .f32⟩ : BufTy).Contents (Elt F)),
    nullary main_cst_6 (constant S_ .f32 0x43C80000#32),
    unary main_cst_6 main_v36 (broadcastInDim S400x201 ![] bcast_S_S400x201 : (⟨S_, .f32⟩ : BufTy).Contents (Elt F) → (⟨S400x201, .f32⟩ : BufTy).Contents (Elt F)),
    binary main_v35 main_v36 main_v37 (Host.divf : (⟨S400x201, .f32⟩ : BufTy).Contents (Elt F) → (⟨S400x201, .f32⟩ : BufTy).Contents (Elt F) → (⟨S400x201, .f32⟩ : BufTy).Contents (Elt F)),
    unary main_v26 main_v38 (broadcastInDim S1x1x400 ![2] bcast_S400_S1x1x400_2 : (⟨S400, .f32⟩ : BufTy).Contents (Elt F) → (⟨S1x1x400, .f32⟩ : BufTy).Contents (Elt F)),
    unary main_v38 main_v39 (broadcastInDim S4x598x400 ![0, 1, 2] bcast_S1x1x400_S4x598x400_0_1_2 : (⟨S1x1x400, .f32⟩ : BufTy).Contents (Elt F) → (⟨S4x598x400, .f32⟩ : BufTy).Contents (Elt F)),
    binary main_v15 main_v39 main_v40 (mulf : (⟨S4x598x400, .f32⟩ : BufTy).Contents (Elt F) → (⟨S4x598x400, .f32⟩ : BufTy).Contents (Elt F) → (⟨S4x598x400, .f32⟩ : BufTy).Contents (Elt F)),
    unary main_v40 main_v41 (broadcastInDim S4x598x400x1 ![0, 1, 2] bcast_S4x598x400_S4x598x400x1_0_1_2 : (⟨S4x598x400, .f32⟩ : BufTy).Contents (Elt F) → (⟨S4x598x400x1, .f32⟩ : BufTy).Contents (Elt F)),
    unary main_v37 main_v42 (Host.cos : (⟨S400x201, .f32⟩ : BufTy).Contents (Elt F) → (⟨S400x201, .f32⟩ : BufTy).Contents (Elt F)),
    unary main_v42 main_v43 (broadcastInDim S1x1x400x201 ![2, 3] bcast_S400x201_S1x1x400x201_2_3 : (⟨S400x201, .f32⟩ : BufTy).Contents (Elt F) → (⟨S1x1x400x201, .f32⟩ : BufTy).Contents (Elt F)),
    unary main_v41 main_v44 (broadcastInDim S4x598x400x201 ![0, 1, 2, 3] bcast_S4x598x400x1_S4x598x400x201_0_1_2_3 : (⟨S4x598x400x1, .f32⟩ : BufTy).Contents (Elt F) → (⟨S4x598x400x201, .f32⟩ : BufTy).Contents (Elt F)),
    unary main_v43 main_v45 (broadcastInDim S4x598x400x201 ![0, 1, 2, 3] bcast_S1x1x400x201_S4x598x400x201_0_1_2_3 : (⟨S1x1x400x201, .f32⟩ : BufTy).Contents (Elt F) → (⟨S4x598x400x201, .f32⟩ : BufTy).Contents (Elt F)),
    binary main_v44 main_v45 main_v46 (mulf : (⟨S4x598x400x201, .f32⟩ : BufTy).Contents (Elt F) → (⟨S4x598x400x201, .f32⟩ : BufTy).Contents (Elt F) → (⟨S4x598x400x201, .f32⟩ : BufTy).Contents (Elt F)),
    nullary main_cst_7 (constant S_ .f32 0x00000000#32),
    binary main_v46 main_cst_7 main_v47 ((fun x v => Host.reduceAdd x v reducesTo_S4x598x400x201_S4x598x201_d2 h_S_) : (⟨S4x598x400x201, .f32⟩ : BufTy).Contents (Elt F) → (⟨S_, .f32⟩ : BufTy).Contents (Elt F) → (⟨S4x598x201, .f32⟩ : BufTy).Contents (Elt F)),
    unary main_v40 main_v48 (broadcastInDim S4x598x400x1 ![0, 1, 2] bcast_S4x598x400_S4x598x400x1_0_1_2 : (⟨S4x598x400, .f32⟩ : BufTy).Contents (Elt F) → (⟨S4x598x400x1, .f32⟩ : BufTy).Contents (Elt F)),
    unary main_v37 main_v49 (Host.sin : (⟨S400x201, .f32⟩ : BufTy).Contents (Elt F) → (⟨S400x201, .f32⟩ : BufTy).Contents (Elt F)),
    unary main_v49 main_v50 (Host.negf : (⟨S400x201, .f32⟩ : BufTy).Contents (Elt F) → (⟨S400x201, .f32⟩ : BufTy).Contents (Elt F)),
    unary main_v50 main_v51 (broadcastInDim S1x1x400x201 ![2, 3] bcast_S400x201_S1x1x400x201_2_3 : (⟨S400x201, .f32⟩ : BufTy).Contents (Elt F) → (⟨S1x1x400x201, .f32⟩ : BufTy).Contents (Elt F)),
    unary main_v48 main_v52 (broadcastInDim S4x598x400x201 ![0, 1, 2, 3] bcast_S4x598x400x1_S4x598x400x201_0_1_2_3 : (⟨S4x598x400x1, .f32⟩ : BufTy).Contents (Elt F) → (⟨S4x598x400x201, .f32⟩ : BufTy).Contents (Elt F)),
    unary main_v51 main_v53 (broadcastInDim S4x598x400x201 ![0, 1, 2, 3] bcast_S1x1x400x201_S4x598x400x201_0_1_2_3 : (⟨S1x1x400x201, .f32⟩ : BufTy).Contents (Elt F) → (⟨S4x598x400x201, .f32⟩ : BufTy).Contents (Elt F)),
    binary main_v52 main_v53 main_v54 (mulf : (⟨S4x598x400x201, .f32⟩ : BufTy).Contents (Elt F) → (⟨S4x598x400x201, .f32⟩ : BufTy).Contents (Elt F) → (⟨S4x598x400x201, .f32⟩ : BufTy).Contents (Elt F)),
    nullary main_cst_8 (constant S_ .f32 0x00000000#32),
    binary main_v54 main_cst_8 main_v55 ((fun x v => Host.reduceAdd x v reducesTo_S4x598x400x201_S4x598x201_d2 h_S_) : (⟨S4x598x400x201, .f32⟩ : BufTy).Contents (Elt F) → (⟨S_, .f32⟩ : BufTy).Contents (Elt F) → (⟨S4x598x201, .f32⟩ : BufTy).Contents (Elt F)),
    binary main_v47 main_v47 main_v56 (mulf : (⟨S4x598x201, .f32⟩ : BufTy).Contents (Elt F) → (⟨S4x598x201, .f32⟩ : BufTy).Contents (Elt F) → (⟨S4x598x201, .f32⟩ : BufTy).Contents (Elt F)),
    binary main_v55 main_v55 main_v57 (mulf : (⟨S4x598x201, .f32⟩ : BufTy).Contents (Elt F) → (⟨S4x598x201, .f32⟩ : BufTy).Contents (Elt F) → (⟨S4x598x201, .f32⟩ : BufTy).Contents (Elt F)),
    binary main_v56 main_v57 main_v58 (addf : (⟨S4x598x201, .f32⟩ : BufTy).Contents (Elt F) → (⟨S4x598x201, .f32⟩ : BufTy).Contents (Elt F) → (⟨S4x598x201, .f32⟩ : BufTy).Contents (Elt F)),
    unary main_arg2 main_v59 ((transpose S201x80 [1, 0] · transposes_S80x201_S201x80_1_0) : (⟨S80x201, .f32⟩ : BufTy).Contents (Elt F) → (⟨S201x80, .f32⟩ : BufTy).Contents (Elt F)),
    binary main_v58 main_v59 main_v60 ((fun l r => Host.dotGeneral dot_S4x598x201_S201x80_S4x598x80_2_0_01_1_n_n none l r) : (⟨S4x598x201, .f32⟩ : BufTy).Contents (Elt F) → (⟨S201x80, .f32⟩ : BufTy).Contents (Elt F) → (⟨S4x598x80, .f32⟩ : BufTy).Contents (Elt F)),
    nullary main_cst_9 (constant S_ .f32 0x2EDBE6FF#32),
    unary main_cst_9 main_v61 (broadcastInDim S4x598x80 ![] bcast_S_S4x598x80 : (⟨S_, .f32⟩ : BufTy).Contents (Elt F) → (⟨S4x598x80, .f32⟩ : BufTy).Contents (Elt F)),
    binary main_v60 main_v61 main_v62 (addf : (⟨S4x598x80, .f32⟩ : BufTy).Contents (Elt F) → (⟨S4x598x80, .f32⟩ : BufTy).Contents (Elt F) → (⟨S4x598x80, .f32⟩ : BufTy).Contents (Elt F)),
    unary main_v62 main_v63 (Host.log : (⟨S4x598x80, .f32⟩ : BufTy).Contents (Elt F) → (⟨S4x598x80, .f32⟩ : BufTy).Contents (Elt F)),
    nullary main_c_10 (constantI S_ 32 400#32),
    unary main_c_10 main_v64 (broadcastInDim S4 ![] bcast_S_S4 : (⟨S_, .i32⟩ : BufTy).Contents (Elt F) → (⟨S4, .i32⟩ : BufTy).Contents (Elt F)),
    binary main_arg1 main_v64 main_v65 (subi : (⟨S4, .i32⟩ : BufTy).Contents (Elt F) → (⟨S4, .i32⟩ : BufTy).Contents (Elt F) → (⟨S4, .i32⟩ : BufTy).Contents (Elt F)),
    nullary main_c_11 (constantI S_ 32 160#32),
    TRef.unary (TRef.of (T := ⟨S_, .i32⟩) main_c_11) (TRef.of (T := ⟨S_, .i32⟩) main_call0_v0) id,
    TRef.unary (TRef.of (T := ⟨S_, .i32⟩) main_call0_v0) (TRef.of (T := ⟨S4, .i32⟩) main_call0_v1) (broadcastInDim S4 ![] bcast_S_S4),
    TRef.binary (TRef.of (T := ⟨S4, .i32⟩) main_v65) (TRef.of (T := ⟨S4, .i32⟩) main_call0_v1) (TRef.of (T := ⟨S4, .i32⟩) main_call0_v2) Host.divsi,
    TRef.unary (TRef.of (T := ⟨S4, .i32⟩) main_v65) (TRef.of (T := ⟨S4, .i32⟩) main_call0_v3) signi,
    TRef.unary (TRef.of (T := ⟨S_, .i32⟩) main_call0_v0) (TRef.of (T := ⟨S_, .i32⟩) main_call0_v4) signi,
    TRef.unary (TRef.of (T := ⟨S_, .i32⟩) main_call0_v4) (TRef.of (T := ⟨S4, .i32⟩) main_call0_v5) (broadcastInDim S4 ![] bcast_S_S4),
    TRef.binary (TRef.of (T := ⟨S4, .i32⟩) main_call0_v3) (TRef.of (T := ⟨S4, .i32⟩) main_call0_v5) (TRef.of (T := ⟨S4, .i1⟩) main_call0_v6) (cmpi .ne),
    TRef.unary (TRef.of (T := ⟨S_, .i32⟩) main_call0_v0) (TRef.of (T := ⟨S4, .i32⟩) main_call0_v7) (broadcastInDim S4 ![] bcast_S_S4),
    TRef.binary (TRef.of (T := ⟨S4, .i32⟩) main_v65) (TRef.of (T := ⟨S4, .i32⟩) main_call0_v7) (TRef.of (T := ⟨S4, .i32⟩) main_call0_v8) Host.remsi,
    TRef.nullary (TRef.of (T := ⟨S_, .i32⟩) main_call0_c) (constantI S_ 32 0#32),
    TRef.unary (TRef.of (T := ⟨S_, .i32⟩) main_call0_c) (TRef.of (T := ⟨S4, .i32⟩) main_call0_v9) (broadcastInDim S4 ![] bcast_S_S4),
    TRef.binary (TRef.of (T := ⟨S4, .i32⟩) main_call0_v8) (TRef.of (T := ⟨S4, .i32⟩) main_call0_v9) (TRef.of (T := ⟨S4, .i1⟩) main_call0_v10) (cmpi .ne),
    TRef.binary (TRef.of (T := ⟨S4, .i1⟩) main_call0_v6) (TRef.of (T := ⟨S4, .i1⟩) main_call0_v10) (TRef.of (T := ⟨S4, .i1⟩) main_call0_v11) andi,
    TRef.nullary (TRef.of (T := ⟨S_, .i32⟩) main_call0_c_0) (constantI S_ 32 1#32),
    TRef.unary (TRef.of (T := ⟨S_, .i32⟩) main_call0_c_0) (TRef.of (T := ⟨S4, .i32⟩) main_call0_v12) (broadcastInDim S4 ![] bcast_S_S4),
    TRef.binary (TRef.of (T := ⟨S4, .i32⟩) main_call0_v2) (TRef.of (T := ⟨S4, .i32⟩) main_call0_v12) (TRef.of (T := ⟨S4, .i32⟩) main_call0_v13) subi,
    TRef.ternary (TRef.of (T := ⟨S4, .i1⟩) main_call0_v11) (TRef.of (T := ⟨S4, .i32⟩) main_call0_v13) (TRef.of (T := ⟨S4, .i32⟩) main_call0_v2) (TRef.of (T := ⟨S4, .i32⟩) main_v66) select,
    nullary main_c_12 (constantI S_ 32 1#32),
    unary main_c_12 main_v67 (broadcastInDim S4 ![] bcast_S_S4 : (⟨S_, .i32⟩ : BufTy).Contents (Elt F) → (⟨S4, .i32⟩ : BufTy).Contents (Elt F)),
    binary main_v67 main_v66 main_v68 (addi : (⟨S4, .i32⟩ : BufTy).Contents (Elt F) → (⟨S4, .i32⟩ : BufTy).Contents (Elt F) → (⟨S4, .i32⟩ : BufTy).Contents (Elt F)),
    nullary main_cst_13 (constant S_ .f32 0x40000000#32),
    unary main_cst_13 main_v69 (broadcastInDim S4x598x80 ![] bcast_S_S4x598x80 : (⟨S_, .f32⟩ : BufTy).Contents (Elt F) → (⟨S4x598x80, .f32⟩ : BufTy).Contents (Elt F)),
    binary main_v63 main_v69 main_v70 (cmpf .ogt : (⟨S4x598x80, .f32⟩ : BufTy).Contents (Elt F) → (⟨S4x598x80, .f32⟩ : BufTy).Contents (Elt F) → (⟨S4x598x80, .i1⟩ : BufTy).Contents (Elt F)),
    nullary main_cst_14 (constant S_ .f32 0x40000000#32),
    TRef.unary (TRef.of (T := ⟨S_, .f32⟩) main_cst_14) (TRef.of (T := ⟨S_, .f32⟩) main_call1_v0) id,
    TRef.unary (TRef.of (T := ⟨S_, .f32⟩) main_call1_v0) (TRef.of (T := ⟨S4x598x80, .f32⟩) main_call1_v1) (broadcastInDim S4x598x80 ![] bcast_S_S4x598x80),
    TRef.ternary (TRef.of (T := ⟨S4x598x80, .i1⟩) main_v70) (TRef.of (T := ⟨S4x598x80, .f32⟩) main_call1_v1) (TRef.of (T := ⟨S4x598x80, .f32⟩) main_v63) (TRef.of (T := ⟨S4x598x80, .f32⟩) main_v71) select,
    nullary main_cst_15 (constant S_ .f32 0xC0E00000#32),
    unary main_cst_15 main_v72 (broadcastInDim S4x598x80 ![] bcast_S_S4x598x80 : (⟨S_, .f32⟩ : BufTy).Contents (Elt F) → (⟨S4x598x80, .f32⟩ : BufTy).Contents (Elt F)),
    binary main_v71 main_v72 main_v73 (cmpf .olt : (⟨S4x598x80, .f32⟩ : BufTy).Contents (Elt F) → (⟨S4x598x80, .f32⟩ : BufTy).Contents (Elt F) → (⟨S4x598x80, .i1⟩ : BufTy).Contents (Elt F)),
    nullary main_cst_16 (constant S_ .f32 0x40400000#32),
    unary main_cst_16 main_v74 (broadcastInDim S4x598x80 ![] bcast_S_S4x598x80 : (⟨S_, .f32⟩ : BufTy).Contents (Elt F) → (⟨S4x598x80, .f32⟩ : BufTy).Contents (Elt F)),
    binary main_v71 main_v74 main_v75 (cmpf .une : (⟨S4x598x80, .f32⟩ : BufTy).Contents (Elt F) → (⟨S4x598x80, .f32⟩ : BufTy).Contents (Elt F) → (⟨S4x598x80, .i1⟩ : BufTy).Contents (Elt F)),
    binary main_v73 main_v75 main_v76 (andi : (⟨S4x598x80, .i1⟩ : BufTy).Contents (Elt F) → (⟨S4x598x80, .i1⟩ : BufTy).Contents (Elt F) → (⟨S4x598x80, .i1⟩ : BufTy).Contents (Elt F)),
    nullary main_cst_17 (constant S_ .f32 0xC0E00000#32),
    TRef.unary (TRef.of (T := ⟨S_, .f32⟩) main_cst_17) (TRef.of (T := ⟨S_, .f32⟩) main_call2_v0) id,
    TRef.unary (TRef.of (T := ⟨S_, .f32⟩) main_call2_v0) (TRef.of (T := ⟨S4x598x80, .f32⟩) main_call2_v1) (broadcastInDim S4x598x80 ![] bcast_S_S4x598x80),
    TRef.ternary (TRef.of (T := ⟨S4x598x80, .i1⟩) main_v76) (TRef.of (T := ⟨S4x598x80, .f32⟩) main_call2_v1) (TRef.of (T := ⟨S4x598x80, .f32⟩) main_v71) (TRef.of (T := ⟨S4x598x80, .f32⟩) main_v77) select,
    unary main_v77 main_v78 (broadcastInDim S4x598x80x1 ![0, 1, 2] bcast_S4x598x80_S4x598x80x1_0_1_2 : (⟨S4x598x80, .f32⟩ : BufTy).Contents (Elt F) → (⟨S4x598x80x1, .f32⟩ : BufTy).Contents (Elt F)),
    unary main_arg3 main_v79 (broadcastInDim S1x1x80x258 ![2, 3] bcast_S80x258_S1x1x80x258_2_3 : (⟨S80x258, .f32⟩ : BufTy).Contents (Elt F) → (⟨S1x1x80x258, .f32⟩ : BufTy).Contents (Elt F)),
    unary main_v78 main_v80 (broadcastInDim S4x598x80x258 ![0, 1, 2, 3] bcast_S4x598x80x1_S4x598x80x258_0_1_2_3 : (⟨S4x598x80x1, .f32⟩ : BufTy).Contents (Elt F) → (⟨S4x598x80x258, .f32⟩ : BufTy).Contents (Elt F)),
    unary main_v79 main_v81 (broadcastInDim S4x598x80x258 ![0, 1, 2, 3] bcast_S1x1x80x258_S4x598x80x258_0_1_2_3 : (⟨S1x1x80x258, .f32⟩ : BufTy).Contents (Elt F) → (⟨S4x598x80x258, .f32⟩ : BufTy).Contents (Elt F)),
    binary main_v80 main_v81 main_v82 (subf : (⟨S4x598x80x258, .f32⟩ : BufTy).Contents (Elt F) → (⟨S4x598x80x258, .f32⟩ : BufTy).Contents (Elt F) → (⟨S4x598x80x258, .f32⟩ : BufTy).Contents (Elt F)),
    unary main_v82 main_v83 (Host.absf : (⟨S4x598x80x258, .f32⟩ : BufTy).Contents (Elt F) → (⟨S4x598x80x258, .f32⟩ : BufTy).Contents (Elt F)),
    TRef.nullary (TRef.of (T := ⟨S4x598x80x258, .i32⟩) main_call3_v0) (iotaInDim S4x598x80x258 32 3),
    TRef.nullary (TRef.of (T := ⟨S_, .f32⟩) main_call3_cst) (constant S_ .f32 0x7F800000#32),
    TRef.nullary (TRef.of (T := ⟨S_, .i32⟩) main_call3_c) (constantI S_ 32 0#32),
    TRef.quaternary (TRef.of (T := ⟨S4x598x80x258, .f32⟩) main_v83) (TRef.of (T := ⟨S4x598x80x258, .i32⟩) main_call3_v0) (TRef.of (T := ⟨S_, .f32⟩) main_call3_cst) (TRef.of (T := ⟨S_, .i32⟩) main_call3_c) (TRef.of (T := ⟨S4x598x80, .f32⟩) main_call3_v1_0) (fun x y u v => fun j => (Host.argReduce reducer_argmin_f32_i32 x y u v reducesTo_S4x598x80x258_S4x598x80_d3 h_S_ j).1),
    TRef.quaternary (TRef.of (T := ⟨S4x598x80x258, .f32⟩) main_v83) (TRef.of (T := ⟨S4x598x80x258, .i32⟩) main_call3_v0) (TRef.of (T := ⟨S_, .f32⟩) main_call3_cst) (TRef.of (T := ⟨S_, .i32⟩) main_call3_c) (TRef.of (T := ⟨S4x598x80, .i32⟩) main_v84) (fun x y u v => fun j => (Host.argReduce reducer_argmin_f32_i32 x y u v reducesTo_S4x598x80x258_S4x598x80_d3 h_S_ j).2),
    nullary main_c_18 (constantI S_ 32 256#32),
    unary main_c_18 main_v85 (broadcastInDim S4x600x80 ![] bcast_S_S4x600x80 : (⟨S_, .i32⟩ : BufTy).Contents (Elt F) → (⟨S4x600x80, .i32⟩ : BufTy).Contents (Elt F)),
    nullary main_c_19 (constantI S_ 32 0#32),
    unary main_c_19 main_v86 (broadcastInDim S1 ![] bcast_S_S1 : (⟨S_, .i32⟩ : BufTy).Contents (Elt F) → (⟨S1, .i32⟩ : BufTy).Contents (Elt F)),
    nullary main_c_20 (constantI S_ 32 257#32),
    unary main_c_20 main_v87 (broadcastInDim S4x80 ![] bcast_S_S4x80 : (⟨S_, .i32⟩ : BufTy).Contents (Elt F) → (⟨S4x80, .i32⟩ : BufTy).Contents (Elt F)),
    ternary main_v85 main_v86 main_v87 main_v88 ((fun x i u => Host.scatter scatter_S4x600x80_S1_S4x80_01_1_1_0 (fun _ b => b) x i u) : (⟨S4x600x80, .i32⟩ : BufTy).Contents (Elt F) → (⟨S1, .i32⟩ : BufTy).Contents (Elt F) → (⟨S4x80, .i32⟩ : BufTy).Contents (Elt F) → (⟨S4x600x80, .i32⟩ : BufTy).Contents (Elt F)),
    nullary main_v89 (iotaInDim S598 32 0),
    unary main_v89 main_v90 (broadcastInDim S1x598x1 ![1] bcast_S598_S1x598x1_1 : (⟨S598, .i32⟩ : BufTy).Contents (Elt F) → (⟨S1x598x1, .i32⟩ : BufTy).Contents (Elt F)),
    unary main_v68 main_v91 (broadcastInDim S4x1x1 ![0] bcast_S4_S4x1x1_0 : (⟨S4, .i32⟩ : BufTy).Contents (Elt F) → (⟨S4x1x1, .i32⟩ : BufTy).Contents (Elt F)),
    unary main_v90 main_v92 (broadcastInDim S4x598x1 ![0, 1, 2] bcast_S1x598x1_S4x598x1_0_1_2 : (⟨S1x598x1, .i32⟩ : BufTy).Contents (Elt F) → (⟨S4x598x1, .i32⟩ : BufTy).Contents (Elt F)),
    unary main_v91 main_v93 (broadcastInDim S4x598x1 ![0, 1, 2] bcast_S4x1x1_S4x598x1_0_1_2 : (⟨S4x1x1, .i32⟩ : BufTy).Contents (Elt F) → (⟨S4x598x1, .i32⟩ : BufTy).Contents (Elt F)),
    binary main_v92 main_v93 main_v94 (cmpi .slt : (⟨S4x598x1, .i32⟩ : BufTy).Contents (Elt F) → (⟨S4x598x1, .i32⟩ : BufTy).Contents (Elt F) → (⟨S4x598x1, .i1⟩ : BufTy).Contents (Elt F)),
    nullary main_c_21 (constantI S_ 32 256#32),
    TRef.unary (TRef.of (T := ⟨S_, .i32⟩) main_c_21) (TRef.of (T := ⟨S_, .i32⟩) main_call4_v0) id,
    TRef.unary (TRef.of (T := ⟨S4x598x1, .i1⟩) main_v94) (TRef.of (T := ⟨S4x598x80, .i1⟩) main_call4_v1) (broadcastInDim S4x598x80 ![0, 1, 2] bcast_S4x598x1_S4x598x80_0_1_2),
    TRef.unary (TRef.of (T := ⟨S_, .i32⟩) main_call4_v0) (TRef.of (T := ⟨S4x598x80, .i32⟩) main_call4_v2) (broadcastInDim S4x598x80 ![] bcast_S_S4x598x80),
    TRef.ternary (TRef.of (T := ⟨S4x598x80, .i1⟩) main_call4_v1) (TRef.of (T := ⟨S4x598x80, .i32⟩) main_v84) (TRef.of (T := ⟨S4x598x80, .i32⟩) main_call4_v2) (TRef.of (T := ⟨S4x598x80, .i32⟩) main_v95) select,
    nullary main_c_22 (constantI S_ 32 1#32),
    unary main_c_22 main_v96 (broadcastInDim S1 ![] bcast_S_S1 : (⟨S_, .i32⟩ : BufTy).Contents (Elt F) → (⟨S1, .i32⟩ : BufTy).Contents (Elt F)),
    ternary main_v88 main_v96 main_v95 main_v97 ((fun x i u => Host.scatter scatter_S4x600x80_S1_S4x598x80_012_n_1_0 (fun _ b => b) x i u) : (⟨S4x600x80, .i32⟩ : BufTy).Contents (Elt F) → (⟨S1, .i32⟩ : BufTy).Contents (Elt F) → (⟨S4x598x80, .i32⟩ : BufTy).Contents (Elt F) → (⟨S4x600x80, .i32⟩ : BufTy).Contents (Elt F)),
    nullary main_v98 (iotaInDim S4 32 0),
    nullary main_c_23 (constantI S_ 32 1#32),
    unary main_c_23 main_v99 (broadcastInDim S4 ![] bcast_S_S4 : (⟨S_, .i32⟩ : BufTy).Contents (Elt F) → (⟨S4, .i32⟩ : BufTy).Contents (Elt F)),
    binary main_v68 main_v99 main_v100 (addi : (⟨S4, .i32⟩ : BufTy).Contents (Elt F) → (⟨S4, .i32⟩ : BufTy).Contents (Elt F) → (⟨S4, .i32⟩ : BufTy).Contents (Elt F)),
    nullary main_c_24 (constantI S_ 32 0#32),
    unary main_c_24 main_v101 (broadcastInDim S4 ![] bcast_S_S4 : (⟨S_, .i32⟩ : BufTy).Contents (Elt F) → (⟨S4, .i32⟩ : BufTy).Contents (Elt F)),
    binary main_v98 main_v101 main_v102 (cmpi .slt : (⟨S4, .i32⟩ : BufTy).Contents (Elt F) → (⟨S4, .i32⟩ : BufTy).Contents (Elt F) → (⟨S4, .i1⟩ : BufTy).Contents (Elt F)),
    nullary main_c_25 (constantI S_ 32 4#32),
    unary main_c_25 main_v103 (broadcastInDim S4 ![] bcast_S_S4 : (⟨S_, .i32⟩ : BufTy).Contents (Elt F) → (⟨S4, .i32⟩ : BufTy).Contents (Elt F)),
    binary main_v98 main_v103 main_v104 (addi : (⟨S4, .i32⟩ : BufTy).Contents (Elt F) → (⟨S4, .i32⟩ : BufTy).Contents (Elt F) → (⟨S4, .i32⟩ : BufTy).Contents (Elt F)),
    ternary main_v102 main_v104 main_v98 main_v105 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    nullary main_c_26 (constantI S_ 32 0#32),
    unary main_c_26 main_v106 (broadcastInDim S4 ![] bcast_S_S4 : (⟨S_, .i32⟩ : BufTy).Contents (Elt F) → (⟨S4, .i32⟩ : BufTy).Contents (Elt F)),
    binary main_v100 main_v106 main_v107 (cmpi .slt : (⟨S4, .i32⟩ : BufTy).Contents (Elt F) → (⟨S4, .i32⟩ : BufTy).Contents (Elt F) → (⟨S4, .i1⟩ : BufTy).Contents (Elt F)),
    nullary main_c_27 (constantI S_ 32 600#32),
    unary main_c_27 main_v108 (broadcastInDim S4 ![] bcast_S_S4 : (⟨S_, .i32⟩ : BufTy).Contents (Elt F) → (⟨S4, .i32⟩ : BufTy).Contents (Elt F)),
    binary main_v100 main_v108 main_v109 (addi : (⟨S4, .i32⟩ : BufTy).Contents (Elt F) → (⟨S4, .i32⟩ : BufTy).Contents (Elt F) → (⟨S4, .i32⟩ : BufTy).Contents (Elt F)),
    ternary main_v107 main_v109 main_v100 main_v110 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    unary main_v105 main_v111 (broadcastInDim S4x1 ![0] bcast_S4_S4x1_0 : (⟨S4, .i32⟩ : BufTy).Contents (Elt F) → (⟨S4x1, .i32⟩ : BufTy).Contents (Elt F)),
    unary main_v110 main_v112 (broadcastInDim S4x1 ![0] bcast_S4_S4x1_0 : (⟨S4, .i32⟩ : BufTy).Contents (Elt F) → (⟨S4x1, .i32⟩ : BufTy).Contents (Elt F)),
    binary main_v111 main_v112 main_v113 (fn_main_v113 (F := F)),
    nullary main_c_28 (constantI S_ 32 258#32),
    unary main_c_28 main_v114 (broadcastInDim S4x80 ![] bcast_S_S4x80 : (⟨S_, .i32⟩ : BufTy).Contents (Elt F) → (⟨S4x80, .i32⟩ : BufTy).Contents (Elt F)),
    ternary main_v97 main_v113 main_v114 main_v115 ((fun x i u => Host.scatter scatter_S4x600x80_S4x2_S4x80_1_01_01_1 (fun _ b => b) x i u) : (⟨S4x600x80, .i32⟩ : BufTy).Contents (Elt F) → (⟨S4x2, .i32⟩ : BufTy).Contents (Elt F) → (⟨S4x80, .i32⟩ : BufTy).Contents (Elt F) → (⟨S4x600x80, .i32⟩ : BufTy).Contents (Elt F)),
    nullary main_c_29 (constantI S_ 32 2#32),
    unary main_c_29 main_v116 (broadcastInDim S4 ![] bcast_S_S4 : (⟨S_, .i32⟩ : BufTy).Contents (Elt F) → (⟨S4, .i32⟩ : BufTy).Contents (Elt F)),
    binary main_v68 main_v116 main_v117 (addi : (⟨S4, .i32⟩ : BufTy).Contents (Elt F) → (⟨S4, .i32⟩ : BufTy).Contents (Elt F) → (⟨S4, .i32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., nullary_bufs_sub .., unary_bufs_sub .., binary_bufs_sub .., nullary_bufs_sub .., unary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., nullary_bufs_sub .., unary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., nullary_bufs_sub .., unary_bufs_sub .., unary_bufs_sub .., unary_bufs_sub .., unary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., unary_bufs_sub .., unary_bufs_sub .., unary_bufs_sub .., binary_bufs_sub .., nullary_bufs_sub .., binary_bufs_sub .., unary_bufs_sub .., unary_bufs_sub .., unary_bufs_sub .., unary_bufs_sub .., unary_bufs_sub .., unary_bufs_sub .., binary_bufs_sub .., nullary_bufs_sub .., binary_bufs_sub .., binary_bufs_sub .., binary_bufs_sub .., binary_bufs_sub .., unary_bufs_sub .., binary_bufs_sub .., nullary_bufs_sub .., unary_bufs_sub .., binary_bufs_sub .., unary_bufs_sub .., nullary_bufs_sub .., unary_bufs_sub .., binary_bufs_sub .., nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., binary_bufs_sub .., nullary_bufs_sub .., unary_bufs_sub .., unary_bufs_sub .., ternary_bufs_sub .., unary_bufs_sub .., unary_bufs_sub .., unary_bufs_sub .., unary_bufs_sub .., binary_bufs_sub .., unary_bufs_sub .., nullary_bufs_sub .., nullary_bufs_sub .., nullary_bufs_sub .., quaternary_bufs_sub .., quaternary_bufs_sub .., nullary_bufs_sub .., unary_bufs_sub .., nullary_bufs_sub .., unary_bufs_sub .., nullary_bufs_sub .., unary_bufs_sub .., ternary_bufs_sub .., nullary_bufs_sub .., unary_bufs_sub .., unary_bufs_sub .., unary_bufs_sub .., unary_bufs_sub .., binary_bufs_sub .., nullary_bufs_sub .., unary_bufs_sub .., unary_bufs_sub .., unary_bufs_sub .., ternary_bufs_sub .., nullary_bufs_sub .., unary_bufs_sub .., ternary_bufs_sub .., nullary_bufs_sub .., nullary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., nullary_bufs_sub .., unary_bufs_sub .., ternary_bufs_sub .., nullary_bufs_sub .., unary_bufs_sub .., binary_bufs_sub ..⟩

set_option maxRecDepth 8192 in
/-- `main_v115`'s composed term of the arguments (named: it is long). -/
def res_main_v115 (m : (ℓ : Loc nD τ sig) → Buf (Elt F) ℓ) (c : Dev nD) : Buf (Elt F) ((c.tc : Thread nD τ).loc main_v115) :=
  Host.scatter scatter_S4x600x80_S4x2_S4x80_1_01_01_1 (fun _ b => b) (Host.scatter scatter_S4x600x80_S1_S4x598x80_012_n_1_0 (fun _ b => b) (Host.scatter scatter_S4x600x80_S1_S4x80_01_1_1_0 (fun _ b => b) (broadcastInDim S4x600x80 ![] bcast_S_S4x600x80 (constantI S_ 32 256#32)) (broadcastInDim S1 ![] bcast_S_S1 (constantI S_ 32 0#32)) (broadcastInDim S4x80 ![] bcast_S_S4x80 (constantI S_ 32 257#32))) (broadcastInDim S1 ![] bcast_S_S1 (constantI S_ 32 1#32)) (select (broadcastInDim S4x598x80 ![0, 1, 2] bcast_S4x598x1_S4x598x80_0_1_2 (cmpi .slt (broadcastInDim S4x598x1 ![0, 1, 2] bcast_S1x598x1_S4x598x1_0_1_2 (broadcastInDim S1x598x1 ![1] bcast_S598_S1x598x1_1 (iotaInDim S598 32 0))) (broadcastInDim S4x598x1 ![0, 1, 2] bcast_S4x1x1_S4x598x1_0_1_2 (broadcastInDim S4x1x1 ![0] bcast_S4_S4x1x1_0 (addi (broadcastInDim S4 ![] bcast_S_S4 (constantI S_ 32 1#32)) (select (andi (cmpi .ne (signi (subi (m ((c.tc : Thread nD τ).loc main_arg1)) (broadcastInDim S4 ![] bcast_S_S4 (constantI S_ 32 400#32)))) (broadcastInDim S4 ![] bcast_S_S4 (signi (id (constantI S_ 32 160#32))))) (cmpi .ne (Host.remsi (subi (m ((c.tc : Thread nD τ).loc main_arg1)) (broadcastInDim S4 ![] bcast_S_S4 (constantI S_ 32 400#32))) (broadcastInDim S4 ![] bcast_S_S4 (id (constantI S_ 32 160#32)))) (broadcastInDim S4 ![] bcast_S_S4 (constantI S_ 32 0#32)))) (subi (Host.divsi (subi (m ((c.tc : Thread nD τ).loc main_arg1)) (broadcastInDim S4 ![] bcast_S_S4 (constantI S_ 32 400#32))) (broadcastInDim S4 ![] bcast_S_S4 (id (constantI S_ 32 160#32)))) (broadcastInDim S4 ![] bcast_S_S4 (constantI S_ 32 1#32))) (Host.divsi (subi (m ((c.tc : Thread nD τ).loc main_arg1)) (broadcastInDim S4 ![] bcast_S_S4 (constantI S_ 32 400#32))) (broadcastInDim S4 ![] bcast_S_S4 (id (constantI S_ 32 160#32)))))))))) (fun j => (Host.argReduce reducer_argmin_f32_i32 (Host.absf (subf (broadcastInDim S4x598x80x258 ![0, 1, 2, 3] bcast_S4x598x80x1_S4x598x80x258_0_1_2_3 (broadcastInDim S4x598x80x1 ![0, 1, 2] bcast_S4x598x80_S4x598x80x1_0_1_2 (select (andi (cmpf .olt (select (cmpf .ogt (Host.log (addf (Host.dotGeneral dot_S4x598x201_S201x80_S4x598x80_2_0_01_1_n_n none (addf (mulf (Host.reduceAdd (mulf (broadcastInDim S4x598x400x201 ![0, 1, 2, 3] bcast_S4x598x400x1_S4x598x400x201_0_1_2_3 (broadcastInDim S4x598x400x1 ![0, 1, 2] bcast_S4x598x400_S4x598x400x1_0_1_2 (mulf (Host.gather gather_S4x96000_S598x400x1_S4x598x400_0_1_n_n_1_2_41 (m ((c.tc : Thread nD τ).loc main_arg0)) (broadcastInDim S598x400x1 ![0, 1] bcast_S598x400_S598x400x1_0_1 (select (cmpi .slt (addi (broadcastInDim S598x400 ![0, 1] bcast_S598x1_S598x400_0_1 (muli (broadcastInDim S598x1 ![0] bcast_S598_S598x1_0 (iotaInDim S598 32 0)) (broadcastInDim S598x1 ![] bcast_S_S598x1 (constantI S_ 32 160#32)))) (broadcastInDim S598x400 ![0, 1] bcast_S1x400_S598x400_0_1 (broadcastInDim S1x400 ![1] bcast_S400_S1x400_1 (iotaInDim S400 32 0)))) (broadcastInDim S598x400 ![] bcast_S_S598x400 (constantI S_ 32 0#32))) (addi (addi (broadcastInDim S598x400 ![0, 1] bcast_S598x1_S598x400_0_1 (muli (broadcastInDim S598x1 ![0] bcast_S598_S598x1_0 (iotaInDim S598 32 0)) (broadcastInDim S598x1 ![] bcast_S_S598x1 (constantI S_ 32 160#32)))) (broadcastInDim S598x400 ![0, 1] bcast_S1x400_S598x400_0_1 (broadcastInDim S1x400 ![1] bcast_S400_S1x400_1 (iotaInDim S400 32 0)))) (broadcastInDim S598x400 ![] bcast_S_S598x400 (constantI S_ 32 96000#32))) (addi (broadcastInDim S598x400 ![0, 1] bcast_S598x1_S598x400_0_1 (muli (broadcastInDim S598x1 ![0] bcast_S598_S598x1_0 (iotaInDim S598 32 0)) (broadcastInDim S598x1 ![] bcast_S_S598x1 (constantI S_ 32 160#32)))) (broadcastInDim S598x400 ![0, 1] bcast_S1x400_S598x400_0_1 (broadcastInDim S1x400 ![1] bcast_S400_S1x400_1 (iotaInDim S400 32 0))))))) (broadcastInDim S4x598x400 ![0, 1, 2] bcast_S1x1x400_S4x598x400_0_1_2 (broadcastInDim S1x1x400 ![2] bcast_S400_S1x1x400_2 (subf (broadcastInDim S400 ![] bcast_S_S400 (constant S_ .f32 0x3F000000#32)) (mulf (broadcastInDim S400 ![] bcast_S_S400 (constant S_ .f32 0x3F000000#32)) (Host.cos (Host.divf (mulf (broadcastInDim S400 ![] bcast_S_S400 (constant S_ .f32 0x40C90FDB#32)) (sitofp .f32 (iotaInDim S400 32 0))) (broadcastInDim S400 ![] bcast_S_S400 (constant S_ .f32 0x43C78000#32))))))))))) (broadcastInDim S4x598x400x201 ![0, 1, 2, 3] bcast_S1x1x400x201_S4x598x400x201_0_1_2_3 (broadcastInDim S1x1x400x201 ![2, 3] bcast_S400x201_S1x1x400x201_2_3 (Host.cos (Host.divf (mulf (broadcastInDim S400x201 ![] bcast_S_S400x201 (constant S_ .f32 0x40C90FDB#32)) (sitofp .f32 (muli (broadcastInDim S400x201 ![0, 1] bcast_S400x1_S400x201_0_1 (broadcastInDim S400x1 ![0] bcast_S400_S400x1_0 (iotaInDim S400 32 0))) (broadcastInDim S400x201 ![0, 1] bcast_S1x201_S400x201_0_1 (broadcastInDim S1x201 ![1] bcast_S201_S1x201_1 (iotaInDim S201 32 0)))))) (broadcastInDim S400x201 ![] bcast_S_S400x201 (constant S_ .f32 0x43C80000#32))))))) (constant S_ .f32 0x00000000#32) reducesTo_S4x598x400x201_S4x598x201_d2 h_S_) (Host.reduceAdd (mulf (broadcastInDim S4x598x400x201 ![0, 1, 2, 3] bcast_S4x598x400x1_S4x598x400x201_0_1_2_3 (broadcastInDim S4x598x400x1 ![0, 1, 2] bcast_S4x598x400_S4x598x400x1_0_1_2 (mulf (Host.gather gather_S4x96000_S598x400x1_S4x598x400_0_1_n_n_1_2_41 (m ((c.tc : Thread nD τ).loc main_arg0)) (broadcastInDim S598x400x1 ![0, 1] bcast_S598x400_S598x400x1_0_1 (select (cmpi .slt (addi (broadcastInDim S598x400 ![0, 1] bcast_S598x1_S598x400_0_1 (muli (broadcastInDim S598x1 ![0] bcast_S598_S598x1_0 (iotaInDim S598 32 0)) (broadcastInDim S598x1 ![] bcast_S_S598x1 (constantI S_ 32 160#32)))) (broadcastInDim S598x400 ![0, 1] bcast_S1x400_S598x400_0_1 (broadcastInDim S1x400 ![1] bcast_S400_S1x400_1 (iotaInDim S400 32 0)))) (broadcastInDim S598x400 ![] bcast_S_S598x400 (constantI S_ 32 0#32))) (addi (addi (broadcastInDim S598x400 ![0, 1] bcast_S598x1_S598x400_0_1 (muli (broadcastInDim S598x1 ![0] bcast_S598_S598x1_0 (iotaInDim S598 32 0)) (broadcastInDim S598x1 ![] bcast_S_S598x1 (constantI S_ 32 160#32)))) (broadcastInDim S598x400 ![0, 1] bcast_S1x400_S598x400_0_1 (broadcastInDim S1x400 ![1] bcast_S400_S1x400_1 (iotaInDim S400 32 0)))) (broadcastInDim S598x400 ![] bcast_S_S598x400 (constantI S_ 32 96000#32))) (addi (broadcastInDim S598x400 ![0, 1] bcast_S598x1_S598x400_0_1 (muli (broadcastInDim S598x1 ![0] bcast_S598_S598x1_0 (iotaInDim S598 32 0)) (broadcastInDim S598x1 ![] bcast_S_S598x1 (constantI S_ 32 160#32)))) (broadcastInDim S598x400 ![0, 1] bcast_S1x400_S598x400_0_1 (broadcastInDim S1x400 ![1] bcast_S400_S1x400_1 (iotaInDim S400 32 0))))))) (broadcastInDim S4x598x400 ![0, 1, 2] bcast_S1x1x400_S4x598x400_0_1_2 (broadcastInDim S1x1x400 ![2] bcast_S400_S1x1x400_2 (subf (broadcastInDim S400 ![] bcast_S_S400 (constant S_ .f32 0x3F000000#32)) (mulf (broadcastInDim S400 ![] bcast_S_S400 (constant S_ .f32 0x3F000000#32)) (Host.cos (Host.divf (mulf (broadcastInDim S400 ![] bcast_S_S400 (constant S_ .f32 0x40C90FDB#32)) (sitofp .f32 (iotaInDim S400 32 0))) (broadcastInDim S400 ![] bcast_S_S400 (constant S_ .f32 0x43C78000#32))))))))))) (broadcastInDim S4x598x400x201 ![0, 1, 2, 3] bcast_S1x1x400x201_S4x598x400x201_0_1_2_3 (broadcastInDim S1x1x400x201 ![2, 3] bcast_S400x201_S1x1x400x201_2_3 (Host.cos (Host.divf (mulf (broadcastInDim S400x201 ![] bcast_S_S400x201 (constant S_ .f32 0x40C90FDB#32)) (sitofp .f32 (muli (broadcastInDim S400x201 ![0, 1] bcast_S400x1_S400x201_0_1 (broadcastInDim S400x1 ![0] bcast_S400_S400x1_0 (iotaInDim S400 32 0))) (broadcastInDim S400x201 ![0, 1] bcast_S1x201_S400x201_0_1 (broadcastInDim S1x201 ![1] bcast_S201_S1x201_1 (iotaInDim S201 32 0)))))) (broadcastInDim S400x201 ![] bcast_S_S400x201 (constant S_ .f32 0x43C80000#32))))))) (constant S_ .f32 0x00000000#32) reducesTo_S4x598x400x201_S4x598x201_d2 h_S_)) (mulf (Host.reduceAdd (mulf (broadcastInDim S4x598x400x201 ![0, 1, 2, 3] bcast_S4x598x400x1_S4x598x400x201_0_1_2_3 (broadcastInDim S4x598x400x1 ![0, 1, 2] bcast_S4x598x400_S4x598x400x1_0_1_2 (mulf (Host.gather gather_S4x96000_S598x400x1_S4x598x400_0_1_n_n_1_2_41 (m ((c.tc : Thread nD τ).loc main_arg0)) (broadcastInDim S598x400x1 ![0, 1] bcast_S598x400_S598x400x1_0_1 (select (cmpi .slt (addi (broadcastInDim S598x400 ![0, 1] bcast_S598x1_S598x400_0_1 (muli (broadcastInDim S598x1 ![0] bcast_S598_S598x1_0 (iotaInDim S598 32 0)) (broadcastInDim S598x1 ![] bcast_S_S598x1 (constantI S_ 32 160#32)))) (broadcastInDim S598x400 ![0, 1] bcast_S1x400_S598x400_0_1 (broadcastInDim S1x400 ![1] bcast_S400_S1x400_1 (iotaInDim S400 32 0)))) (broadcastInDim S598x400 ![] bcast_S_S598x400 (constantI S_ 32 0#32))) (addi (addi (broadcastInDim S598x400 ![0, 1] bcast_S598x1_S598x400_0_1 (muli (broadcastInDim S598x1 ![0] bcast_S598_S598x1_0 (iotaInDim S598 32 0)) (broadcastInDim S598x1 ![] bcast_S_S598x1 (constantI S_ 32 160#32)))) (broadcastInDim S598x400 ![0, 1] bcast_S1x400_S598x400_0_1 (broadcastInDim S1x400 ![1] bcast_S400_S1x400_1 (iotaInDim S400 32 0)))) (broadcastInDim S598x400 ![] bcast_S_S598x400 (constantI S_ 32 96000#32))) (addi (broadcastInDim S598x400 ![0, 1] bcast_S598x1_S598x400_0_1 (muli (broadcastInDim S598x1 ![0] bcast_S598_S598x1_0 (iotaInDim S598 32 0)) (broadcastInDim S598x1 ![] bcast_S_S598x1 (constantI S_ 32 160#32)))) (broadcastInDim S598x400 ![0, 1] bcast_S1x400_S598x400_0_1 (broadcastInDim S1x400 ![1] bcast_S400_S1x400_1 (iotaInDim S400 32 0))))))) (broadcastInDim S4x598x400 ![0, 1, 2] bcast_S1x1x400_S4x598x400_0_1_2 (broadcastInDim S1x1x400 ![2] bcast_S400_S1x1x400_2 (subf (broadcastInDim S400 ![] bcast_S_S400 (constant S_ .f32 0x3F000000#32)) (mulf (broadcastInDim S400 ![] bcast_S_S400 (constant S_ .f32 0x3F000000#32)) (Host.cos (Host.divf (mulf (broadcastInDim S400 ![] bcast_S_S400 (constant S_ .f32 0x40C90FDB#32)) (sitofp .f32 (iotaInDim S400 32 0))) (broadcastInDim S400 ![] bcast_S_S400 (constant S_ .f32 0x43C78000#32))))))))))) (broadcastInDim S4x598x400x201 ![0, 1, 2, 3] bcast_S1x1x400x201_S4x598x400x201_0_1_2_3 (broadcastInDim S1x1x400x201 ![2, 3] bcast_S400x201_S1x1x400x201_2_3 (Host.negf (Host.sin (Host.divf (mulf (broadcastInDim S400x201 ![] bcast_S_S400x201 (constant S_ .f32 0x40C90FDB#32)) (sitofp .f32 (muli (broadcastInDim S400x201 ![0, 1] bcast_S400x1_S400x201_0_1 (broadcastInDim S400x1 ![0] bcast_S400_S400x1_0 (iotaInDim S400 32 0))) (broadcastInDim S400x201 ![0, 1] bcast_S1x201_S400x201_0_1 (broadcastInDim S1x201 ![1] bcast_S201_S1x201_1 (iotaInDim S201 32 0)))))) (broadcastInDim S400x201 ![] bcast_S_S400x201 (constant S_ .f32 0x43C80000#32)))))))) (constant S_ .f32 0x00000000#32) reducesTo_S4x598x400x201_S4x598x201_d2 h_S_) (Host.reduceAdd (mulf (broadcastInDim S4x598x400x201 ![0, 1, 2, 3] bcast_S4x598x400x1_S4x598x400x201_0_1_2_3 (broadcastInDim S4x598x400x1 ![0, 1, 2] bcast_S4x598x400_S4x598x400x1_0_1_2 (mulf (Host.gather gather_S4x96000_S598x400x1_S4x598x400_0_1_n_n_1_2_41 (m ((c.tc : Thread nD τ).loc main_arg0)) (broadcastInDim S598x400x1 ![0, 1] bcast_S598x400_S598x400x1_0_1 (select (cmpi .slt (addi (broadcastInDim S598x400 ![0, 1] bcast_S598x1_S598x400_0_1 (muli (broadcastInDim S598x1 ![0] bcast_S598_S598x1_0 (iotaInDim S598 32 0)) (broadcastInDim S598x1 ![] bcast_S_S598x1 (constantI S_ 32 160#32)))) (broadcastInDim S598x400 ![0, 1] bcast_S1x400_S598x400_0_1 (broadcastInDim S1x400 ![1] bcast_S400_S1x400_1 (iotaInDim S400 32 0)))) (broadcastInDim S598x400 ![] bcast_S_S598x400 (constantI S_ 32 0#32))) (addi (addi (broadcastInDim S598x400 ![0, 1] bcast_S598x1_S598x400_0_1 (muli (broadcastInDim S598x1 ![0] bcast_S598_S598x1_0 (iotaInDim S598 32 0)) (broadcastInDim S598x1 ![] bcast_S_S598x1 (constantI S_ 32 160#32)))) (broadcastInDim S598x400 ![0, 1] bcast_S1x400_S598x400_0_1 (broadcastInDim S1x400 ![1] bcast_S400_S1x400_1 (iotaInDim S400 32 0)))) (broadcastInDim S598x400 ![] bcast_S_S598x400 (constantI S_ 32 96000#32))) (addi (broadcastInDim S598x400 ![0, 1] bcast_S598x1_S598x400_0_1 (muli (broadcastInDim S598x1 ![0] bcast_S598_S598x1_0 (iotaInDim S598 32 0)) (broadcastInDim S598x1 ![] bcast_S_S598x1 (constantI S_ 32 160#32)))) (broadcastInDim S598x400 ![0, 1] bcast_S1x400_S598x400_0_1 (broadcastInDim S1x400 ![1] bcast_S400_S1x400_1 (iotaInDim S400 32 0))))))) (broadcastInDim S4x598x400 ![0, 1, 2] bcast_S1x1x400_S4x598x400_0_1_2 (broadcastInDim S1x1x400 ![2] bcast_S400_S1x1x400_2 (subf (broadcastInDim S400 ![] bcast_S_S400 (constant S_ .f32 0x3F000000#32)) (mulf (broadcastInDim S400 ![] bcast_S_S400 (constant S_ .f32 0x3F000000#32)) (Host.cos (Host.divf (mulf (broadcastInDim S400 ![] bcast_S_S400 (constant S_ .f32 0x40C90FDB#32)) (sitofp .f32 (iotaInDim S400 32 0))) (broadcastInDim S400 ![] bcast_S_S400 (constant S_ .f32 0x43C78000#32))))))))))) (broadcastInDim S4x598x400x201 ![0, 1, 2, 3] bcast_S1x1x400x201_S4x598x400x201_0_1_2_3 (broadcastInDim S1x1x400x201 ![2, 3] bcast_S400x201_S1x1x400x201_2_3 (Host.negf (Host.sin (Host.divf (mulf (broadcastInDim S400x201 ![] bcast_S_S400x201 (constant S_ .f32 0x40C90FDB#32)) (sitofp .f32 (muli (broadcastInDim S400x201 ![0, 1] bcast_S400x1_S400x201_0_1 (broadcastInDim S400x1 ![0] bcast_S400_S400x1_0 (iotaInDim S400 32 0))) (broadcastInDim S400x201 ![0, 1] bcast_S1x201_S400x201_0_1 (broadcastInDim S1x201 ![1] bcast_S201_S1x201_1 (iotaInDim S201 32 0)))))) (broadcastInDim S400x201 ![] bcast_S_S400x201 (constant S_ .f32 0x43C80000#32)))))))) (constant S_ .f32 0x00000000#32) reducesTo_S4x598x400x201_S4x598x201_d2 h_S_))) (transpose S201x80 [1, 0] (m ((c.tc : Thread nD τ).loc main_arg2)) transposes_S80x201_S201x80_1_0)) (broadcastInDim S4x598x80 ![] bcast_S_S4x598x80 (constant S_ .f32 0x2EDBE6FF#32)))) (broadcastInDim S4x598x80 ![] bcast_S_S4x598x80 (constant S_ .f32 0x40000000#32))) (broadcastInDim S4x598x80 ![] bcast_S_S4x598x80 (id (constant S_ .f32 0x40000000#32))) (Host.log (addf (Host.dotGeneral dot_S4x598x201_S201x80_S4x598x80_2_0_01_1_n_n none (addf (mulf (Host.reduceAdd (mulf (broadcastInDim S4x598x400x201 ![0, 1, 2, 3] bcast_S4x598x400x1_S4x598x400x201_0_1_2_3 (broadcastInDim S4x598x400x1 ![0, 1, 2] bcast_S4x598x400_S4x598x400x1_0_1_2 (mulf (Host.gather gather_S4x96000_S598x400x1_S4x598x400_0_1_n_n_1_2_41 (m ((c.tc : Thread nD τ).loc main_arg0)) (broadcastInDim S598x400x1 ![0, 1] bcast_S598x400_S598x400x1_0_1 (select (cmpi .slt (addi (broadcastInDim S598x400 ![0, 1] bcast_S598x1_S598x400_0_1 (muli (broadcastInDim S598x1 ![0] bcast_S598_S598x1_0 (iotaInDim S598 32 0)) (broadcastInDim S598x1 ![] bcast_S_S598x1 (constantI S_ 32 160#32)))) (broadcastInDim S598x400 ![0, 1] bcast_S1x400_S598x400_0_1 (broadcastInDim S1x400 ![1] bcast_S400_S1x400_1 (iotaInDim S400 32 0)))) (broadcastInDim S598x400 ![] bcast_S_S598x400 (constantI S_ 32 0#32))) (addi (addi (broadcastInDim S598x400 ![0, 1] bcast_S598x1_S598x400_0_1 (muli (broadcastInDim S598x1 ![0] bcast_S598_S598x1_0 (iotaInDim S598 32 0)) (broadcastInDim S598x1 ![] bcast_S_S598x1 (constantI S_ 32 160#32)))) (broadcastInDim S598x400 ![0, 1] bcast_S1x400_S598x400_0_1 (broadcastInDim S1x400 ![1] bcast_S400_S1x400_1 (iotaInDim S400 32 0)))) (broadcastInDim S598x400 ![] bcast_S_S598x400 (constantI S_ 32 96000#32))) (addi (broadcastInDim S598x400 ![0, 1] bcast_S598x1_S598x400_0_1 (muli (broadcastInDim S598x1 ![0] bcast_S598_S598x1_0 (iotaInDim S598 32 0)) (broadcastInDim S598x1 ![] bcast_S_S598x1 (constantI S_ 32 160#32)))) (broadcastInDim S598x400 ![0, 1] bcast_S1x400_S598x400_0_1 (broadcastInDim S1x400 ![1] bcast_S400_S1x400_1 (iotaInDim S400 32 0))))))) (broadcastInDim S4x598x400 ![0, 1, 2] bcast_S1x1x400_S4x598x400_0_1_2 (broadcastInDim S1x1x400 ![2] bcast_S400_S1x1x400_2 (subf (broadcastInDim S400 ![] bcast_S_S400 (constant S_ .f32 0x3F000000#32)) (mulf (broadcastInDim S400 ![] bcast_S_S400 (constant S_ .f32 0x3F000000#32)) (Host.cos (Host.divf (mulf (broadcastInDim S400 ![] bcast_S_S400 (constant S_ .f32 0x40C90FDB#32)) (sitofp .f32 (iotaInDim S400 32 0))) (broadcastInDim S400 ![] bcast_S_S400 (constant S_ .f32 0x43C78000#32))))))))))) (broadcastInDim S4x598x400x201 ![0, 1, 2, 3] bcast_S1x1x400x201_S4x598x400x201_0_1_2_3 (broadcastInDim S1x1x400x201 ![2, 3] bcast_S400x201_S1x1x400x201_2_3 (Host.cos (Host.divf (mulf (broadcastInDim S400x201 ![] bcast_S_S400x201 (constant S_ .f32 0x40C90FDB#32)) (sitofp .f32 (muli (broadcastInDim S400x201 ![0, 1] bcast_S400x1_S400x201_0_1 (broadcastInDim S400x1 ![0] bcast_S400_S400x1_0 (iotaInDim S400 32 0))) (broadcastInDim S400x201 ![0, 1] bcast_S1x201_S400x201_0_1 (broadcastInDim S1x201 ![1] bcast_S201_S1x201_1 (iotaInDim S201 32 0)))))) (broadcastInDim S400x201 ![] bcast_S_S400x201 (constant S_ .f32 0x43C80000#32))))))) (constant S_ .f32 0x00000000#32) reducesTo_S4x598x400x201_S4x598x201_d2 h_S_) (Host.reduceAdd (mulf (broadcastInDim S4x598x400x201 ![0, 1, 2, 3] bcast_S4x598x400x1_S4x598x400x201_0_1_2_3 (broadcastInDim S4x598x400x1 ![0, 1, 2] bcast_S4x598x400_S4x598x400x1_0_1_2 (mulf (Host.gather gather_S4x96000_S598x400x1_S4x598x400_0_1_n_n_1_2_41 (m ((c.tc : Thread nD τ).loc main_arg0)) (broadcastInDim S598x400x1 ![0, 1] bcast_S598x400_S598x400x1_0_1 (select (cmpi .slt (addi (broadcastInDim S598x400 ![0, 1] bcast_S598x1_S598x400_0_1 (muli (broadcastInDim S598x1 ![0] bcast_S598_S598x1_0 (iotaInDim S598 32 0)) (broadcastInDim S598x1 ![] bcast_S_S598x1 (constantI S_ 32 160#32)))) (broadcastInDim S598x400 ![0, 1] bcast_S1x400_S598x400_0_1 (broadcastInDim S1x400 ![1] bcast_S400_S1x400_1 (iotaInDim S400 32 0)))) (broadcastInDim S598x400 ![] bcast_S_S598x400 (constantI S_ 32 0#32))) (addi (addi (broadcastInDim S598x400 ![0, 1] bcast_S598x1_S598x400_0_1 (muli (broadcastInDim S598x1 ![0] bcast_S598_S598x1_0 (iotaInDim S598 32 0)) (broadcastInDim S598x1 ![] bcast_S_S598x1 (constantI S_ 32 160#32)))) (broadcastInDim S598x400 ![0, 1] bcast_S1x400_S598x400_0_1 (broadcastInDim S1x400 ![1] bcast_S400_S1x400_1 (iotaInDim S400 32 0)))) (broadcastInDim S598x400 ![] bcast_S_S598x400 (constantI S_ 32 96000#32))) (addi (broadcastInDim S598x400 ![0, 1] bcast_S598x1_S598x400_0_1 (muli (broadcastInDim S598x1 ![0] bcast_S598_S598x1_0 (iotaInDim S598 32 0)) (broadcastInDim S598x1 ![] bcast_S_S598x1 (constantI S_ 32 160#32)))) (broadcastInDim S598x400 ![0, 1] bcast_S1x400_S598x400_0_1 (broadcastInDim S1x400 ![1] bcast_S400_S1x400_1 (iotaInDim S400 32 0))))))) (broadcastInDim S4x598x400 ![0, 1, 2] bcast_S1x1x400_S4x598x400_0_1_2 (broadcastInDim S1x1x400 ![2] bcast_S400_S1x1x400_2 (subf (broadcastInDim S400 ![] bcast_S_S400 (constant S_ .f32 0x3F000000#32)) (mulf (broadcastInDim S400 ![] bcast_S_S400 (constant S_ .f32 0x3F000000#32)) (Host.cos (Host.divf (mulf (broadcastInDim S400 ![] bcast_S_S400 (constant S_ .f32 0x40C90FDB#32)) (sitofp .f32 (iotaInDim S400 32 0))) (broadcastInDim S400 ![] bcast_S_S400 (constant S_ .f32 0x43C78000#32))))))))))) (broadcastInDim S4x598x400x201 ![0, 1, 2, 3] bcast_S1x1x400x201_S4x598x400x201_0_1_2_3 (broadcastInDim S1x1x400x201 ![2, 3] bcast_S400x201_S1x1x400x201_2_3 (Host.cos (Host.divf (mulf (broadcastInDim S400x201 ![] bcast_S_S400x201 (constant S_ .f32 0x40C90FDB#32)) (sitofp .f32 (muli (broadcastInDim S400x201 ![0, 1] bcast_S400x1_S400x201_0_1 (broadcastInDim S400x1 ![0] bcast_S400_S400x1_0 (iotaInDim S400 32 0))) (broadcastInDim S400x201 ![0, 1] bcast_S1x201_S400x201_0_1 (broadcastInDim S1x201 ![1] bcast_S201_S1x201_1 (iotaInDim S201 32 0)))))) (broadcastInDim S400x201 ![] bcast_S_S400x201 (constant S_ .f32 0x43C80000#32))))))) (constant S_ .f32 0x00000000#32) reducesTo_S4x598x400x201_S4x598x201_d2 h_S_)) (mulf (Host.reduceAdd (mulf (broadcastInDim S4x598x400x201 ![0, 1, 2, 3] bcast_S4x598x400x1_S4x598x400x201_0_1_2_3 (broadcastInDim S4x598x400x1 ![0, 1, 2] bcast_S4x598x400_S4x598x400x1_0_1_2 (mulf (Host.gather gather_S4x96000_S598x400x1_S4x598x400_0_1_n_n_1_2_41 (m ((c.tc : Thread nD τ).loc main_arg0)) (broadcastInDim S598x400x1 ![0, 1] bcast_S598x400_S598x400x1_0_1 (select (cmpi .slt (addi (broadcastInDim S598x400 ![0, 1] bcast_S598x1_S598x400_0_1 (muli (broadcastInDim S598x1 ![0] bcast_S598_S598x1_0 (iotaInDim S598 32 0)) (broadcastInDim S598x1 ![] bcast_S_S598x1 (constantI S_ 32 160#32)))) (broadcastInDim S598x400 ![0, 1] bcast_S1x400_S598x400_0_1 (broadcastInDim S1x400 ![1] bcast_S400_S1x400_1 (iotaInDim S400 32 0)))) (broadcastInDim S598x400 ![] bcast_S_S598x400 (constantI S_ 32 0#32))) (addi (addi (broadcastInDim S598x400 ![0, 1] bcast_S598x1_S598x400_0_1 (muli (broadcastInDim S598x1 ![0] bcast_S598_S598x1_0 (iotaInDim S598 32 0)) (broadcastInDim S598x1 ![] bcast_S_S598x1 (constantI S_ 32 160#32)))) (broadcastInDim S598x400 ![0, 1] bcast_S1x400_S598x400_0_1 (broadcastInDim S1x400 ![1] bcast_S400_S1x400_1 (iotaInDim S400 32 0)))) (broadcastInDim S598x400 ![] bcast_S_S598x400 (constantI S_ 32 96000#32))) (addi (broadcastInDim S598x400 ![0, 1] bcast_S598x1_S598x400_0_1 (muli (broadcastInDim S598x1 ![0] bcast_S598_S598x1_0 (iotaInDim S598 32 0)) (broadcastInDim S598x1 ![] bcast_S_S598x1 (constantI S_ 32 160#32)))) (broadcastInDim S598x400 ![0, 1] bcast_S1x400_S598x400_0_1 (broadcastInDim S1x400 ![1] bcast_S400_S1x400_1 (iotaInDim S400 32 0))))))) (broadcastInDim S4x598x400 ![0, 1, 2] bcast_S1x1x400_S4x598x400_0_1_2 (broadcastInDim S1x1x400 ![2] bcast_S400_S1x1x400_2 (subf (broadcastInDim S400 ![] bcast_S_S400 (constant S_ .f32 0x3F000000#32)) (mulf (broadcastInDim S400 ![] bcast_S_S400 (constant S_ .f32 0x3F000000#32)) (Host.cos (Host.divf (mulf (broadcastInDim S400 ![] bcast_S_S400 (constant S_ .f32 0x40C90FDB#32)) (sitofp .f32 (iotaInDim S400 32 0))) (broadcastInDim S400 ![] bcast_S_S400 (constant S_ .f32 0x43C78000#32))))))))))) (broadcastInDim S4x598x400x201 ![0, 1, 2, 3] bcast_S1x1x400x201_S4x598x400x201_0_1_2_3 (broadcastInDim S1x1x400x201 ![2, 3] bcast_S400x201_S1x1x400x201_2_3 (Host.negf (Host.sin (Host.divf (mulf (broadcastInDim S400x201 ![] bcast_S_S400x201 (constant S_ .f32 0x40C90FDB#32)) (sitofp .f32 (muli (broadcastInDim S400x201 ![0, 1] bcast_S400x1_S400x201_0_1 (broadcastInDim S400x1 ![0] bcast_S400_S400x1_0 (iotaInDim S400 32 0))) (broadcastInDim S400x201 ![0, 1] bcast_S1x201_S400x201_0_1 (broadcastInDim S1x201 ![1] bcast_S201_S1x201_1 (iotaInDim S201 32 0)))))) (broadcastInDim S400x201 ![] bcast_S_S400x201 (constant S_ .f32 0x43C80000#32)))))))) (constant S_ .f32 0x00000000#32) reducesTo_S4x598x400x201_S4x598x201_d2 h_S_) (Host.reduceAdd (mulf (broadcastInDim S4x598x400x201 ![0, 1, 2, 3] bcast_S4x598x400x1_S4x598x400x201_0_1_2_3 (broadcastInDim S4x598x400x1 ![0, 1, 2] bcast_S4x598x400_S4x598x400x1_0_1_2 (mulf (Host.gather gather_S4x96000_S598x400x1_S4x598x400_0_1_n_n_1_2_41 (m ((c.tc : Thread nD τ).loc main_arg0)) (broadcastInDim S598x400x1 ![0, 1] bcast_S598x400_S598x400x1_0_1 (select (cmpi .slt (addi (broadcastInDim S598x400 ![0, 1] bcast_S598x1_S598x400_0_1 (muli (broadcastInDim S598x1 ![0] bcast_S598_S598x1_0 (iotaInDim S598 32 0)) (broadcastInDim S598x1 ![] bcast_S_S598x1 (constantI S_ 32 160#32)))) (broadcastInDim S598x400 ![0, 1] bcast_S1x400_S598x400_0_1 (broadcastInDim S1x400 ![1] bcast_S400_S1x400_1 (iotaInDim S400 32 0)))) (broadcastInDim S598x400 ![] bcast_S_S598x400 (constantI S_ 32 0#32))) (addi (addi (broadcastInDim S598x400 ![0, 1] bcast_S598x1_S598x400_0_1 (muli (broadcastInDim S598x1 ![0] bcast_S598_S598x1_0 (iotaInDim S598 32 0)) (broadcastInDim S598x1 ![] bcast_S_S598x1 (constantI S_ 32 160#32)))) (broadcastInDim S598x400 ![0, 1] bcast_S1x400_S598x400_0_1 (broadcastInDim S1x400 ![1] bcast_S400_S1x400_1 (iotaInDim S400 32 0)))) (broadcastInDim S598x400 ![] bcast_S_S598x400 (constantI S_ 32 96000#32))) (addi (broadcastInDim S598x400 ![0, 1] bcast_S598x1_S598x400_0_1 (muli (broadcastInDim S598x1 ![0] bcast_S598_S598x1_0 (iotaInDim S598 32 0)) (broadcastInDim S598x1 ![] bcast_S_S598x1 (constantI S_ 32 160#32)))) (broadcastInDim S598x400 ![0, 1] bcast_S1x400_S598x400_0_1 (broadcastInDim S1x400 ![1] bcast_S400_S1x400_1 (iotaInDim S400 32 0))))))) (broadcastInDim S4x598x400 ![0, 1, 2] bcast_S1x1x400_S4x598x400_0_1_2 (broadcastInDim S1x1x400 ![2] bcast_S400_S1x1x400_2 (subf (broadcastInDim S400 ![] bcast_S_S400 (constant S_ .f32 0x3F000000#32)) (mulf (broadcastInDim S400 ![] bcast_S_S400 (constant S_ .f32 0x3F000000#32)) (Host.cos (Host.divf (mulf (broadcastInDim S400 ![] bcast_S_S400 (constant S_ .f32 0x40C90FDB#32)) (sitofp .f32 (iotaInDim S400 32 0))) (broadcastInDim S400 ![] bcast_S_S400 (constant S_ .f32 0x43C78000#32))))))))))) (broadcastInDim S4x598x400x201 ![0, 1, 2, 3] bcast_S1x1x400x201_S4x598x400x201_0_1_2_3 (broadcastInDim S1x1x400x201 ![2, 3] bcast_S400x201_S1x1x400x201_2_3 (Host.negf (Host.sin (Host.divf (mulf (broadcastInDim S400x201 ![] bcast_S_S400x201 (constant S_ .f32 0x40C90FDB#32)) (sitofp .f32 (muli (broadcastInDim S400x201 ![0, 1] bcast_S400x1_S400x201_0_1 (broadcastInDim S400x1 ![0] bcast_S400_S400x1_0 (iotaInDim S400 32 0))) (broadcastInDim S400x201 ![0, 1] bcast_S1x201_S400x201_0_1 (broadcastInDim S1x201 ![1] bcast_S201_S1x201_1 (iotaInDim S201 32 0)))))) (broadcastInDim S400x201 ![] bcast_S_S400x201 (constant S_ .f32 0x43C80000#32)))))))) (constant S_ .f32 0x00000000#32) reducesTo_S4x598x400x201_S4x598x201_d2 h_S_))) (transpose S201x80 [1, 0] (m ((c.tc : Thread nD τ).loc main_arg2)) transposes_S80x201_S201x80_1_0)) (broadcastInDim S4x598x80 ![] bcast_S_S4x598x80 (constant S_ .f32 0x2EDBE6FF#32))))) (broadcastInDim S4x598x80 ![] bcast_S_S4x598x80 (constant S_ .f32 0xC0E00000#32))) (cmpf .une (select (cmpf .ogt (Host.log (addf (Host.dotGeneral dot_S4x598x201_S201x80_S4x598x80_2_0_01_1_n_n none (addf (mulf (Host.reduceAdd (mulf (broadcastInDim S4x598x400x201 ![0, 1, 2, 3] bcast_S4x598x400x1_S4x598x400x201_0_1_2_3 (broadcastInDim S4x598x400x1 ![0, 1, 2] bcast_S4x598x400_S4x598x400x1_0_1_2 (mulf (Host.gather gather_S4x96000_S598x400x1_S4x598x400_0_1_n_n_1_2_41 (m ((c.tc : Thread nD τ).loc main_arg0)) (broadcastInDim S598x400x1 ![0, 1] bcast_S598x400_S598x400x1_0_1 (select (cmpi .slt (addi (broadcastInDim S598x400 ![0, 1] bcast_S598x1_S598x400_0_1 (muli (broadcastInDim S598x1 ![0] bcast_S598_S598x1_0 (iotaInDim S598 32 0)) (broadcastInDim S598x1 ![] bcast_S_S598x1 (constantI S_ 32 160#32)))) (broadcastInDim S598x400 ![0, 1] bcast_S1x400_S598x400_0_1 (broadcastInDim S1x400 ![1] bcast_S400_S1x400_1 (iotaInDim S400 32 0)))) (broadcastInDim S598x400 ![] bcast_S_S598x400 (constantI S_ 32 0#32))) (addi (addi (broadcastInDim S598x400 ![0, 1] bcast_S598x1_S598x400_0_1 (muli (broadcastInDim S598x1 ![0] bcast_S598_S598x1_0 (iotaInDim S598 32 0)) (broadcastInDim S598x1 ![] bcast_S_S598x1 (constantI S_ 32 160#32)))) (broadcastInDim S598x400 ![0, 1] bcast_S1x400_S598x400_0_1 (broadcastInDim S1x400 ![1] bcast_S400_S1x400_1 (iotaInDim S400 32 0)))) (broadcastInDim S598x400 ![] bcast_S_S598x400 (constantI S_ 32 96000#32))) (addi (broadcastInDim S598x400 ![0, 1] bcast_S598x1_S598x400_0_1 (muli (broadcastInDim S598x1 ![0] bcast_S598_S598x1_0 (iotaInDim S598 32 0)) (broadcastInDim S598x1 ![] bcast_S_S598x1 (constantI S_ 32 160#32)))) (broadcastInDim S598x400 ![0, 1] bcast_S1x400_S598x400_0_1 (broadcastInDim S1x400 ![1] bcast_S400_S1x400_1 (iotaInDim S400 32 0))))))) (broadcastInDim S4x598x400 ![0, 1, 2] bcast_S1x1x400_S4x598x400_0_1_2 (broadcastInDim S1x1x400 ![2] bcast_S400_S1x1x400_2 (subf (broadcastInDim S400 ![] bcast_S_S400 (constant S_ .f32 0x3F000000#32)) (mulf (broadcastInDim S400 ![] bcast_S_S400 (constant S_ .f32 0x3F000000#32)) (Host.cos (Host.divf (mulf (broadcastInDim S400 ![] bcast_S_S400 (constant S_ .f32 0x40C90FDB#32)) (sitofp .f32 (iotaInDim S400 32 0))) (broadcastInDim S400 ![] bcast_S_S400 (constant S_ .f32 0x43C78000#32))))))))))) (broadcastInDim S4x598x400x201 ![0, 1, 2, 3] bcast_S1x1x400x201_S4x598x400x201_0_1_2_3 (broadcastInDim S1x1x400x201 ![2, 3] bcast_S400x201_S1x1x400x201_2_3 (Host.cos (Host.divf (mulf (broadcastInDim S400x201 ![] bcast_S_S400x201 (constant S_ .f32 0x40C90FDB#32)) (sitofp .f32 (muli (broadcastInDim S400x201 ![0, 1] bcast_S400x1_S400x201_0_1 (broadcastInDim S400x1 ![0] bcast_S400_S400x1_0 (iotaInDim S400 32 0))) (broadcastInDim S400x201 ![0, 1] bcast_S1x201_S400x201_0_1 (broadcastInDim S1x201 ![1] bcast_S201_S1x201_1 (iotaInDim S201 32 0)))))) (broadcastInDim S400x201 ![] bcast_S_S400x201 (constant S_ .f32 0x43C80000#32))))))) (constant S_ .f32 0x00000000#32) reducesTo_S4x598x400x201_S4x598x201_d2 h_S_) (Host.reduceAdd (mulf (broadcastInDim S4x598x400x201 ![0, 1, 2, 3] bcast_S4x598x400x1_S4x598x400x201_0_1_2_3 (broadcastInDim S4x598x400x1 ![0, 1, 2] bcast_S4x598x400_S4x598x400x1_0_1_2 (mulf (Host.gather gather_S4x96000_S598x400x1_S4x598x400_0_1_n_n_1_2_41 (m ((c.tc : Thread nD τ).loc main_arg0)) (broadcastInDim S598x400x1 ![0, 1] bcast_S598x400_S598x400x1_0_1 (select (cmpi .slt (addi (broadcastInDim S598x400 ![0, 1] bcast_S598x1_S598x400_0_1 (muli (broadcastInDim S598x1 ![0] bcast_S598_S598x1_0 (iotaInDim S598 32 0)) (broadcastInDim S598x1 ![] bcast_S_S598x1 (constantI S_ 32 160#32)))) (broadcastInDim S598x400 ![0, 1] bcast_S1x400_S598x400_0_1 (broadcastInDim S1x400 ![1] bcast_S400_S1x400_1 (iotaInDim S400 32 0)))) (broadcastInDim S598x400 ![] bcast_S_S598x400 (constantI S_ 32 0#32))) (addi (addi (broadcastInDim S598x400 ![0, 1] bcast_S598x1_S598x400_0_1 (muli (broadcastInDim S598x1 ![0] bcast_S598_S598x1_0 (iotaInDim S598 32 0)) (broadcastInDim S598x1 ![] bcast_S_S598x1 (constantI S_ 32 160#32)))) (broadcastInDim S598x400 ![0, 1] bcast_S1x400_S598x400_0_1 (broadcastInDim S1x400 ![1] bcast_S400_S1x400_1 (iotaInDim S400 32 0)))) (broadcastInDim S598x400 ![] bcast_S_S598x400 (constantI S_ 32 96000#32))) (addi (broadcastInDim S598x400 ![0, 1] bcast_S598x1_S598x400_0_1 (muli (broadcastInDim S598x1 ![0] bcast_S598_S598x1_0 (iotaInDim S598 32 0)) (broadcastInDim S598x1 ![] bcast_S_S598x1 (constantI S_ 32 160#32)))) (broadcastInDim S598x400 ![0, 1] bcast_S1x400_S598x400_0_1 (broadcastInDim S1x400 ![1] bcast_S400_S1x400_1 (iotaInDim S400 32 0))))))) (broadcastInDim S4x598x400 ![0, 1, 2] bcast_S1x1x400_S4x598x400_0_1_2 (broadcastInDim S1x1x400 ![2] bcast_S400_S1x1x400_2 (subf (broadcastInDim S400 ![] bcast_S_S400 (constant S_ .f32 0x3F000000#32)) (mulf (broadcastInDim S400 ![] bcast_S_S400 (constant S_ .f32 0x3F000000#32)) (Host.cos (Host.divf (mulf (broadcastInDim S400 ![] bcast_S_S400 (constant S_ .f32 0x40C90FDB#32)) (sitofp .f32 (iotaInDim S400 32 0))) (broadcastInDim S400 ![] bcast_S_S400 (constant S_ .f32 0x43C78000#32))))))))))) (broadcastInDim S4x598x400x201 ![0, 1, 2, 3] bcast_S1x1x400x201_S4x598x400x201_0_1_2_3 (broadcastInDim S1x1x400x201 ![2, 3] bcast_S400x201_S1x1x400x201_2_3 (Host.cos (Host.divf (mulf (broadcastInDim S400x201 ![] bcast_S_S400x201 (constant S_ .f32 0x40C90FDB#32)) (sitofp .f32 (muli (broadcastInDim S400x201 ![0, 1] bcast_S400x1_S400x201_0_1 (broadcastInDim S400x1 ![0] bcast_S400_S400x1_0 (iotaInDim S400 32 0))) (broadcastInDim S400x201 ![0, 1] bcast_S1x201_S400x201_0_1 (broadcastInDim S1x201 ![1] bcast_S201_S1x201_1 (iotaInDim S201 32 0)))))) (broadcastInDim S400x201 ![] bcast_S_S400x201 (constant S_ .f32 0x43C80000#32))))))) (constant S_ .f32 0x00000000#32) reducesTo_S4x598x400x201_S4x598x201_d2 h_S_)) (mulf (Host.reduceAdd (mulf (broadcastInDim S4x598x400x201 ![0, 1, 2, 3] bcast_S4x598x400x1_S4x598x400x201_0_1_2_3 (broadcastInDim S4x598x400x1 ![0, 1, 2] bcast_S4x598x400_S4x598x400x1_0_1_2 (mulf (Host.gather gather_S4x96000_S598x400x1_S4x598x400_0_1_n_n_1_2_41 (m ((c.tc : Thread nD τ).loc main_arg0)) (broadcastInDim S598x400x1 ![0, 1] bcast_S598x400_S598x400x1_0_1 (select (cmpi .slt (addi (broadcastInDim S598x400 ![0, 1] bcast_S598x1_S598x400_0_1 (muli (broadcastInDim S598x1 ![0] bcast_S598_S598x1_0 (iotaInDim S598 32 0)) (broadcastInDim S598x1 ![] bcast_S_S598x1 (constantI S_ 32 160#32)))) (broadcastInDim S598x400 ![0, 1] bcast_S1x400_S598x400_0_1 (broadcastInDim S1x400 ![1] bcast_S400_S1x400_1 (iotaInDim S400 32 0)))) (broadcastInDim S598x400 ![] bcast_S_S598x400 (constantI S_ 32 0#32))) (addi (addi (broadcastInDim S598x400 ![0, 1] bcast_S598x1_S598x400_0_1 (muli (broadcastInDim S598x1 ![0] bcast_S598_S598x1_0 (iotaInDim S598 32 0)) (broadcastInDim S598x1 ![] bcast_S_S598x1 (constantI S_ 32 160#32)))) (broadcastInDim S598x400 ![0, 1] bcast_S1x400_S598x400_0_1 (broadcastInDim S1x400 ![1] bcast_S400_S1x400_1 (iotaInDim S400 32 0)))) (broadcastInDim S598x400 ![] bcast_S_S598x400 (constantI S_ 32 96000#32))) (addi (broadcastInDim S598x400 ![0, 1] bcast_S598x1_S598x400_0_1 (muli (broadcastInDim S598x1 ![0] bcast_S598_S598x1_0 (iotaInDim S598 32 0)) (broadcastInDim S598x1 ![] bcast_S_S598x1 (constantI S_ 32 160#32)))) (broadcastInDim S598x400 ![0, 1] bcast_S1x400_S598x400_0_1 (broadcastInDim S1x400 ![1] bcast_S400_S1x400_1 (iotaInDim S400 32 0))))))) (broadcastInDim S4x598x400 ![0, 1, 2] bcast_S1x1x400_S4x598x400_0_1_2 (broadcastInDim S1x1x400 ![2] bcast_S400_S1x1x400_2 (subf (broadcastInDim S400 ![] bcast_S_S400 (constant S_ .f32 0x3F000000#32)) (mulf (broadcastInDim S400 ![] bcast_S_S400 (constant S_ .f32 0x3F000000#32)) (Host.cos (Host.divf (mulf (broadcastInDim S400 ![] bcast_S_S400 (constant S_ .f32 0x40C90FDB#32)) (sitofp .f32 (iotaInDim S400 32 0))) (broadcastInDim S400 ![] bcast_S_S400 (constant S_ .f32 0x43C78000#32))))))))))) (broadcastInDim S4x598x400x201 ![0, 1, 2, 3] bcast_S1x1x400x201_S4x598x400x201_0_1_2_3 (broadcastInDim S1x1x400x201 ![2, 3] bcast_S400x201_S1x1x400x201_2_3 (Host.negf (Host.sin (Host.divf (mulf (broadcastInDim S400x201 ![] bcast_S_S400x201 (constant S_ .f32 0x40C90FDB#32)) (sitofp .f32 (muli (broadcastInDim S400x201 ![0, 1] bcast_S400x1_S400x201_0_1 (broadcastInDim S400x1 ![0] bcast_S400_S400x1_0 (iotaInDim S400 32 0))) (broadcastInDim S400x201 ![0, 1] bcast_S1x201_S400x201_0_1 (broadcastInDim S1x201 ![1] bcast_S201_S1x201_1 (iotaInDim S201 32 0)))))) (broadcastInDim S400x201 ![] bcast_S_S400x201 (constant S_ .f32 0x43C80000#32)))))))) (constant S_ .f32 0x00000000#32) reducesTo_S4x598x400x201_S4x598x201_d2 h_S_) (Host.reduceAdd (mulf (broadcastInDim S4x598x400x201 ![0, 1, 2, 3] bcast_S4x598x400x1_S4x598x400x201_0_1_2_3 (broadcastInDim S4x598x400x1 ![0, 1, 2] bcast_S4x598x400_S4x598x400x1_0_1_2 (mulf (Host.gather gather_S4x96000_S598x400x1_S4x598x400_0_1_n_n_1_2_41 (m ((c.tc : Thread nD τ).loc main_arg0)) (broadcastInDim S598x400x1 ![0, 1] bcast_S598x400_S598x400x1_0_1 (select (cmpi .slt (addi (broadcastInDim S598x400 ![0, 1] bcast_S598x1_S598x400_0_1 (muli (broadcastInDim S598x1 ![0] bcast_S598_S598x1_0 (iotaInDim S598 32 0)) (broadcastInDim S598x1 ![] bcast_S_S598x1 (constantI S_ 32 160#32)))) (broadcastInDim S598x400 ![0, 1] bcast_S1x400_S598x400_0_1 (broadcastInDim S1x400 ![1] bcast_S400_S1x400_1 (iotaInDim S400 32 0)))) (broadcastInDim S598x400 ![] bcast_S_S598x400 (constantI S_ 32 0#32))) (addi (addi (broadcastInDim S598x400 ![0, 1] bcast_S598x1_S598x400_0_1 (muli (broadcastInDim S598x1 ![0] bcast_S598_S598x1_0 (iotaInDim S598 32 0)) (broadcastInDim S598x1 ![] bcast_S_S598x1 (constantI S_ 32 160#32)))) (broadcastInDim S598x400 ![0, 1] bcast_S1x400_S598x400_0_1 (broadcastInDim S1x400 ![1] bcast_S400_S1x400_1 (iotaInDim S400 32 0)))) (broadcastInDim S598x400 ![] bcast_S_S598x400 (constantI S_ 32 96000#32))) (addi (broadcastInDim S598x400 ![0, 1] bcast_S598x1_S598x400_0_1 (muli (broadcastInDim S598x1 ![0] bcast_S598_S598x1_0 (iotaInDim S598 32 0)) (broadcastInDim S598x1 ![] bcast_S_S598x1 (constantI S_ 32 160#32)))) (broadcastInDim S598x400 ![0, 1] bcast_S1x400_S598x400_0_1 (broadcastInDim S1x400 ![1] bcast_S400_S1x400_1 (iotaInDim S400 32 0))))))) (broadcastInDim S4x598x400 ![0, 1, 2] bcast_S1x1x400_S4x598x400_0_1_2 (broadcastInDim S1x1x400 ![2] bcast_S400_S1x1x400_2 (subf (broadcastInDim S400 ![] bcast_S_S400 (constant S_ .f32 0x3F000000#32)) (mulf (broadcastInDim S400 ![] bcast_S_S400 (constant S_ .f32 0x3F000000#32)) (Host.cos (Host.divf (mulf (broadcastInDim S400 ![] bcast_S_S400 (constant S_ .f32 0x40C90FDB#32)) (sitofp .f32 (iotaInDim S400 32 0))) (broadcastInDim S400 ![] bcast_S_S400 (constant S_ .f32 0x43C78000#32))))))))))) (broadcastInDim S4x598x400x201 ![0, 1, 2, 3] bcast_S1x1x400x201_S4x598x400x201_0_1_2_3 (broadcastInDim S1x1x400x201 ![2, 3] bcast_S400x201_S1x1x400x201_2_3 (Host.negf (Host.sin (Host.divf (mulf (broadcastInDim S400x201 ![] bcast_S_S400x201 (constant S_ .f32 0x40C90FDB#32)) (sitofp .f32 (muli (broadcastInDim S400x201 ![0, 1] bcast_S400x1_S400x201_0_1 (broadcastInDim S400x1 ![0] bcast_S400_S400x1_0 (iotaInDim S400 32 0))) (broadcastInDim S400x201 ![0, 1] bcast_S1x201_S400x201_0_1 (broadcastInDim S1x201 ![1] bcast_S201_S1x201_1 (iotaInDim S201 32 0)))))) (broadcastInDim S400x201 ![] bcast_S_S400x201 (constant S_ .f32 0x43C80000#32)))))))) (constant S_ .f32 0x00000000#32) reducesTo_S4x598x400x201_S4x598x201_d2 h_S_))) (transpose S201x80 [1, 0] (m ((c.tc : Thread nD τ).loc main_arg2)) transposes_S80x201_S201x80_1_0)) (broadcastInDim S4x598x80 ![] bcast_S_S4x598x80 (constant S_ .f32 0x2EDBE6FF#32)))) (broadcastInDim S4x598x80 ![] bcast_S_S4x598x80 (constant S_ .f32 0x40000000#32))) (broadcastInDim S4x598x80 ![] bcast_S_S4x598x80 (id (constant S_ .f32 0x40000000#32))) (Host.log (addf (Host.dotGeneral dot_S4x598x201_S201x80_S4x598x80_2_0_01_1_n_n none (addf (mulf (Host.reduceAdd (mulf (broadcastInDim S4x598x400x201 ![0, 1, 2, 3] bcast_S4x598x400x1_S4x598x400x201_0_1_2_3 (broadcastInDim S4x598x400x1 ![0, 1, 2] bcast_S4x598x400_S4x598x400x1_0_1_2 (mulf (Host.gather gather_S4x96000_S598x400x1_S4x598x400_0_1_n_n_1_2_41 (m ((c.tc : Thread nD τ).loc main_arg0)) (broadcastInDim S598x400x1 ![0, 1] bcast_S598x400_S598x400x1_0_1 (select (cmpi .slt (addi (broadcastInDim S598x400 ![0, 1] bcast_S598x1_S598x400_0_1 (muli (broadcastInDim S598x1 ![0] bcast_S598_S598x1_0 (iotaInDim S598 32 0)) (broadcastInDim S598x1 ![] bcast_S_S598x1 (constantI S_ 32 160#32)))) (broadcastInDim S598x400 ![0, 1] bcast_S1x400_S598x400_0_1 (broadcastInDim S1x400 ![1] bcast_S400_S1x400_1 (iotaInDim S400 32 0)))) (broadcastInDim S598x400 ![] bcast_S_S598x400 (constantI S_ 32 0#32))) (addi (addi (broadcastInDim S598x400 ![0, 1] bcast_S598x1_S598x400_0_1 (muli (broadcastInDim S598x1 ![0] bcast_S598_S598x1_0 (iotaInDim S598 32 0)) (broadcastInDim S598x1 ![] bcast_S_S598x1 (constantI S_ 32 160#32)))) (broadcastInDim S598x400 ![0, 1] bcast_S1x400_S598x400_0_1 (broadcastInDim S1x400 ![1] bcast_S400_S1x400_1 (iotaInDim S400 32 0)))) (broadcastInDim S598x400 ![] bcast_S_S598x400 (constantI S_ 32 96000#32))) (addi (broadcastInDim S598x400 ![0, 1] bcast_S598x1_S598x400_0_1 (muli (broadcastInDim S598x1 ![0] bcast_S598_S598x1_0 (iotaInDim S598 32 0)) (broadcastInDim S598x1 ![] bcast_S_S598x1 (constantI S_ 32 160#32)))) (broadcastInDim S598x400 ![0, 1] bcast_S1x400_S598x400_0_1 (broadcastInDim S1x400 ![1] bcast_S400_S1x400_1 (iotaInDim S400 32 0))))))) (broadcastInDim S4x598x400 ![0, 1, 2] bcast_S1x1x400_S4x598x400_0_1_2 (broadcastInDim S1x1x400 ![2] bcast_S400_S1x1x400_2 (subf (broadcastInDim S400 ![] bcast_S_S400 (constant S_ .f32 0x3F000000#32)) (mulf (broadcastInDim S400 ![] bcast_S_S400 (constant S_ .f32 0x3F000000#32)) (Host.cos (Host.divf (mulf (broadcastInDim S400 ![] bcast_S_S400 (constant S_ .f32 0x40C90FDB#32)) (sitofp .f32 (iotaInDim S400 32 0))) (broadcastInDim S400 ![] bcast_S_S400 (constant S_ .f32 0x43C78000#32))))))))))) (broadcastInDim S4x598x400x201 ![0, 1, 2, 3] bcast_S1x1x400x201_S4x598x400x201_0_1_2_3 (broadcastInDim S1x1x400x201 ![2, 3] bcast_S400x201_S1x1x400x201_2_3 (Host.cos (Host.divf (mulf (broadcastInDim S400x201 ![] bcast_S_S400x201 (constant S_ .f32 0x40C90FDB#32)) (sitofp .f32 (muli (broadcastInDim S400x201 ![0, 1] bcast_S400x1_S400x201_0_1 (broadcastInDim S400x1 ![0] bcast_S400_S400x1_0 (iotaInDim S400 32 0))) (broadcastInDim S400x201 ![0, 1] bcast_S1x201_S400x201_0_1 (broadcastInDim S1x201 ![1] bcast_S201_S1x201_1 (iotaInDim S201 32 0)))))) (broadcastInDim S400x201 ![] bcast_S_S400x201 (constant S_ .f32 0x43C80000#32))))))) (constant S_ .f32 0x00000000#32) reducesTo_S4x598x400x201_S4x598x201_d2 h_S_) (Host.reduceAdd (mulf (broadcastInDim S4x598x400x201 ![0, 1, 2, 3] bcast_S4x598x400x1_S4x598x400x201_0_1_2_3 (broadcastInDim S4x598x400x1 ![0, 1, 2] bcast_S4x598x400_S4x598x400x1_0_1_2 (mulf (Host.gather gather_S4x96000_S598x400x1_S4x598x400_0_1_n_n_1_2_41 (m ((c.tc : Thread nD τ).loc main_arg0)) (broadcastInDim S598x400x1 ![0, 1] bcast_S598x400_S598x400x1_0_1 (select (cmpi .slt (addi (broadcastInDim S598x400 ![0, 1] bcast_S598x1_S598x400_0_1 (muli (broadcastInDim S598x1 ![0] bcast_S598_S598x1_0 (iotaInDim S598 32 0)) (broadcastInDim S598x1 ![] bcast_S_S598x1 (constantI S_ 32 160#32)))) (broadcastInDim S598x400 ![0, 1] bcast_S1x400_S598x400_0_1 (broadcastInDim S1x400 ![1] bcast_S400_S1x400_1 (iotaInDim S400 32 0)))) (broadcastInDim S598x400 ![] bcast_S_S598x400 (constantI S_ 32 0#32))) (addi (addi (broadcastInDim S598x400 ![0, 1] bcast_S598x1_S598x400_0_1 (muli (broadcastInDim S598x1 ![0] bcast_S598_S598x1_0 (iotaInDim S598 32 0)) (broadcastInDim S598x1 ![] bcast_S_S598x1 (constantI S_ 32 160#32)))) (broadcastInDim S598x400 ![0, 1] bcast_S1x400_S598x400_0_1 (broadcastInDim S1x400 ![1] bcast_S400_S1x400_1 (iotaInDim S400 32 0)))) (broadcastInDim S598x400 ![] bcast_S_S598x400 (constantI S_ 32 96000#32))) (addi (broadcastInDim S598x400 ![0, 1] bcast_S598x1_S598x400_0_1 (muli (broadcastInDim S598x1 ![0] bcast_S598_S598x1_0 (iotaInDim S598 32 0)) (broadcastInDim S598x1 ![] bcast_S_S598x1 (constantI S_ 32 160#32)))) (broadcastInDim S598x400 ![0, 1] bcast_S1x400_S598x400_0_1 (broadcastInDim S1x400 ![1] bcast_S400_S1x400_1 (iotaInDim S400 32 0))))))) (broadcastInDim S4x598x400 ![0, 1, 2] bcast_S1x1x400_S4x598x400_0_1_2 (broadcastInDim S1x1x400 ![2] bcast_S400_S1x1x400_2 (subf (broadcastInDim S400 ![] bcast_S_S400 (constant S_ .f32 0x3F000000#32)) (mulf (broadcastInDim S400 ![] bcast_S_S400 (constant S_ .f32 0x3F000000#32)) (Host.cos (Host.divf (mulf (broadcastInDim S400 ![] bcast_S_S400 (constant S_ .f32 0x40C90FDB#32)) (sitofp .f32 (iotaInDim S400 32 0))) (broadcastInDim S400 ![] bcast_S_S400 (constant S_ .f32 0x43C78000#32))))))))))) (broadcastInDim S4x598x400x201 ![0, 1, 2, 3] bcast_S1x1x400x201_S4x598x400x201_0_1_2_3 (broadcastInDim S1x1x400x201 ![2, 3] bcast_S400x201_S1x1x400x201_2_3 (Host.cos (Host.divf (mulf (broadcastInDim S400x201 ![] bcast_S_S400x201 (constant S_ .f32 0x40C90FDB#32)) (sitofp .f32 (muli (broadcastInDim S400x201 ![0, 1] bcast_S400x1_S400x201_0_1 (broadcastInDim S400x1 ![0] bcast_S400_S400x1_0 (iotaInDim S400 32 0))) (broadcastInDim S400x201 ![0, 1] bcast_S1x201_S400x201_0_1 (broadcastInDim S1x201 ![1] bcast_S201_S1x201_1 (iotaInDim S201 32 0)))))) (broadcastInDim S400x201 ![] bcast_S_S400x201 (constant S_ .f32 0x43C80000#32))))))) (constant S_ .f32 0x00000000#32) reducesTo_S4x598x400x201_S4x598x201_d2 h_S_)) (mulf (Host.reduceAdd (mulf (broadcastInDim S4x598x400x201 ![0, 1, 2, 3] bcast_S4x598x400x1_S4x598x400x201_0_1_2_3 (broadcastInDim S4x598x400x1 ![0, 1, 2] bcast_S4x598x400_S4x598x400x1_0_1_2 (mulf (Host.gather gather_S4x96000_S598x400x1_S4x598x400_0_1_n_n_1_2_41 (m ((c.tc : Thread nD τ).loc main_arg0)) (broadcastInDim S598x400x1 ![0, 1] bcast_S598x400_S598x400x1_0_1 (select (cmpi .slt (addi (broadcastInDim S598x400 ![0, 1] bcast_S598x1_S598x400_0_1 (muli (broadcastInDim S598x1 ![0] bcast_S598_S598x1_0 (iotaInDim S598 32 0)) (broadcastInDim S598x1 ![] bcast_S_S598x1 (constantI S_ 32 160#32)))) (broadcastInDim S598x400 ![0, 1] bcast_S1x400_S598x400_0_1 (broadcastInDim S1x400 ![1] bcast_S400_S1x400_1 (iotaInDim S400 32 0)))) (broadcastInDim S598x400 ![] bcast_S_S598x400 (constantI S_ 32 0#32))) (addi (addi (broadcastInDim S598x400 ![0, 1] bcast_S598x1_S598x400_0_1 (muli (broadcastInDim S598x1 ![0] bcast_S598_S598x1_0 (iotaInDim S598 32 0)) (broadcastInDim S598x1 ![] bcast_S_S598x1 (constantI S_ 32 160#32)))) (broadcastInDim S598x400 ![0, 1] bcast_S1x400_S598x400_0_1 (broadcastInDim S1x400 ![1] bcast_S400_S1x400_1 (iotaInDim S400 32 0)))) (broadcastInDim S598x400 ![] bcast_S_S598x400 (constantI S_ 32 96000#32))) (addi (broadcastInDim S598x400 ![0, 1] bcast_S598x1_S598x400_0_1 (muli (broadcastInDim S598x1 ![0] bcast_S598_S598x1_0 (iotaInDim S598 32 0)) (broadcastInDim S598x1 ![] bcast_S_S598x1 (constantI S_ 32 160#32)))) (broadcastInDim S598x400 ![0, 1] bcast_S1x400_S598x400_0_1 (broadcastInDim S1x400 ![1] bcast_S400_S1x400_1 (iotaInDim S400 32 0))))))) (broadcastInDim S4x598x400 ![0, 1, 2] bcast_S1x1x400_S4x598x400_0_1_2 (broadcastInDim S1x1x400 ![2] bcast_S400_S1x1x400_2 (subf (broadcastInDim S400 ![] bcast_S_S400 (constant S_ .f32 0x3F000000#32)) (mulf (broadcastInDim S400 ![] bcast_S_S400 (constant S_ .f32 0x3F000000#32)) (Host.cos (Host.divf (mulf (broadcastInDim S400 ![] bcast_S_S400 (constant S_ .f32 0x40C90FDB#32)) (sitofp .f32 (iotaInDim S400 32 0))) (broadcastInDim S400 ![] bcast_S_S400 (constant S_ .f32 0x43C78000#32))))))))))) (broadcastInDim S4x598x400x201 ![0, 1, 2, 3] bcast_S1x1x400x201_S4x598x400x201_0_1_2_3 (broadcastInDim S1x1x400x201 ![2, 3] bcast_S400x201_S1x1x400x201_2_3 (Host.negf (Host.sin (Host.divf (mulf (broadcastInDim S400x201 ![] bcast_S_S400x201 (constant S_ .f32 0x40C90FDB#32)) (sitofp .f32 (muli (broadcastInDim S400x201 ![0, 1] bcast_S400x1_S400x201_0_1 (broadcastInDim S400x1 ![0] bcast_S400_S400x1_0 (iotaInDim S400 32 0))) (broadcastInDim S400x201 ![0, 1] bcast_S1x201_S400x201_0_1 (broadcastInDim S1x201 ![1] bcast_S201_S1x201_1 (iotaInDim S201 32 0)))))) (broadcastInDim S400x201 ![] bcast_S_S400x201 (constant S_ .f32 0x43C80000#32)))))))) (constant S_ .f32 0x00000000#32) reducesTo_S4x598x400x201_S4x598x201_d2 h_S_) (Host.reduceAdd (mulf (broadcastInDim S4x598x400x201 ![0, 1, 2, 3] bcast_S4x598x400x1_S4x598x400x201_0_1_2_3 (broadcastInDim S4x598x400x1 ![0, 1, 2] bcast_S4x598x400_S4x598x400x1_0_1_2 (mulf (Host.gather gather_S4x96000_S598x400x1_S4x598x400_0_1_n_n_1_2_41 (m ((c.tc : Thread nD τ).loc main_arg0)) (broadcastInDim S598x400x1 ![0, 1] bcast_S598x400_S598x400x1_0_1 (select (cmpi .slt (addi (broadcastInDim S598x400 ![0, 1] bcast_S598x1_S598x400_0_1 (muli (broadcastInDim S598x1 ![0] bcast_S598_S598x1_0 (iotaInDim S598 32 0)) (broadcastInDim S598x1 ![] bcast_S_S598x1 (constantI S_ 32 160#32)))) (broadcastInDim S598x400 ![0, 1] bcast_S1x400_S598x400_0_1 (broadcastInDim S1x400 ![1] bcast_S400_S1x400_1 (iotaInDim S400 32 0)))) (broadcastInDim S598x400 ![] bcast_S_S598x400 (constantI S_ 32 0#32))) (addi (addi (broadcastInDim S598x400 ![0, 1] bcast_S598x1_S598x400_0_1 (muli (broadcastInDim S598x1 ![0] bcast_S598_S598x1_0 (iotaInDim S598 32 0)) (broadcastInDim S598x1 ![] bcast_S_S598x1 (constantI S_ 32 160#32)))) (broadcastInDim S598x400 ![0, 1] bcast_S1x400_S598x400_0_1 (broadcastInDim S1x400 ![1] bcast_S400_S1x400_1 (iotaInDim S400 32 0)))) (broadcastInDim S598x400 ![] bcast_S_S598x400 (constantI S_ 32 96000#32))) (addi (broadcastInDim S598x400 ![0, 1] bcast_S598x1_S598x400_0_1 (muli (broadcastInDim S598x1 ![0] bcast_S598_S598x1_0 (iotaInDim S598 32 0)) (broadcastInDim S598x1 ![] bcast_S_S598x1 (constantI S_ 32 160#32)))) (broadcastInDim S598x400 ![0, 1] bcast_S1x400_S598x400_0_1 (broadcastInDim S1x400 ![1] bcast_S400_S1x400_1 (iotaInDim S400 32 0))))))) (broadcastInDim S4x598x400 ![0, 1, 2] bcast_S1x1x400_S4x598x400_0_1_2 (broadcastInDim S1x1x400 ![2] bcast_S400_S1x1x400_2 (subf (broadcastInDim S400 ![] bcast_S_S400 (constant S_ .f32 0x3F000000#32)) (mulf (broadcastInDim S400 ![] bcast_S_S400 (constant S_ .f32 0x3F000000#32)) (Host.cos (Host.divf (mulf (broadcastInDim S400 ![] bcast_S_S400 (constant S_ .f32 0x40C90FDB#32)) (sitofp .f32 (iotaInDim S400 32 0))) (broadcastInDim S400 ![] bcast_S_S400 (constant S_ .f32 0x43C78000#32))))))))))) (broadcastInDim S4x598x400x201 ![0, 1, 2, 3] bcast_S1x1x400x201_S4x598x400x201_0_1_2_3 (broadcastInDim S1x1x400x201 ![2, 3] bcast_S400x201_S1x1x400x201_2_3 (Host.negf (Host.sin (Host.divf (mulf (broadcastInDim S400x201 ![] bcast_S_S400x201 (constant S_ .f32 0x40C90FDB#32)) (sitofp .f32 (muli (broadcastInDim S400x201 ![0, 1] bcast_S400x1_S400x201_0_1 (broadcastInDim S400x1 ![0] bcast_S400_S400x1_0 (iotaInDim S400 32 0))) (broadcastInDim S400x201 ![0, 1] bcast_S1x201_S400x201_0_1 (broadcastInDim S1x201 ![1] bcast_S201_S1x201_1 (iotaInDim S201 32 0)))))) (broadcastInDim S400x201 ![] bcast_S_S400x201 (constant S_ .f32 0x43C80000#32)))))))) (constant S_ .f32 0x00000000#32) reducesTo_S4x598x400x201_S4x598x201_d2 h_S_))) (transpose S201x80 [1, 0] (m ((c.tc : Thread nD τ).loc main_arg2)) transposes_S80x201_S201x80_1_0)) (broadcastInDim S4x598x80 ![] bcast_S_S4x598x80 (constant S_ .f32 0x2EDBE6FF#32))))) (broadcastInDim S4x598x80 ![] bcast_S_S4x598x80 (constant S_ .f32 0x40400000#32)))) (broadcastInDim S4x598x80 ![] bcast_S_S4x598x80 (id (constant S_ .f32 0xC0E00000#32))) (select (cmpf .ogt (Host.log (addf (Host.dotGeneral dot_S4x598x201_S201x80_S4x598x80_2_0_01_1_n_n none (addf (mulf (Host.reduceAdd (mulf (broadcastInDim S4x598x400x201 ![0, 1, 2, 3] bcast_S4x598x400x1_S4x598x400x201_0_1_2_3 (broadcastInDim S4x598x400x1 ![0, 1, 2] bcast_S4x598x400_S4x598x400x1_0_1_2 (mulf (Host.gather gather_S4x96000_S598x400x1_S4x598x400_0_1_n_n_1_2_41 (m ((c.tc : Thread nD τ).loc main_arg0)) (broadcastInDim S598x400x1 ![0, 1] bcast_S598x400_S598x400x1_0_1 (select (cmpi .slt (addi (broadcastInDim S598x400 ![0, 1] bcast_S598x1_S598x400_0_1 (muli (broadcastInDim S598x1 ![0] bcast_S598_S598x1_0 (iotaInDim S598 32 0)) (broadcastInDim S598x1 ![] bcast_S_S598x1 (constantI S_ 32 160#32)))) (broadcastInDim S598x400 ![0, 1] bcast_S1x400_S598x400_0_1 (broadcastInDim S1x400 ![1] bcast_S400_S1x400_1 (iotaInDim S400 32 0)))) (broadcastInDim S598x400 ![] bcast_S_S598x400 (constantI S_ 32 0#32))) (addi (addi (broadcastInDim S598x400 ![0, 1] bcast_S598x1_S598x400_0_1 (muli (broadcastInDim S598x1 ![0] bcast_S598_S598x1_0 (iotaInDim S598 32 0)) (broadcastInDim S598x1 ![] bcast_S_S598x1 (constantI S_ 32 160#32)))) (broadcastInDim S598x400 ![0, 1] bcast_S1x400_S598x400_0_1 (broadcastInDim S1x400 ![1] bcast_S400_S1x400_1 (iotaInDim S400 32 0)))) (broadcastInDim S598x400 ![] bcast_S_S598x400 (constantI S_ 32 96000#32))) (addi (broadcastInDim S598x400 ![0, 1] bcast_S598x1_S598x400_0_1 (muli (broadcastInDim S598x1 ![0] bcast_S598_S598x1_0 (iotaInDim S598 32 0)) (broadcastInDim S598x1 ![] bcast_S_S598x1 (constantI S_ 32 160#32)))) (broadcastInDim S598x400 ![0, 1] bcast_S1x400_S598x400_0_1 (broadcastInDim S1x400 ![1] bcast_S400_S1x400_1 (iotaInDim S400 32 0))))))) (broadcastInDim S4x598x400 ![0, 1, 2] bcast_S1x1x400_S4x598x400_0_1_2 (broadcastInDim S1x1x400 ![2] bcast_S400_S1x1x400_2 (subf (broadcastInDim S400 ![] bcast_S_S400 (constant S_ .f32 0x3F000000#32)) (mulf (broadcastInDim S400 ![] bcast_S_S400 (constant S_ .f32 0x3F000000#32)) (Host.cos (Host.divf (mulf (broadcastInDim S400 ![] bcast_S_S400 (constant S_ .f32 0x40C90FDB#32)) (sitofp .f32 (iotaInDim S400 32 0))) (broadcastInDim S400 ![] bcast_S_S400 (constant S_ .f32 0x43C78000#32))))))))))) (broadcastInDim S4x598x400x201 ![0, 1, 2, 3] bcast_S1x1x400x201_S4x598x400x201_0_1_2_3 (broadcastInDim S1x1x400x201 ![2, 3] bcast_S400x201_S1x1x400x201_2_3 (Host.cos (Host.divf (mulf (broadcastInDim S400x201 ![] bcast_S_S400x201 (constant S_ .f32 0x40C90FDB#32)) (sitofp .f32 (muli (broadcastInDim S400x201 ![0, 1] bcast_S400x1_S400x201_0_1 (broadcastInDim S400x1 ![0] bcast_S400_S400x1_0 (iotaInDim S400 32 0))) (broadcastInDim S400x201 ![0, 1] bcast_S1x201_S400x201_0_1 (broadcastInDim S1x201 ![1] bcast_S201_S1x201_1 (iotaInDim S201 32 0)))))) (broadcastInDim S400x201 ![] bcast_S_S400x201 (constant S_ .f32 0x43C80000#32))))))) (constant S_ .f32 0x00000000#32) reducesTo_S4x598x400x201_S4x598x201_d2 h_S_) (Host.reduceAdd (mulf (broadcastInDim S4x598x400x201 ![0, 1, 2, 3] bcast_S4x598x400x1_S4x598x400x201_0_1_2_3 (broadcastInDim S4x598x400x1 ![0, 1, 2] bcast_S4x598x400_S4x598x400x1_0_1_2 (mulf (Host.gather gather_S4x96000_S598x400x1_S4x598x400_0_1_n_n_1_2_41 (m ((c.tc : Thread nD τ).loc main_arg0)) (broadcastInDim S598x400x1 ![0, 1] bcast_S598x400_S598x400x1_0_1 (select (cmpi .slt (addi (broadcastInDim S598x400 ![0, 1] bcast_S598x1_S598x400_0_1 (muli (broadcastInDim S598x1 ![0] bcast_S598_S598x1_0 (iotaInDim S598 32 0)) (broadcastInDim S598x1 ![] bcast_S_S598x1 (constantI S_ 32 160#32)))) (broadcastInDim S598x400 ![0, 1] bcast_S1x400_S598x400_0_1 (broadcastInDim S1x400 ![1] bcast_S400_S1x400_1 (iotaInDim S400 32 0)))) (broadcastInDim S598x400 ![] bcast_S_S598x400 (constantI S_ 32 0#32))) (addi (addi (broadcastInDim S598x400 ![0, 1] bcast_S598x1_S598x400_0_1 (muli (broadcastInDim S598x1 ![0] bcast_S598_S598x1_0 (iotaInDim S598 32 0)) (broadcastInDim S598x1 ![] bcast_S_S598x1 (constantI S_ 32 160#32)))) (broadcastInDim S598x400 ![0, 1] bcast_S1x400_S598x400_0_1 (broadcastInDim S1x400 ![1] bcast_S400_S1x400_1 (iotaInDim S400 32 0)))) (broadcastInDim S598x400 ![] bcast_S_S598x400 (constantI S_ 32 96000#32))) (addi (broadcastInDim S598x400 ![0, 1] bcast_S598x1_S598x400_0_1 (muli (broadcastInDim S598x1 ![0] bcast_S598_S598x1_0 (iotaInDim S598 32 0)) (broadcastInDim S598x1 ![] bcast_S_S598x1 (constantI S_ 32 160#32)))) (broadcastInDim S598x400 ![0, 1] bcast_S1x400_S598x400_0_1 (broadcastInDim S1x400 ![1] bcast_S400_S1x400_1 (iotaInDim S400 32 0))))))) (broadcastInDim S4x598x400 ![0, 1, 2] bcast_S1x1x400_S4x598x400_0_1_2 (broadcastInDim S1x1x400 ![2] bcast_S400_S1x1x400_2 (subf (broadcastInDim S400 ![] bcast_S_S400 (constant S_ .f32 0x3F000000#32)) (mulf (broadcastInDim S400 ![] bcast_S_S400 (constant S_ .f32 0x3F000000#32)) (Host.cos (Host.divf (mulf (broadcastInDim S400 ![] bcast_S_S400 (constant S_ .f32 0x40C90FDB#32)) (sitofp .f32 (iotaInDim S400 32 0))) (broadcastInDim S400 ![] bcast_S_S400 (constant S_ .f32 0x43C78000#32))))))))))) (broadcastInDim S4x598x400x201 ![0, 1, 2, 3] bcast_S1x1x400x201_S4x598x400x201_0_1_2_3 (broadcastInDim S1x1x400x201 ![2, 3] bcast_S400x201_S1x1x400x201_2_3 (Host.cos (Host.divf (mulf (broadcastInDim S400x201 ![] bcast_S_S400x201 (constant S_ .f32 0x40C90FDB#32)) (sitofp .f32 (muli (broadcastInDim S400x201 ![0, 1] bcast_S400x1_S400x201_0_1 (broadcastInDim S400x1 ![0] bcast_S400_S400x1_0 (iotaInDim S400 32 0))) (broadcastInDim S400x201 ![0, 1] bcast_S1x201_S400x201_0_1 (broadcastInDim S1x201 ![1] bcast_S201_S1x201_1 (iotaInDim S201 32 0)))))) (broadcastInDim S400x201 ![] bcast_S_S400x201 (constant S_ .f32 0x43C80000#32))))))) (constant S_ .f32 0x00000000#32) reducesTo_S4x598x400x201_S4x598x201_d2 h_S_)) (mulf (Host.reduceAdd (mulf (broadcastInDim S4x598x400x201 ![0, 1, 2, 3] bcast_S4x598x400x1_S4x598x400x201_0_1_2_3 (broadcastInDim S4x598x400x1 ![0, 1, 2] bcast_S4x598x400_S4x598x400x1_0_1_2 (mulf (Host.gather gather_S4x96000_S598x400x1_S4x598x400_0_1_n_n_1_2_41 (m ((c.tc : Thread nD τ).loc main_arg0)) (broadcastInDim S598x400x1 ![0, 1] bcast_S598x400_S598x400x1_0_1 (select (cmpi .slt (addi (broadcastInDim S598x400 ![0, 1] bcast_S598x1_S598x400_0_1 (muli (broadcastInDim S598x1 ![0] bcast_S598_S598x1_0 (iotaInDim S598 32 0)) (broadcastInDim S598x1 ![] bcast_S_S598x1 (constantI S_ 32 160#32)))) (broadcastInDim S598x400 ![0, 1] bcast_S1x400_S598x400_0_1 (broadcastInDim S1x400 ![1] bcast_S400_S1x400_1 (iotaInDim S400 32 0)))) (broadcastInDim S598x400 ![] bcast_S_S598x400 (constantI S_ 32 0#32))) (addi (addi (broadcastInDim S598x400 ![0, 1] bcast_S598x1_S598x400_0_1 (muli (broadcastInDim S598x1 ![0] bcast_S598_S598x1_0 (iotaInDim S598 32 0)) (broadcastInDim S598x1 ![] bcast_S_S598x1 (constantI S_ 32 160#32)))) (broadcastInDim S598x400 ![0, 1] bcast_S1x400_S598x400_0_1 (broadcastInDim S1x400 ![1] bcast_S400_S1x400_1 (iotaInDim S400 32 0)))) (broadcastInDim S598x400 ![] bcast_S_S598x400 (constantI S_ 32 96000#32))) (addi (broadcastInDim S598x400 ![0, 1] bcast_S598x1_S598x400_0_1 (muli (broadcastInDim S598x1 ![0] bcast_S598_S598x1_0 (iotaInDim S598 32 0)) (broadcastInDim S598x1 ![] bcast_S_S598x1 (constantI S_ 32 160#32)))) (broadcastInDim S598x400 ![0, 1] bcast_S1x400_S598x400_0_1 (broadcastInDim S1x400 ![1] bcast_S400_S1x400_1 (iotaInDim S400 32 0))))))) (broadcastInDim S4x598x400 ![0, 1, 2] bcast_S1x1x400_S4x598x400_0_1_2 (broadcastInDim S1x1x400 ![2] bcast_S400_S1x1x400_2 (subf (broadcastInDim S400 ![] bcast_S_S400 (constant S_ .f32 0x3F000000#32)) (mulf (broadcastInDim S400 ![] bcast_S_S400 (constant S_ .f32 0x3F000000#32)) (Host.cos (Host.divf (mulf (broadcastInDim S400 ![] bcast_S_S400 (constant S_ .f32 0x40C90FDB#32)) (sitofp .f32 (iotaInDim S400 32 0))) (broadcastInDim S400 ![] bcast_S_S400 (constant S_ .f32 0x43C78000#32))))))))))) (broadcastInDim S4x598x400x201 ![0, 1, 2, 3] bcast_S1x1x400x201_S4x598x400x201_0_1_2_3 (broadcastInDim S1x1x400x201 ![2, 3] bcast_S400x201_S1x1x400x201_2_3 (Host.negf (Host.sin (Host.divf (mulf (broadcastInDim S400x201 ![] bcast_S_S400x201 (constant S_ .f32 0x40C90FDB#32)) (sitofp .f32 (muli (broadcastInDim S400x201 ![0, 1] bcast_S400x1_S400x201_0_1 (broadcastInDim S400x1 ![0] bcast_S400_S400x1_0 (iotaInDim S400 32 0))) (broadcastInDim S400x201 ![0, 1] bcast_S1x201_S400x201_0_1 (broadcastInDim S1x201 ![1] bcast_S201_S1x201_1 (iotaInDim S201 32 0)))))) (broadcastInDim S400x201 ![] bcast_S_S400x201 (constant S_ .f32 0x43C80000#32)))))))) (constant S_ .f32 0x00000000#32) reducesTo_S4x598x400x201_S4x598x201_d2 h_S_) (Host.reduceAdd (mulf (broadcastInDim S4x598x400x201 ![0, 1, 2, 3] bcast_S4x598x400x1_S4x598x400x201_0_1_2_3 (broadcastInDim S4x598x400x1 ![0, 1, 2] bcast_S4x598x400_S4x598x400x1_0_1_2 (mulf (Host.gather gather_S4x96000_S598x400x1_S4x598x400_0_1_n_n_1_2_41 (m ((c.tc : Thread nD τ).loc main_arg0)) (broadcastInDim S598x400x1 ![0, 1] bcast_S598x400_S598x400x1_0_1 (select (cmpi .slt (addi (broadcastInDim S598x400 ![0, 1] bcast_S598x1_S598x400_0_1 (muli (broadcastInDim S598x1 ![0] bcast_S598_S598x1_0 (iotaInDim S598 32 0)) (broadcastInDim S598x1 ![] bcast_S_S598x1 (constantI S_ 32 160#32)))) (broadcastInDim S598x400 ![0, 1] bcast_S1x400_S598x400_0_1 (broadcastInDim S1x400 ![1] bcast_S400_S1x400_1 (iotaInDim S400 32 0)))) (broadcastInDim S598x400 ![] bcast_S_S598x400 (constantI S_ 32 0#32))) (addi (addi (broadcastInDim S598x400 ![0, 1] bcast_S598x1_S598x400_0_1 (muli (broadcastInDim S598x1 ![0] bcast_S598_S598x1_0 (iotaInDim S598 32 0)) (broadcastInDim S598x1 ![] bcast_S_S598x1 (constantI S_ 32 160#32)))) (broadcastInDim S598x400 ![0, 1] bcast_S1x400_S598x400_0_1 (broadcastInDim S1x400 ![1] bcast_S400_S1x400_1 (iotaInDim S400 32 0)))) (broadcastInDim S598x400 ![] bcast_S_S598x400 (constantI S_ 32 96000#32))) (addi (broadcastInDim S598x400 ![0, 1] bcast_S598x1_S598x400_0_1 (muli (broadcastInDim S598x1 ![0] bcast_S598_S598x1_0 (iotaInDim S598 32 0)) (broadcastInDim S598x1 ![] bcast_S_S598x1 (constantI S_ 32 160#32)))) (broadcastInDim S598x400 ![0, 1] bcast_S1x400_S598x400_0_1 (broadcastInDim S1x400 ![1] bcast_S400_S1x400_1 (iotaInDim S400 32 0))))))) (broadcastInDim S4x598x400 ![0, 1, 2] bcast_S1x1x400_S4x598x400_0_1_2 (broadcastInDim S1x1x400 ![2] bcast_S400_S1x1x400_2 (subf (broadcastInDim S400 ![] bcast_S_S400 (constant S_ .f32 0x3F000000#32)) (mulf (broadcastInDim S400 ![] bcast_S_S400 (constant S_ .f32 0x3F000000#32)) (Host.cos (Host.divf (mulf (broadcastInDim S400 ![] bcast_S_S400 (constant S_ .f32 0x40C90FDB#32)) (sitofp .f32 (iotaInDim S400 32 0))) (broadcastInDim S400 ![] bcast_S_S400 (constant S_ .f32 0x43C78000#32))))))))))) (broadcastInDim S4x598x400x201 ![0, 1, 2, 3] bcast_S1x1x400x201_S4x598x400x201_0_1_2_3 (broadcastInDim S1x1x400x201 ![2, 3] bcast_S400x201_S1x1x400x201_2_3 (Host.negf (Host.sin (Host.divf (mulf (broadcastInDim S400x201 ![] bcast_S_S400x201 (constant S_ .f32 0x40C90FDB#32)) (sitofp .f32 (muli (broadcastInDim S400x201 ![0, 1] bcast_S400x1_S400x201_0_1 (broadcastInDim S400x1 ![0] bcast_S400_S400x1_0 (iotaInDim S400 32 0))) (broadcastInDim S400x201 ![0, 1] bcast_S1x201_S400x201_0_1 (broadcastInDim S1x201 ![1] bcast_S201_S1x201_1 (iotaInDim S201 32 0)))))) (broadcastInDim S400x201 ![] bcast_S_S400x201 (constant S_ .f32 0x43C80000#32)))))))) (constant S_ .f32 0x00000000#32) reducesTo_S4x598x400x201_S4x598x201_d2 h_S_))) (transpose S201x80 [1, 0] (m ((c.tc : Thread nD τ).loc main_arg2)) transposes_S80x201_S201x80_1_0)) (broadcastInDim S4x598x80 ![] bcast_S_S4x598x80 (constant S_ .f32 0x2EDBE6FF#32)))) (broadcastInDim S4x598x80 ![] bcast_S_S4x598x80 (constant S_ .f32 0x40000000#32))) (broadcastInDim S4x598x80 ![] bcast_S_S4x598x80 (id (constant S_ .f32 0x40000000#32))) (Host.log (addf (Host.dotGeneral dot_S4x598x201_S201x80_S4x598x80_2_0_01_1_n_n none (addf (mulf (Host.reduceAdd (mulf (broadcastInDim S4x598x400x201 ![0, 1, 2, 3] bcast_S4x598x400x1_S4x598x400x201_0_1_2_3 (broadcastInDim S4x598x400x1 ![0, 1, 2] bcast_S4x598x400_S4x598x400x1_0_1_2 (mulf (Host.gather gather_S4x96000_S598x400x1_S4x598x400_0_1_n_n_1_2_41 (m ((c.tc : Thread nD τ).loc main_arg0)) (broadcastInDim S598x400x1 ![0, 1] bcast_S598x400_S598x400x1_0_1 (select (cmpi .slt (addi (broadcastInDim S598x400 ![0, 1] bcast_S598x1_S598x400_0_1 (muli (broadcastInDim S598x1 ![0] bcast_S598_S598x1_0 (iotaInDim S598 32 0)) (broadcastInDim S598x1 ![] bcast_S_S598x1 (constantI S_ 32 160#32)))) (broadcastInDim S598x400 ![0, 1] bcast_S1x400_S598x400_0_1 (broadcastInDim S1x400 ![1] bcast_S400_S1x400_1 (iotaInDim S400 32 0)))) (broadcastInDim S598x400 ![] bcast_S_S598x400 (constantI S_ 32 0#32))) (addi (addi (broadcastInDim S598x400 ![0, 1] bcast_S598x1_S598x400_0_1 (muli (broadcastInDim S598x1 ![0] bcast_S598_S598x1_0 (iotaInDim S598 32 0)) (broadcastInDim S598x1 ![] bcast_S_S598x1 (constantI S_ 32 160#32)))) (broadcastInDim S598x400 ![0, 1] bcast_S1x400_S598x400_0_1 (broadcastInDim S1x400 ![1] bcast_S400_S1x400_1 (iotaInDim S400 32 0)))) (broadcastInDim S598x400 ![] bcast_S_S598x400 (constantI S_ 32 96000#32))) (addi (broadcastInDim S598x400 ![0, 1] bcast_S598x1_S598x400_0_1 (muli (broadcastInDim S598x1 ![0] bcast_S598_S598x1_0 (iotaInDim S598 32 0)) (broadcastInDim S598x1 ![] bcast_S_S598x1 (constantI S_ 32 160#32)))) (broadcastInDim S598x400 ![0, 1] bcast_S1x400_S598x400_0_1 (broadcastInDim S1x400 ![1] bcast_S400_S1x400_1 (iotaInDim S400 32 0))))))) (broadcastInDim S4x598x400 ![0, 1, 2] bcast_S1x1x400_S4x598x400_0_1_2 (broadcastInDim S1x1x400 ![2] bcast_S400_S1x1x400_2 (subf (broadcastInDim S400 ![] bcast_S_S400 (constant S_ .f32 0x3F000000#32)) (mulf (broadcastInDim S400 ![] bcast_S_S400 (constant S_ .f32 0x3F000000#32)) (Host.cos (Host.divf (mulf (broadcastInDim S400 ![] bcast_S_S400 (constant S_ .f32 0x40C90FDB#32)) (sitofp .f32 (iotaInDim S400 32 0))) (broadcastInDim S400 ![] bcast_S_S400 (constant S_ .f32 0x43C78000#32))))))))))) (broadcastInDim S4x598x400x201 ![0, 1, 2, 3] bcast_S1x1x400x201_S4x598x400x201_0_1_2_3 (broadcastInDim S1x1x400x201 ![2, 3] bcast_S400x201_S1x1x400x201_2_3 (Host.cos (Host.divf (mulf (broadcastInDim S400x201 ![] bcast_S_S400x201 (constant S_ .f32 0x40C90FDB#32)) (sitofp .f32 (muli (broadcastInDim S400x201 ![0, 1] bcast_S400x1_S400x201_0_1 (broadcastInDim S400x1 ![0] bcast_S400_S400x1_0 (iotaInDim S400 32 0))) (broadcastInDim S400x201 ![0, 1] bcast_S1x201_S400x201_0_1 (broadcastInDim S1x201 ![1] bcast_S201_S1x201_1 (iotaInDim S201 32 0)))))) (broadcastInDim S400x201 ![] bcast_S_S400x201 (constant S_ .f32 0x43C80000#32))))))) (constant S_ .f32 0x00000000#32) reducesTo_S4x598x400x201_S4x598x201_d2 h_S_) (Host.reduceAdd (mulf (broadcastInDim S4x598x400x201 ![0, 1, 2, 3] bcast_S4x598x400x1_S4x598x400x201_0_1_2_3 (broadcastInDim S4x598x400x1 ![0, 1, 2] bcast_S4x598x400_S4x598x400x1_0_1_2 (mulf (Host.gather gather_S4x96000_S598x400x1_S4x598x400_0_1_n_n_1_2_41 (m ((c.tc : Thread nD τ).loc main_arg0)) (broadcastInDim S598x400x1 ![0, 1] bcast_S598x400_S598x400x1_0_1 (select (cmpi .slt (addi (broadcastInDim S598x400 ![0, 1] bcast_S598x1_S598x400_0_1 (muli (broadcastInDim S598x1 ![0] bcast_S598_S598x1_0 (iotaInDim S598 32 0)) (broadcastInDim S598x1 ![] bcast_S_S598x1 (constantI S_ 32 160#32)))) (broadcastInDim S598x400 ![0, 1] bcast_S1x400_S598x400_0_1 (broadcastInDim S1x400 ![1] bcast_S400_S1x400_1 (iotaInDim S400 32 0)))) (broadcastInDim S598x400 ![] bcast_S_S598x400 (constantI S_ 32 0#32))) (addi (addi (broadcastInDim S598x400 ![0, 1] bcast_S598x1_S598x400_0_1 (muli (broadcastInDim S598x1 ![0] bcast_S598_S598x1_0 (iotaInDim S598 32 0)) (broadcastInDim S598x1 ![] bcast_S_S598x1 (constantI S_ 32 160#32)))) (broadcastInDim S598x400 ![0, 1] bcast_S1x400_S598x400_0_1 (broadcastInDim S1x400 ![1] bcast_S400_S1x400_1 (iotaInDim S400 32 0)))) (broadcastInDim S598x400 ![] bcast_S_S598x400 (constantI S_ 32 96000#32))) (addi (broadcastInDim S598x400 ![0, 1] bcast_S598x1_S598x400_0_1 (muli (broadcastInDim S598x1 ![0] bcast_S598_S598x1_0 (iotaInDim S598 32 0)) (broadcastInDim S598x1 ![] bcast_S_S598x1 (constantI S_ 32 160#32)))) (broadcastInDim S598x400 ![0, 1] bcast_S1x400_S598x400_0_1 (broadcastInDim S1x400 ![1] bcast_S400_S1x400_1 (iotaInDim S400 32 0))))))) (broadcastInDim S4x598x400 ![0, 1, 2] bcast_S1x1x400_S4x598x400_0_1_2 (broadcastInDim S1x1x400 ![2] bcast_S400_S1x1x400_2 (subf (broadcastInDim S400 ![] bcast_S_S400 (constant S_ .f32 0x3F000000#32)) (mulf (broadcastInDim S400 ![] bcast_S_S400 (constant S_ .f32 0x3F000000#32)) (Host.cos (Host.divf (mulf (broadcastInDim S400 ![] bcast_S_S400 (constant S_ .f32 0x40C90FDB#32)) (sitofp .f32 (iotaInDim S400 32 0))) (broadcastInDim S400 ![] bcast_S_S400 (constant S_ .f32 0x43C78000#32))))))))))) (broadcastInDim S4x598x400x201 ![0, 1, 2, 3] bcast_S1x1x400x201_S4x598x400x201_0_1_2_3 (broadcastInDim S1x1x400x201 ![2, 3] bcast_S400x201_S1x1x400x201_2_3 (Host.cos (Host.divf (mulf (broadcastInDim S400x201 ![] bcast_S_S400x201 (constant S_ .f32 0x40C90FDB#32)) (sitofp .f32 (muli (broadcastInDim S400x201 ![0, 1] bcast_S400x1_S400x201_0_1 (broadcastInDim S400x1 ![0] bcast_S400_S400x1_0 (iotaInDim S400 32 0))) (broadcastInDim S400x201 ![0, 1] bcast_S1x201_S400x201_0_1 (broadcastInDim S1x201 ![1] bcast_S201_S1x201_1 (iotaInDim S201 32 0)))))) (broadcastInDim S400x201 ![] bcast_S_S400x201 (constant S_ .f32 0x43C80000#32))))))) (constant S_ .f32 0x00000000#32) reducesTo_S4x598x400x201_S4x598x201_d2 h_S_)) (mulf (Host.reduceAdd (mulf (broadcastInDim S4x598x400x201 ![0, 1, 2, 3] bcast_S4x598x400x1_S4x598x400x201_0_1_2_3 (broadcastInDim S4x598x400x1 ![0, 1, 2] bcast_S4x598x400_S4x598x400x1_0_1_2 (mulf (Host.gather gather_S4x96000_S598x400x1_S4x598x400_0_1_n_n_1_2_41 (m ((c.tc : Thread nD τ).loc main_arg0)) (broadcastInDim S598x400x1 ![0, 1] bcast_S598x400_S598x400x1_0_1 (select (cmpi .slt (addi (broadcastInDim S598x400 ![0, 1] bcast_S598x1_S598x400_0_1 (muli (broadcastInDim S598x1 ![0] bcast_S598_S598x1_0 (iotaInDim S598 32 0)) (broadcastInDim S598x1 ![] bcast_S_S598x1 (constantI S_ 32 160#32)))) (broadcastInDim S598x400 ![0, 1] bcast_S1x400_S598x400_0_1 (broadcastInDim S1x400 ![1] bcast_S400_S1x400_1 (iotaInDim S400 32 0)))) (broadcastInDim S598x400 ![] bcast_S_S598x400 (constantI S_ 32 0#32))) (addi (addi (broadcastInDim S598x400 ![0, 1] bcast_S598x1_S598x400_0_1 (muli (broadcastInDim S598x1 ![0] bcast_S598_S598x1_0 (iotaInDim S598 32 0)) (broadcastInDim S598x1 ![] bcast_S_S598x1 (constantI S_ 32 160#32)))) (broadcastInDim S598x400 ![0, 1] bcast_S1x400_S598x400_0_1 (broadcastInDim S1x400 ![1] bcast_S400_S1x400_1 (iotaInDim S400 32 0)))) (broadcastInDim S598x400 ![] bcast_S_S598x400 (constantI S_ 32 96000#32))) (addi (broadcastInDim S598x400 ![0, 1] bcast_S598x1_S598x400_0_1 (muli (broadcastInDim S598x1 ![0] bcast_S598_S598x1_0 (iotaInDim S598 32 0)) (broadcastInDim S598x1 ![] bcast_S_S598x1 (constantI S_ 32 160#32)))) (broadcastInDim S598x400 ![0, 1] bcast_S1x400_S598x400_0_1 (broadcastInDim S1x400 ![1] bcast_S400_S1x400_1 (iotaInDim S400 32 0))))))) (broadcastInDim S4x598x400 ![0, 1, 2] bcast_S1x1x400_S4x598x400_0_1_2 (broadcastInDim S1x1x400 ![2] bcast_S400_S1x1x400_2 (subf (broadcastInDim S400 ![] bcast_S_S400 (constant S_ .f32 0x3F000000#32)) (mulf (broadcastInDim S400 ![] bcast_S_S400 (constant S_ .f32 0x3F000000#32)) (Host.cos (Host.divf (mulf (broadcastInDim S400 ![] bcast_S_S400 (constant S_ .f32 0x40C90FDB#32)) (sitofp .f32 (iotaInDim S400 32 0))) (broadcastInDim S400 ![] bcast_S_S400 (constant S_ .f32 0x43C78000#32))))))))))) (broadcastInDim S4x598x400x201 ![0, 1, 2, 3] bcast_S1x1x400x201_S4x598x400x201_0_1_2_3 (broadcastInDim S1x1x400x201 ![2, 3] bcast_S400x201_S1x1x400x201_2_3 (Host.negf (Host.sin (Host.divf (mulf (broadcastInDim S400x201 ![] bcast_S_S400x201 (constant S_ .f32 0x40C90FDB#32)) (sitofp .f32 (muli (broadcastInDim S400x201 ![0, 1] bcast_S400x1_S400x201_0_1 (broadcastInDim S400x1 ![0] bcast_S400_S400x1_0 (iotaInDim S400 32 0))) (broadcastInDim S400x201 ![0, 1] bcast_S1x201_S400x201_0_1 (broadcastInDim S1x201 ![1] bcast_S201_S1x201_1 (iotaInDim S201 32 0)))))) (broadcastInDim S400x201 ![] bcast_S_S400x201 (constant S_ .f32 0x43C80000#32)))))))) (constant S_ .f32 0x00000000#32) reducesTo_S4x598x400x201_S4x598x201_d2 h_S_) (Host.reduceAdd (mulf (broadcastInDim S4x598x400x201 ![0, 1, 2, 3] bcast_S4x598x400x1_S4x598x400x201_0_1_2_3 (broadcastInDim S4x598x400x1 ![0, 1, 2] bcast_S4x598x400_S4x598x400x1_0_1_2 (mulf (Host.gather gather_S4x96000_S598x400x1_S4x598x400_0_1_n_n_1_2_41 (m ((c.tc : Thread nD τ).loc main_arg0)) (broadcastInDim S598x400x1 ![0, 1] bcast_S598x400_S598x400x1_0_1 (select (cmpi .slt (addi (broadcastInDim S598x400 ![0, 1] bcast_S598x1_S598x400_0_1 (muli (broadcastInDim S598x1 ![0] bcast_S598_S598x1_0 (iotaInDim S598 32 0)) (broadcastInDim S598x1 ![] bcast_S_S598x1 (constantI S_ 32 160#32)))) (broadcastInDim S598x400 ![0, 1] bcast_S1x400_S598x400_0_1 (broadcastInDim S1x400 ![1] bcast_S400_S1x400_1 (iotaInDim S400 32 0)))) (broadcastInDim S598x400 ![] bcast_S_S598x400 (constantI S_ 32 0#32))) (addi (addi (broadcastInDim S598x400 ![0, 1] bcast_S598x1_S598x400_0_1 (muli (broadcastInDim S598x1 ![0] bcast_S598_S598x1_0 (iotaInDim S598 32 0)) (broadcastInDim S598x1 ![] bcast_S_S598x1 (constantI S_ 32 160#32)))) (broadcastInDim S598x400 ![0, 1] bcast_S1x400_S598x400_0_1 (broadcastInDim S1x400 ![1] bcast_S400_S1x400_1 (iotaInDim S400 32 0)))) (broadcastInDim S598x400 ![] bcast_S_S598x400 (constantI S_ 32 96000#32))) (addi (broadcastInDim S598x400 ![0, 1] bcast_S598x1_S598x400_0_1 (muli (broadcastInDim S598x1 ![0] bcast_S598_S598x1_0 (iotaInDim S598 32 0)) (broadcastInDim S598x1 ![] bcast_S_S598x1 (constantI S_ 32 160#32)))) (broadcastInDim S598x400 ![0, 1] bcast_S1x400_S598x400_0_1 (broadcastInDim S1x400 ![1] bcast_S400_S1x400_1 (iotaInDim S400 32 0))))))) (broadcastInDim S4x598x400 ![0, 1, 2] bcast_S1x1x400_S4x598x400_0_1_2 (broadcastInDim S1x1x400 ![2] bcast_S400_S1x1x400_2 (subf (broadcastInDim S400 ![] bcast_S_S400 (constant S_ .f32 0x3F000000#32)) (mulf (broadcastInDim S400 ![] bcast_S_S400 (constant S_ .f32 0x3F000000#32)) (Host.cos (Host.divf (mulf (broadcastInDim S400 ![] bcast_S_S400 (constant S_ .f32 0x40C90FDB#32)) (sitofp .f32 (iotaInDim S400 32 0))) (broadcastInDim S400 ![] bcast_S_S400 (constant S_ .f32 0x43C78000#32))))))))))) (broadcastInDim S4x598x400x201 ![0, 1, 2, 3] bcast_S1x1x400x201_S4x598x400x201_0_1_2_3 (broadcastInDim S1x1x400x201 ![2, 3] bcast_S400x201_S1x1x400x201_2_3 (Host.negf (Host.sin (Host.divf (mulf (broadcastInDim S400x201 ![] bcast_S_S400x201 (constant S_ .f32 0x40C90FDB#32)) (sitofp .f32 (muli (broadcastInDim S400x201 ![0, 1] bcast_S400x1_S400x201_0_1 (broadcastInDim S400x1 ![0] bcast_S400_S400x1_0 (iotaInDim S400 32 0))) (broadcastInDim S400x201 ![0, 1] bcast_S1x201_S400x201_0_1 (broadcastInDim S1x201 ![1] bcast_S201_S1x201_1 (iotaInDim S201 32 0)))))) (broadcastInDim S400x201 ![] bcast_S_S400x201 (constant S_ .f32 0x43C80000#32)))))))) (constant S_ .f32 0x00000000#32) reducesTo_S4x598x400x201_S4x598x201_d2 h_S_))) (transpose S201x80 [1, 0] (m ((c.tc : Thread nD τ).loc main_arg2)) transposes_S80x201_S201x80_1_0)) (broadcastInDim S4x598x80 ![] bcast_S_S4x598x80 (constant S_ .f32 0x2EDBE6FF#32)))))))) (broadcastInDim S4x598x80x258 ![0, 1, 2, 3] bcast_S1x1x80x258_S4x598x80x258_0_1_2_3 (broadcastInDim S1x1x80x258 ![2, 3] bcast_S80x258_S1x1x80x258_2_3 (m ((c.tc : Thread nD τ).loc main_arg3)))))) (iotaInDim S4x598x80x258 32 3) (constant S_ .f32 0x7F800000#32) (constantI S_ 32 0#32) reducesTo_S4x598x80x258_S4x598x80_d3 h_S_ j).2) (broadcastInDim S4x598x80 ![] bcast_S_S4x598x80 (id (constantI S_ 32 256#32))))) (concatenate S4x2 1 [⟨S4x1, (broadcastInDim S4x1 ![0] bcast_S4_S4x1_0 (select (cmpi .slt (iotaInDim S4 32 0) (broadcastInDim S4 ![] bcast_S_S4 (constantI S_ 32 0#32))) (addi (iotaInDim S4 32 0) (broadcastInDim S4 ![] bcast_S_S4 (constantI S_ 32 4#32))) (iotaInDim S4 32 0)))⟩, ⟨S4x1, (broadcastInDim S4x1 ![0] bcast_S4_S4x1_0 (select (cmpi .slt (addi (addi (broadcastInDim S4 ![] bcast_S_S4 (constantI S_ 32 1#32)) (select (andi (cmpi .ne (signi (subi (m ((c.tc : Thread nD τ).loc main_arg1)) (broadcastInDim S4 ![] bcast_S_S4 (constantI S_ 32 400#32)))) (broadcastInDim S4 ![] bcast_S_S4 (signi (id (constantI S_ 32 160#32))))) (cmpi .ne (Host.remsi (subi (m ((c.tc : Thread nD τ).loc main_arg1)) (broadcastInDim S4 ![] bcast_S_S4 (constantI S_ 32 400#32))) (broadcastInDim S4 ![] bcast_S_S4 (id (constantI S_ 32 160#32)))) (broadcastInDim S4 ![] bcast_S_S4 (constantI S_ 32 0#32)))) (subi (Host.divsi (subi (m ((c.tc : Thread nD τ).loc main_arg1)) (broadcastInDim S4 ![] bcast_S_S4 (constantI S_ 32 400#32))) (broadcastInDim S4 ![] bcast_S_S4 (id (constantI S_ 32 160#32)))) (broadcastInDim S4 ![] bcast_S_S4 (constantI S_ 32 1#32))) (Host.divsi (subi (m ((c.tc : Thread nD τ).loc main_arg1)) (broadcastInDim S4 ![] bcast_S_S4 (constantI S_ 32 400#32))) (broadcastInDim S4 ![] bcast_S_S4 (id (constantI S_ 32 160#32)))))) (broadcastInDim S4 ![] bcast_S_S4 (constantI S_ 32 1#32))) (broadcastInDim S4 ![] bcast_S_S4 (constantI S_ 32 0#32))) (addi (addi (addi (broadcastInDim S4 ![] bcast_S_S4 (constantI S_ 32 1#32)) (select (andi (cmpi .ne (signi (subi (m ((c.tc : Thread nD τ).loc main_arg1)) (broadcastInDim S4 ![] bcast_S_S4 (constantI S_ 32 400#32)))) (broadcastInDim S4 ![] bcast_S_S4 (signi (id (constantI S_ 32 160#32))))) (cmpi .ne (Host.remsi (subi (m ((c.tc : Thread nD τ).loc main_arg1)) (broadcastInDim S4 ![] bcast_S_S4 (constantI S_ 32 400#32))) (broadcastInDim S4 ![] bcast_S_S4 (id (constantI S_ 32 160#32)))) (broadcastInDim S4 ![] bcast_S_S4 (constantI S_ 32 0#32)))) (subi (Host.divsi (subi (m ((c.tc : Thread nD τ).loc main_arg1)) (broadcastInDim S4 ![] bcast_S_S4 (constantI S_ 32 400#32))) (broadcastInDim S4 ![] bcast_S_S4 (id (constantI S_ 32 160#32)))) (broadcastInDim S4 ![] bcast_S_S4 (constantI S_ 32 1#32))) (Host.divsi (subi (m ((c.tc : Thread nD τ).loc main_arg1)) (broadcastInDim S4 ![] bcast_S_S4 (constantI S_ 32 400#32))) (broadcastInDim S4 ![] bcast_S_S4 (id (constantI S_ 32 160#32)))))) (broadcastInDim S4 ![] bcast_S_S4 (constantI S_ 32 1#32))) (broadcastInDim S4 ![] bcast_S_S4 (constantI S_ 32 600#32))) (addi (addi (broadcastInDim S4 ![] bcast_S_S4 (constantI S_ 32 1#32)) (select (andi (cmpi .ne (signi (subi (m ((c.tc : Thread nD τ).loc main_arg1)) (broadcastInDim S4 ![] bcast_S_S4 (constantI S_ 32 400#32)))) (broadcastInDim S4 ![] bcast_S_S4 (signi (id (constantI S_ 32 160#32))))) (cmpi .ne (Host.remsi (subi (m ((c.tc : Thread nD τ).loc main_arg1)) (broadcastInDim S4 ![] bcast_S_S4 (constantI S_ 32 400#32))) (broadcastInDim S4 ![] bcast_S_S4 (id (constantI S_ 32 160#32)))) (broadcastInDim S4 ![] bcast_S_S4 (constantI S_ 32 0#32)))) (subi (Host.divsi (subi (m ((c.tc : Thread nD τ).loc main_arg1)) (broadcastInDim S4 ![] bcast_S_S4 (constantI S_ 32 400#32))) (broadcastInDim S4 ![] bcast_S_S4 (id (constantI S_ 32 160#32)))) (broadcastInDim S4 ![] bcast_S_S4 (constantI S_ 32 1#32))) (Host.divsi (subi (m ((c.tc : Thread nD τ).loc main_arg1)) (broadcastInDim S4 ![] bcast_S_S4 (constantI S_ 32 400#32))) (broadcastInDim S4 ![] bcast_S_S4 (id (constantI S_ 32 160#32)))))) (broadcastInDim S4 ![] bcast_S_S4 (constantI S_ 32 1#32)))))⟩] concatenates_S4x1_S4x1_S4x2_d1) (broadcastInDim S4x80 ![] bcast_S_S4x80 (constantI S_ 32 258#32))

/-- The first result's term, named by its position. -/
abbrev res_out0 (m : (ℓ : Loc nD τ sig) → Buf (Elt F) ℓ) (c : Dev nD) : Buf (Elt F) ((c.tc : Thread nD τ).loc main_v115) := res_main_v115 m c

set_option maxRecDepth 8192 in
set_option maxHeartbeats 70800000 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v115) = res_main_v115 m c
      ∧ r.2.mem ((c.tc : Thread nD τ).loc main_v117) = addi (addi (broadcastInDim S4 ![] bcast_S_S4 (constantI S_ 32 1#32)) (select (andi (cmpi .ne (signi (subi (m ((c.tc : Thread nD τ).loc main_arg1)) (broadcastInDim S4 ![] bcast_S_S4 (constantI S_ 32 400#32)))) (broadcastInDim S4 ![] bcast_S_S4 (signi (id (constantI S_ 32 160#32))))) (cmpi .ne (Host.remsi (subi (m ((c.tc : Thread nD τ).loc main_arg1)) (broadcastInDim S4 ![] bcast_S_S4 (constantI S_ 32 400#32))) (broadcastInDim S4 ![] bcast_S_S4 (id (constantI S_ 32 160#32)))) (broadcastInDim S4 ![] bcast_S_S4 (constantI S_ 32 0#32)))) (subi (Host.divsi (subi (m ((c.tc : Thread nD τ).loc main_arg1)) (broadcastInDim S4 ![] bcast_S_S4 (constantI S_ 32 400#32))) (broadcastInDim S4 ![] bcast_S_S4 (id (constantI S_ 32 160#32)))) (broadcastInDim S4 ![] bcast_S_S4 (constantI S_ 32 1#32))) (Host.divsi (subi (m ((c.tc : Thread nD τ).loc main_arg1)) (broadcastInDim S4 ![] bcast_S_S4 (constantI S_ 32 400#32))) (broadcastInDim S4 ![] bcast_S_S4 (id (constantI S_ 32 160#32)))))) (broadcastInDim S4 ![] bcast_S_S4 (constantI S_ 32 2#32))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v115).trans (by simp only [ops, TRef.binary, TRef.nullary, TRef.quaternary, TRef.ternary, TRef.unary, TRef.toBuf, TRef.ofBuf, cast_eq]; after_results_simp <;> rfl <;> (unfold res_main_v115; rfl)),
      (h c main_v117).trans (by simp only [ops, TRef.binary, TRef.nullary, TRef.quaternary, TRef.ternary, TRef.unary, TRef.toBuf, TRef.ofBuf, cast_eq]; after_results_simp <;> rfl),
      (h c main_arg0).trans (by simp only [ops, TRef.binary, TRef.nullary, TRef.quaternary, TRef.ternary, TRef.unary, TRef.toBuf, TRef.ofBuf, cast_eq]; after_results_simp <;> rfl),
      (h c main_arg1).trans (by simp only [ops, TRef.binary, TRef.nullary, TRef.quaternary, TRef.ternary, TRef.unary, TRef.toBuf, TRef.ofBuf, cast_eq]; after_results_simp <;> rfl),
      (h c main_arg2).trans (by simp only [ops, TRef.binary, TRef.nullary, TRef.quaternary, TRef.ternary, TRef.unary, TRef.toBuf, TRef.ofBuf, cast_eq]; after_results_simp <;> rfl),
      (h c main_arg3).trans (by simp only [ops, TRef.binary, TRef.nullary, TRef.quaternary, TRef.ternary, TRef.unary, TRef.toBuf, TRef.ofBuf, cast_eq]; after_results_simp <;> rfl)⟩)
    (run_seq scopedRefs_eq scopedSems_eq defs main (fun _ => ops) main_eq (fun _ => ops_sub) m ρ)

end Cert.ReferenceIdeal.Value

end
-- ==== Proof.Bridge.lean ====
/-
  The program over bits is the idealized program's text read over bits: the only named constant is read as the pattern it replaced.
-/
module

public import proofs.«01_k».proof.Defs
public import proofs.«01_k».proof.Proof.Gen.Kernel
public import proofs.«01_k».proof.Proof.Gen.KernelIdeal
@[expose] public section
noncomputable section

namespace Cert.Proof.Br

open Idealize.ShloMosaic Idealize.SL.Sem

/-- A constant the idealized program names is, over bits, the pattern it replaced. -/
@[reducible] def namedBits : Named Bits where
  named := fun _ _ φ b => Scalar.ofBits φ b
local instance : Named Bits := namedBits

open Cert.Kernel.Gen Cert.KernelIdeal.Gen
set_option smartUnfolding false in
theorem kernels_eq : @Cert.Kernel.defs₀ Bits _ _ = @Cert.KernelIdeal.defs₀ Bits _ _ _ := rfl
set_option smartUnfolding false in
theorem defs_eq : @Cert.Kernel.defs Bits _ _ = @Cert.KernelIdeal.defs Bits _ _ _ := by
  unfold Cert.Kernel.defs Cert.KernelIdeal.defs
  rw [kernels_eq]
  rfl
set_option maxHeartbeats 4000000 in
theorem part0_eq : @Cert.Kernel.main_part0 Bits _ _ = @Cert.KernelIdeal.main_part0 Bits _ _ := id rfl
set_option maxHeartbeats 4000000 in
theorem part1_eq : @Cert.Kernel.main_part1 Bits _  = @Cert.KernelIdeal.main_part1 Bits _  := id rfl
theorem main_eq : @Cert.Kernel.main Bits _ _ = @Cert.KernelIdeal.main Bits _ _ := by
  funext d
  unfold Cert.Kernel.main Cert.KernelIdeal.main
  rw [part0_eq, part1_eq]
set_option smartUnfolding false in
theorem threads_eq : @Cert.Kernel.threads Bits _ _ = @Cert.KernelIdeal.threads Bits _ _ := by
  unfold Cert.Kernel.threads Cert.KernelIdeal.threads
  rw [main_eq]
  rfl
theorem carry (m) (ρ) (Q)  (h : θ_run (Cert.KernelIdeal.defs (F := Bits)) (Cert.KernelIdeal.threads (F := Bits)) ⟨m, fun _ => 0, ρ⟩ Q) :
   θ_run (Cert.Kernel.defs (F := Bits)) (Cert.Kernel.threads (F := Bits)) ⟨m, fun _ => 0, ρ⟩ Q := by
  rw [defs_eq, threads_eq]; exact h
end Cert.Proof.Br
-- ==== Proof.Frames.lean ====
/-
  The frames: every weakly fair execution of each program ends, its arguments unchanged and its counters at zero.
-/
module

public import proofs.«01_k».proof.Defs
public import proofs.«01_k».proof.Proof.Main
public import proofs.«01_k».proof.Proof.RefRun
public import proofs.«01_k».proof.Proof.Bridge
public import proofs.«01_k».proof.Proof.Gen.Kernel

@[expose] public section

noncomputable section

namespace Cert.Proof.Run

open Cert.KernelIdeal Cert.KernelIdeal.Gen

open Idealize.ShloMosaic
open Idealize.ShloMosaic.TcCoe
open Idealize.ShloMosaic.StableHlo (after launchContents after_of_writes_sub forall_writes_sub_of_map)
open Idealize.SL.Sem

variable {F : FTy → Type} [FloatOps F] [Named F]
variable (m : (ℓ : Loc nD τ sig) → Buf (Elt F) ℓ)

/-- What line 1 writes, in order. -/
def wr1 : List (Ref sig .tc) := [main_v0, main_c, main_v1, main_v2, main_c_0, main_call0_v0, main_call0_v1, main_call0_v2, main_call0_v3, main_call0_v4, main_call0_v5, main_call0_v6, main_call0_v7, main_call0_v8, main_call0_c, main_call0_v9, main_call0_v10, main_call0_v11, main_call0_c_0, main_call0_v12, main_call0_v13, main_v3, main_c_1, main_v4, main_v5, main_cst, main_v6, main_v7, main_c_2, main_v8, main_v9, main_v10, main_v11, main_v12, main_v13, main_v14, main_v15, main_v16, main_v17, main_cst_3, main_v18, main_v19, main_cst_4, main_v20, main_v21, main_v22, main_cst_5, main_v23, main_v24, main_cst_6, main_v25, main_v26, main_v27, main_cst_7, main_v28, main_v29, main_cst_8, main_v30, main_v31, main_v32, main_v33, main_v34, main_v35, main_v36, main_v37, main_v38, main_cst_9, main_v39, main_c_10, main_v40, main_c_11, main_v41, main_v42, main_v43, main_c_12, main_v44, main_c_13, main_v45, main_v46, main_v47, main_v48]

set_option maxRecDepth 8192 in
theorem ops1_keep (V : Valuation τ sig (Elt F)) (r : Ref sig .tc) (h : r ∉ wr1) : after ops1 V r = V r :=
  after_of_writes_sub ops1 V (forall_writes_sub_of_map rfl) h

/-- What line 2 writes, in order. -/
def wr2 : List (Ref sig .tc) := [main_v50, main_c_14, main_call1_v0, main_call1_v1, main_call1_v2, main_call1_v3, main_call1_v4, main_call1_v5, main_call1_v6, main_call1_v7, main_call1_v8, main_call1_c, main_call1_v9, main_call1_v10, main_call1_v11, main_call1_c_0, main_call1_v12, main_call1_v13, main_v51, main_c_15, main_v52, main_v53, main_c_16, main_v54, main_v55, main_v56, main_v57, main_v58, main_v59, main_v60, main_v61]

set_option maxRecDepth 8192 in
theorem ops2_keep (V : Valuation τ sig (Elt F)) (r : Ref sig .tc) (h : r ∉ wr2) : after ops2 V r = V r :=
  after_of_writes_sub ops2 V (forall_writes_sub_of_map rfl) h

/-- What line 3 writes, in order. -/
def wr3 : List (Ref sig .tc) := [main_v63, main_c_17, main_v64, main_v65]

set_option maxRecDepth 8192 in
theorem ops3_keep (V : Valuation τ sig (Elt F)) (r : Ref sig .tc) (h : r ∉ wr3) : after ops3 V r = V r :=
  after_of_writes_sub ops3 V (forall_writes_sub_of_map rfl) h

/-- A buffer that nothing writes holds at the end what it held at launch. -/
theorem VE_keep (d : Dev nD) (r : Ref sig .tc) (h1 : r ∉ wr1) (h2 : r ∉ wr2) (h3 : r ∉ wr3) (h4 : r ≠ main_v49) (h5 : r ≠ main_v62) :
    VE m d r = m (d, (r : DevRef τ sig)) := by
  unfold VE
  rw [ops3_keep _ r h3, VD_ne m d r h5]
  unfold VC
  rw [ops2_keep _ r h2, VB_ne m d r h4]
  unfold VA
  exact ops1_keep _ r h1

theorem args_kept (ρ : Dev nD → PrngReg) [∀ e, Nonempty (Elt F e)] :
    θ_run (Cert.KernelIdeal.defs (F := F)) (Cert.KernelIdeal.threads (F := F)) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0 :=
  (θ_run Cert.KernelIdeal.defs _ _).mono (fun _ h => ⟨fun c =>
    ⟨(h.1 c main_arg0 (by decide)).trans (VE_keep m c main_arg0 (by decide) (by decide) (by decide) (by decide) (by decide)),
     (h.1 c main_arg1 (by decide)).trans (VE_keep m c main_arg1 (by decide) (by decide) (by decide) (by decide) (by decide)),
     (h.1 c main_arg2 (by decide)).trans (VE_keep m c main_arg2 (by decide) (by decide) (by decide) (by decide) (by decide)),
     (h.1 c main_arg3 (by decide)).trans (VE_keep m c main_arg3 (by decide) (by decide) (by decide) (by decide) (by decide))⟩, h.2⟩)
    (run_main m ρ)

end Cert.Proof.Run

namespace Cert.Proof

open Idealize.ShloMosaic Idealize.SL.Sem

theorem frame_pi : Cert.quiescent_KernelIdeal := fun m ρ _ => Run.args_kept (F := Ideal) m ρ
/-- The program over bits is the idealized program's text read over bits. -/
theorem frame_p : Cert.quiescent_Kernel := fun m ρ _ =>
  Br.carry m ρ _ (@Run.args_kept Bits _ Br.namedBits m ρ _)
theorem frame_ri : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)
theorem preserves : Cert.preserves_Kernel_KernelIdeal :=
  IdealRules.named_const.statement Cert.KernelIdeal.κ "inv_step" .f32 0x41E2A0FF#32 ((67108864 / 2368943 : ℝ) : EReal) rfl

end Cert.Proof

end
-- ==== Proof.KerVals.lean ====
/-
  What the kernel's host steps compute, each a function of the arguments, and that the buffers hold it.
-/
module

public import proofs.«01_k».proof.Proof.Frames
public import Idealize.ShloMosaic.PureOps.Ideal

@[expose] public section

set_option maxRecDepth 16384

noncomputable section

namespace Cert.Proof.Run

open Cert.KernelIdeal Cert.KernelIdeal.Gen
open Idealize.ShloMosaic
open Idealize.ShloMosaic.TcCoe
open Idealize.ShloMosaic.StableHlo
open Idealize.SL.Sem

/-- The number of frames. -/
def kLen (le : IVec S4 32) : IVec S4 32 :=
  (addi (broadcastInDim S4 ![] bcast_S_S4 (constantI S_ 32 1#32)) (select (andi (cmpi .ne (signi (subi le (broadcastInDim S4 ![] bcast_S_S4 (constantI S_ 32 400#32)))) (broadcastInDim S4 ![] bcast_S_S4 (signi (constantI S_ 32 160#32)))) (cmpi .ne (Host.remsi (subi le (broadcastInDim S4 ![] bcast_S_S4 (constantI S_ 32 400#32))) (broadcastInDim S4 ![] bcast_S_S4 (constantI S_ 32 160#32))) (broadcastInDim S4 ![] bcast_S_S4 (constantI S_ 32 0#32)))) (subi (Host.divsi (subi le (broadcastInDim S4 ![] bcast_S_S4 (constantI S_ 32 400#32))) (broadcastInDim S4 ![] bcast_S_S4 (constantI S_ 32 160#32))) (broadcastInDim S4 ![] bcast_S_S4 (constantI S_ 32 1#32))) (Host.divsi (subi le (broadcastInDim S4 ![] bcast_S_S4 (constantI S_ 32 400#32))) (broadcastInDim S4 ![] bcast_S_S4 (constantI S_ 32 160#32)))))

/-- The mel weights, transposed, with rows of zeros after. -/
def kMt (mw : FVec Ideal S80x201 .f32) : FVec Ideal S256x80 .f32 :=
  (Host.scatter scatter_S256x80_S1_S201x80_01_n_0_0 (fun _ b => b) (broadcastInDim S256x80 ![] bcast_S_S256x80 (constant (F := Ideal) S_ .f32 0x00000000#32)) (broadcastInDim S1 ![] bcast_S_S1 (constantI S_ 32 0#32)) (transpose S201x80 [1, 0] mw transposes_S80x201_S201x80_1_0))

/-- The angle of sample and frequency. -/
def kAng : FVec Ideal S400x201 .f32 :=
  (Host.divf (mulf (sitofp .f32 (muli (broadcastInDim S400x201 ![0, 1] bcast_S400x1_S400x201_0_1 (broadcastInDim S400x1 ![0] bcast_S400_S400x1_0 (iotaInDim S400 32 0))) (broadcastInDim S400x201 ![0, 1] bcast_S1x201_S400x201_0_1 (broadcastInDim S1x201 ![1] bcast_S201_S1x201_1 (iotaInDim S201 32 0))))) (broadcastInDim S400x201 ![] bcast_S_S400x201 (constant (F := Ideal) S_ .f32 0x40C90FDB#32))) (broadcastInDim S400x201 ![] bcast_S_S400x201 (constant (F := Ideal) S_ .f32 0x43C80000#32)))

/-- The Hann window, a column. -/
def kWin : FVec Ideal S400x1 .f32 :=
  (subf (broadcastInDim S400x1 ![] bcast_S_S400x1 (constant (F := Ideal) S_ .f32 0x3F000000#32)) (mulf (broadcastInDim S400x1 ![] bcast_S_S400x1 (constant (F := Ideal) S_ .f32 0x3F000000#32)) (Host.cos (Host.divf (mulf (sitofp .f32 (broadcastInDim S400x1 ![0] bcast_S400_S400x1_0 (iotaInDim S400 32 0))) (broadcastInDim S400x1 ![] bcast_S_S400x1 (constant (F := Ideal) S_ .f32 0x40C90FDB#32))) (broadcastInDim S400x1 ![] bcast_S_S400x1 (constant (F := Ideal) S_ .f32 0x43C78000#32))))))

/-- The windowed cosines. -/
def kCos : FVec Ideal S400x201 .f32 :=
  (mulf (Host.cos kAng) (broadcastInDim S400x201 ![0, 1] bcast_S400x1_S400x201_0_1 kWin))

/-- The windowed negated sines. -/
def kSin : FVec Ideal S400x201 .f32 :=
  (mulf (Host.negf (Host.sin kAng)) (broadcastInDim S400x201 ![0, 1] bcast_S400x1_S400x201_0_1 kWin))

/-- The cosines laid into zeros. -/
def kTab0 : FVec Ideal S480x512 .f32 :=
  (Host.scatter scatter_S480x512_S2_S400x201_01_n_01_0 (fun _ b => b) (broadcastInDim S480x512 ![] bcast_S_S480x512 (constant (F := Ideal) S_ .f32 0x00000000#32)) (concatenate S2 0 [⟨S1, (broadcastInDim S1 ![] bcast_S_S1 (constantI S_ 32 0#32))⟩, ⟨S1, (broadcastInDim S1 ![] bcast_S_S1 (constantI S_ 32 0#32))⟩] concatenates_S1_S1_S2_d0) kCos)

/-- The whole table: cosines, and sines from column 256 on. -/
def kTab : FVec Ideal S480x512 .f32 :=
  (Host.scatter scatter_S480x512_S2_S400x201_01_n_01_0 (fun _ b => b) kTab0 (concatenate S2 0 [⟨S1, (broadcastInDim S1 ![] bcast_S_S1 (constantI S_ 32 0#32))⟩, ⟨S1, (broadcastInDim S1 ![] bcast_S_S1 (constantI S_ 32 256#32))⟩] concatenates_S1_S1_S2_d0) kSin)

/-- The samples in rows of one hop. -/
def kZ (x : FVec Ideal S4x96000 .f32) : FVec Ideal S2400x160 .f32 :=
  (shapeCast S2400x160 (shapeCast S4x600x160 x shapeCasts_S4x96000_S4x600x160) shapeCasts_S4x600x160_S2400x160)

/-- The batch of each tile. -/
def kBatch : IVec S32 32 :=
  (select (cmpi .slt (select (andi (cmpi .ne (signi (iotaInDim S32 32 0)) (broadcastInDim S32 ![] bcast_S_S32 (signi (constantI S_ 32 8#32)))) (cmpi .ne (Host.remsi (iotaInDim S32 32 0) (broadcastInDim S32 ![] bcast_S_S32 (constantI S_ 32 8#32))) (broadcastInDim S32 ![] bcast_S_S32 (constantI S_ 32 0#32)))) (subi (Host.divsi (iotaInDim S32 32 0) (broadcastInDim S32 ![] bcast_S_S32 (constantI S_ 32 8#32))) (broadcastInDim S32 ![] bcast_S_S32 (constantI S_ 32 1#32))) (Host.divsi (iotaInDim S32 32 0) (broadcastInDim S32 ![] bcast_S_S32 (constantI S_ 32 8#32)))) (broadcastInDim S32 ![] bcast_S_S32 (constantI S_ 32 0#32))) (addi (select (andi (cmpi .ne (signi (iotaInDim S32 32 0)) (broadcastInDim S32 ![] bcast_S_S32 (signi (constantI S_ 32 8#32)))) (cmpi .ne (Host.remsi (iotaInDim S32 32 0) (broadcastInDim S32 ![] bcast_S_S32 (constantI S_ 32 8#32))) (broadcastInDim S32 ![] bcast_S_S32 (constantI S_ 32 0#32)))) (subi (Host.divsi (iotaInDim S32 32 0) (broadcastInDim S32 ![] bcast_S_S32 (constantI S_ 32 8#32))) (broadcastInDim S32 ![] bcast_S_S32 (constantI S_ 32 1#32))) (Host.divsi (iotaInDim S32 32 0) (broadcastInDim S32 ![] bcast_S_S32 (constantI S_ 32 8#32)))) (broadcastInDim S32 ![] bcast_S_S32 (constantI S_ 32 4#32))) (select (andi (cmpi .ne (signi (iotaInDim S32 32 0)) (broadcastInDim S32 ![] bcast_S_S32 (signi (constantI S_ 32 8#32)))) (cmpi .ne (Host.remsi (iotaInDim S32 32 0) (broadcastInDim S32 ![] bcast_S_S32 (constantI S_ 32 8#32))) (broadcastInDim S32 ![] bcast_S_S32 (constantI S_ 32 0#32)))) (subi (Host.divsi (iotaInDim S32 32 0) (broadcastInDim S32 ![] bcast_S_S32 (constantI S_ 32 8#32))) (broadcastInDim S32 ![] bcast_S_S32 (constantI S_ 32 1#32))) (Host.divsi (iotaInDim S32 32 0) (broadcastInDim S32 ![] bcast_S_S32 (constantI S_ 32 8#32)))))

/-- Each tile's length, on every lane. -/
def kLens (n : IVec S4 32) : IVec S32x16 32 :=
  (broadcastInDim S32x16 ![0, 1] bcast_S32x1_S32x16_0_1 (broadcastInDim S32x1 ![0] bcast_S32_S32x1_0 (Host.gather gather_S4_S32x1_S32_n_0_n_n_0_1_1 n (broadcastInDim S32x1 ![0] bcast_S32_S32x1_0 kBatch))))

/-- The features in one row. -/
def kFlat (g : FVec Ideal S2400x80 .f32) : FVec Ideal S192000 .f32 :=
  (shapeCast S192000 g shapeCasts_S2400x80_S192000)

/-- The tokens at their shape. -/
def kOut (o : IVec S192000 32) : IVec S4x600x80 32 :=
  (shapeCast S4x600x80 o shapeCasts_S192000_S4x600x80)

/-- The lengths with the two marks. -/
def kLen2 (n : IVec S4 32) : IVec S4 32 :=
  (addi n (broadcastInDim S4 ![] bcast_S_S4 (constantI S_ 32 2#32)))

variable (m : (ℓ : Loc nD τ sig) → Buf (Elt Ideal) ℓ) (d : Dev nD)

set_option maxHeartbeats 8000000 in
theorem VA_v5 : VA m d main_v5 = kLen (m (d, (main_arg1 : DevRef τ sig))) := by
  unfold VA
  simp only [ops1, TRef.binary, TRef.nullary, TRef.ternary, TRef.unary, TRef.toBuf, TRef.ofBuf, cast_eq]; after_results_simp <;> rfl
set_option maxHeartbeats 8000000 in
theorem VA_v9 : VA m d main_v9 = kMt (m (d, (main_arg2 : DevRef τ sig))) := by
  unfold VA
  simp only [ops1, TRef.binary, TRef.nullary, TRef.ternary, TRef.unary, TRef.toBuf, TRef.ofBuf, cast_eq]; after_results_simp <;> rfl
set_option maxHeartbeats 8000000 in
theorem VA_v47 : VA m d main_v47 = kTab  := by
  unfold VA
  simp only [ops1, TRef.binary, TRef.nullary, TRef.ternary, TRef.unary, TRef.toBuf, TRef.ofBuf, cast_eq]; after_results_simp <;> rfl
set_option maxHeartbeats 8000000 in
theorem VA_v48 : VA m d main_v48 = kZ (m (d, (main_arg0 : DevRef τ sig))) := by
  unfold VA
  simp only [ops1, TRef.binary, TRef.nullary, TRef.ternary, TRef.unary, TRef.toBuf, TRef.ofBuf, cast_eq]; after_results_simp <;> rfl
theorem VC_keep (r : Ref sig .tc) (h2 : r ∉ wr2) (h4 : r ≠ main_v49) : VC m d r = VA m d r := by
  unfold VC
  rw [ops2_keep _ r h2, VB_ne m d r h4]
/-- The features, as the TensorCore call leaves them. -/
def kFeat (x : FVec Ideal S4x96000 .f32) (mw : FVec Ideal S80x201 .f32) : FVec Ideal S2400x80 .f32 := k0_pay1 (F := Ideal) (kZ x) kTab (kMt mw)
set_option maxHeartbeats 8000000 in
theorem VC_v61 : VC m d main_v61 = kFlat (VB m d main_v49) := by
  unfold VC
  simp only [ops2, TRef.binary, TRef.nullary, TRef.ternary, TRef.unary, TRef.toBuf, TRef.ofBuf, cast_eq]; after_results_simp <;> rfl
set_option maxHeartbeats 8000000 in
theorem VC_v60 : VC m d main_v60 = kLens (VB m d main_v5) := by
  unfold VC
  simp only [ops2, TRef.binary, TRef.nullary, TRef.ternary, TRef.unary, TRef.toBuf, TRef.ofBuf, cast_eq]; after_results_simp <;> rfl
set_option maxHeartbeats 8000000 in
theorem VE_v63 : VE m d main_v63 = kOut (VD m d main_v62) := by
  unfold VE
  simp only [ops3, TRef.binary, TRef.nullary, TRef.ternary, TRef.unary, TRef.toBuf, TRef.ofBuf, cast_eq]; after_results_simp <;> rfl
set_option maxHeartbeats 8000000 in
theorem VE_v65 : VE m d main_v65 = kLen2 (VD m d main_v5) := by
  unfold VE
  simp only [ops3, TRef.binary, TRef.nullary, TRef.ternary, TRef.unary, TRef.toBuf, TRef.ofBuf, cast_eq]; after_results_simp <;> rfl

end Cert.Proof.Run

end
-- ==== Proof.Spec.lean ====
/-
  The mathematics both programs compute, with no program in it: the features of one frame.
-/
module

public import Idealize.ShloMosaic.PureOps.Ideal
public import Idealize.ShloMosaic.Lib.Pointwise

@[expose] public section

noncomputable section

namespace Cert.Proof.Spec

open Idealize.ShloMosaic

/-- The Hann window at sample `n`. -/
def win (n : Nat) : EReal :=
  Ideal.ofBits FTy.f32 1056964608#32 - Ideal.ofBits FTy.f32 1056964608#32 *
    Ideal.cos (Ideal.div (FloatOps.sitofp (F := Ideal) FTy.f32 (BitVec.ofNat 32 n) * Ideal.ofBits FTy.f32 1086918619#32) (Ideal.ofBits FTy.f32 1137147904#32))

/-- The angle at sample `n` and frequency `k`. -/
def ang (n k : Nat) : EReal :=
  Ideal.div (FloatOps.sitofp (F := Ideal) FTy.f32 (IntOp.muli (BitVec.ofNat 32 n) (BitVec.ofNat 32 k)) * Ideal.ofBits FTy.f32 1086918619#32) (Ideal.ofBits FTy.f32 1137180672#32)

/-- The windowed cosine. -/
def cosW (n k : Nat) : EReal := Ideal.cos (ang n k) * win n
/-- The windowed negated sine. -/
def sinW (n k : Nat) : EReal := -Ideal.sin (ang n k) * win n

/-- A frame's inner product with a table's column. -/
def ip (X : Fin 400 → EReal) (T : Nat → EReal) : EReal := ∑ n : Fin 400, X n * T n.val

/-- A frame's power at frequency `k`. -/
def pow (X : Fin 400 → EReal) (k : Nat) : EReal :=
  ip X (cosW · k) * ip X (cosW · k) + ip X (sinW · k) * ip X (sinW · k)

/-- A frame's feature under one row of mel weights. -/
def feat (X : Fin 400 → EReal) (M : Fin 201 → EReal) : EReal :=
  Ideal.log (∑ k : Fin 201, pow X k.val * M k + Ideal.ofBits FTy.f32 786163455#32)

/-- A sum over `Fin (a + b)` whose terms from `a` on are zero. -/
theorem sum_zero_tail {a n : Nat} (h : a ≤ n) (f : Fin n → EReal) (hz : ∀ i : Fin n, a ≤ i.val → f i = 0) :
    ∑ i, f i = ∑ i : Fin a, f ⟨i.val, Nat.lt_of_lt_of_le i.isLt h⟩ := by
  obtain ⟨b, rfl⟩ := Nat.exists_eq_add_of_le h
  rw [Fin.sum_univ_add, Finset.sum_eq_zero (s := Finset.univ) (f := fun i : Fin b => f (Fin.natAdd a i)) (fun i _ => hz _ (by simp)), add_zero]
  rfl

/-- A frame's inner product, in three runs of 160 of which the last 80 terms are zero. -/
theorem ip_three (X : Fin 400 → EReal) (T : Nat → EReal) (A B C : Fin 160 → EReal)
    (hA : ∀ n : Fin 160, A n = X ⟨n.val, by omega⟩ * T n.val)
    (hB : ∀ n : Fin 160, B n = X ⟨160 + n.val, by omega⟩ * T (160 + n.val))
    (hC : ∀ n : Fin 160, ∀ h : n.val < 80, C n = X ⟨320 + n.val, by omega⟩ * T (320 + n.val))
    (hC' : ∀ n : Fin 160, 80 ≤ n.val → C n = 0) :
    ∑ n, A n + ∑ n, B n + ∑ n, C n = ip X T := by
  unfold ip
  rw [sum_zero_tail (show 80 ≤ 160 by omega) C hC',
    Fin.sum_univ_add (a := 320) (b := 80) (fun n : Fin 400 => X n * T n.val),
    Fin.sum_univ_add (a := 160) (b := 160) (fun n : Fin 320 => X (Fin.castAdd 80 n) * T (Fin.castAdd 80 n).val)]
  congr 1
  · congr 1
    · exact Finset.sum_congr rfl fun n _ => hA n
    · exact Finset.sum_congr rfl fun n _ => hB n
  · exact Finset.sum_congr rfl fun n _ => hC ⟨n.val, by omega⟩ n.isLt

end Cert.Proof.Spec

end
-- ==== Proof.KerFeat.lean ====
/-
  The kernel's features at one row: the feature of one frame.
-/
module

public import proofs.«01_k».proof.Proof.KerVals
public import proofs.«01_k».proof.Proof.Spec
public import Idealize.ShloMosaic.Lib.Pointwise
public import Idealize.ShloMosaic.Lib.Routing.OpsSet

@[expose] public section

set_option maxRecDepth 16384

noncomputable section

namespace Cert.Proof.Run

open Cert.KernelIdeal Cert.KernelIdeal.Gen
open Idealize.ShloMosaic
open Idealize.ShloMosaic.TcCoe
open Idealize.ShloMosaic.StableHlo
open Idealize.SL.Sem

/-! ## Where the updates of the two kinds of scatter land -/

theorem tab_win (n : Fin 400) (k : Fin 201) (q : Fin 2) :
    scatter_S480x512_S2_S400x201_01_n_01_0.window (ix2 n k) q = (ix2 n k q).val := by
  match q with
  | ⟨0, _⟩ => rfl
  | ⟨1, _⟩ => rfl

theorem tab_si (n : Fin 400) (k : Fin 201) (q : Fin 2) (h) :
    scatter_S480x512_S2_S400x201_01_n_01_0.siIdx (ix2 n k) ⟨q.val, h⟩ = ix1 q := by
  funext b
  match b with
  | ⟨0, _⟩ => rfl

theorem tab_s0 (n : Fin 400) (k : Fin 201) (idx : IVec S2 32) :
    scatter_S480x512_S2_S400x201_01_n_01_0.start (ix2 n k) idx 0 = (idx (ix1 0)).toInt := by
  unfold ScatterDims.start
  rw [dif_pos (by decide)]
  exact congrArg (fun i => (idx i).toInt) (tab_si n k 0 _)

theorem tab_s1 (n : Fin 400) (k : Fin 201) (idx : IVec S2 32) :
    scatter_S480x512_S2_S400x201_01_n_01_0.start (ix2 n k) idx 1 = (idx (ix1 1)).toInt := by
  unfold ScatterDims.start
  rw [dif_pos (by decide)]
  exact congrArg (fun i => (idx i).toInt) (tab_si n k 1 _)

theorem tab_lands (n : Fin 400) (k : Fin 201) (idx : IVec S2 32) (r : Fin 480) (c : Fin 512) :
    scatter_S480x512_S2_S400x201_01_n_01_0.resultIdx? (ix2 n k) idx = some (ix2 r c)
      ↔ (idx (ix1 0)).toInt + n.val = r.val ∧ (idx (ix1 1)).toInt + k.val = c.val := by
  rw [Routing.resultIdx?_eq_some]
  constructor
  · intro h
    have h0 := h 0
    have h1 := h 1
    rw [tab_s0, tab_win] at h0
    rw [tab_s1, tab_win] at h1
    exact ⟨h0, h1⟩
  · intro h a
    match a with
    | ⟨0, _⟩ => exact (congrArg₂ (fun (a : Int) (b : Nat) => a + (b : Int)) (tab_s0 n k idx) (tab_win n k 0)).trans h.1
    | ⟨1, _⟩ => exact (congrArg₂ (fun (a : Int) (b : Nat) => a + (b : Int)) (tab_s1 n k idx) (tab_win n k 1)).trans h.2

theorem mt_s0 (n : Fin 201) (k : Fin 80) (idx : IVec S1 32) :
    scatter_S256x80_S1_S201x80_01_n_0_0.start (ix2 n k) idx 0 = (idx (ix1 0)).toInt := by
  unfold ScatterDims.start
  rw [dif_pos (by decide)]
  refine congrArg (fun i => (idx i).toInt) (funext fun b => ?_)
  match b with
  | ⟨0, _⟩ => rfl

theorem mt_s1 (n : Fin 201) (k : Fin 80) (idx : IVec S1 32) :
    scatter_S256x80_S1_S201x80_01_n_0_0.start (ix2 n k) idx 1 = 0 := by
  unfold ScatterDims.start
  rw [dif_neg (by decide)]

theorem mt_lands (n : Fin 201) (k : Fin 80) (idx : IVec S1 32) (h0 : (idx (ix1 0)).toInt = 0) (r : Fin 256) (c : Fin 80) :
    scatter_S256x80_S1_S201x80_01_n_0_0.resultIdx? (ix2 n k) idx = some (ix2 r c) ↔ n.val = r.val ∧ k.val = c.val := by
  have e0 : scatter_S256x80_S1_S201x80_01_n_0_0.start (ix2 n k) idx 0
      + (scatter_S256x80_S1_S201x80_01_n_0_0.window (ix2 n k) 0 : Int) = n.val := by
    rw [mt_s0, h0]; exact Int.zero_add _
  have e1 : scatter_S256x80_S1_S201x80_01_n_0_0.start (ix2 n k) idx 1
      + (scatter_S256x80_S1_S201x80_01_n_0_0.window (ix2 n k) 1 : Int) = k.val := by
    rw [mt_s1]; exact Int.zero_add _
  rw [Routing.resultIdx?_eq_some]
  constructor
  · intro h
    exact ⟨Int.ofNat.inj (e0.symm.trans (h 0)), Int.ofNat.inj (e1.symm.trans (h 1))⟩
  · intro h a
    match a with
    | ⟨0, _⟩ => exact e0.trans (congrArg Int.ofNat h.1)
    | ⟨1, _⟩ => exact e1.trans (congrArg Int.ofNat h.2)

/-! ## The mel weights and the table read at an element -/

theorem kMt_at (mw : FVec Ideal S80x201 .f32) (r : Fin 256) (c : Fin 80) :
    kMt mw (ix2 r c) = if h : r.val < 201 then mw (ix2 c ⟨r.val, h⟩) else 0 := by
  unfold kMt
  by_cases h : r.val < 201
  · rw [dif_pos h]
    refine Routing.scatter_set_hit _ _ _ _ _ _ (fun k hk => ?_) (ix2 ⟨r.val, h⟩ c) ((mt_lands _ _ _ rfl _ _).2 ⟨rfl, rfl⟩)
    idx_vars k
    obtain ⟨a, b⟩ := (mt_lands _ _ _ rfl _ _).1 hk
    obtain rfl : k1 = c := Fin.ext b
    obtain rfl : k0 = ⟨r.val, h⟩ := Fin.ext a
    pointwise
  · rw [dif_neg h, Routing.scatter_set_miss]
    · pointwise
    · intro k hk
      idx_vars k
      have := ((mt_lands _ _ _ rfl _ _).1 hk).1
      omega

theorem kCos_at (n : Fin 400) (k : Fin 201) : kCos (ix2 n k) = Spec.cosW n.val k.val := by
  pointwise [kCos, kWin, kAng]
  rfl

theorem kSin_at (n : Fin 400) (k : Fin 201) : kSin (ix2 n k) = Spec.sinW n.val k.val := by
  pointwise [kSin, kWin, kAng]
  rfl

/-- One table laid into another at row 0 and column `a`. -/
theorem lay_at (T : FVec Ideal S480x512 .f32) (U : FVec Ideal S400x201 .f32) (idx : IVec S2 32) (a : Nat)
    (h0 : (idx (ix1 0)).toInt = 0) (h1 : (idx (ix1 1)).toInt = a) (r : Fin 480) (c : Fin 512) :
    Host.scatter scatter_S480x512_S2_S400x201_01_n_01_0 (fun _ b => b) T idx U (ix2 r c)
      = if h : r.val < 400 ∧ a ≤ c.val ∧ c.val < a + 201 then U (ix2 ⟨r.val, h.1⟩ ⟨c.val - a, by omega⟩) else T (ix2 r c) := by
  by_cases h : r.val < 400 ∧ a ≤ c.val ∧ c.val < a + 201
  · rw [dif_pos h]
    refine Routing.scatter_set_hit _ _ _ _ _ _ (fun k hk => ?_) (ix2 ⟨r.val, h.1⟩ ⟨c.val - a, by omega⟩) ((tab_lands _ _ _ _ _).2 ⟨?_, ?_⟩)
    · idx_vars k
      obtain ⟨p, q⟩ := (tab_lands _ _ _ _ _).1 hk
      rw [h0] at p
      rw [h1] at q
      have hp : k0 = ⟨r.val, h.1⟩ := Fin.ext (by show k0.val = r.val; omega)
      have hq : k1 = ⟨c.val - a, by omega⟩ := Fin.ext (by show k1.val = c.val - a; omega)
      rw [hp, hq]
    · rw [h0]; exact Int.zero_add _
    · rw [h1]; show (a : Int) + ((c.val - a : Nat) : Int) = c.val; omega
  · rw [dif_neg h, Routing.scatter_set_miss]
    intro k hk
    idx_vars k
    obtain ⟨p, q⟩ := (tab_lands _ _ _ _ _).1 hk
    rw [h0] at p
    rw [h1] at q
    exact h (by omega)

theorem kTab0_at (r : Fin 480) (c : Fin 512) :
    kTab0 (ix2 r c) = if r.val < 400 ∧ c.val < 201 then Spec.cosW r.val c.val else 0 := by
  unfold kTab0
  rw [lay_at _ _ _ 0 (by rfl) (by rfl)]
  by_cases h : r.val < 400 ∧ c.val < 201
  · rw [dif_pos ⟨h.1, by omega, by omega⟩, if_pos h]
    exact kCos_at _ _
  · rw [dif_neg (by omega), if_neg h]
    pointwise

theorem kTab_at (r : Fin 480) (c : Fin 512) :
    kTab (ix2 r c) = if r.val < 400 ∧ 256 ≤ c.val ∧ c.val < 457 then Spec.sinW r.val (c.val - 256)
      else if r.val < 400 ∧ c.val < 201 then Spec.cosW r.val c.val else 0 := by
  unfold kTab
  rw [lay_at _ _ _ 256 (by rfl) (by rfl)]
  by_cases h : r.val < 400 ∧ 256 ≤ c.val ∧ c.val < 457
  · rw [dif_pos ⟨h.1, by omega, by omega⟩, if_pos h]
    exact kSin_at _ _
  · rw [dif_neg (by omega), if_neg h]
    exact kTab0_at r c

/-! ## The features -/

/-- Row `g` and its two neighbours against column `q` of the table. -/
def dotRow (x : FVec Ideal S4x96000 .f32) (g : Fin 2400) (h1 : 1 ≤ g.val) (h2 : g.val < 2399) (q : Fin 512) : EReal :=
  ∑ n : Fin 160, kZ x (ix2 ⟨g.val - 1, by omega⟩ n) * kTab (ix2 ⟨n.val, by omega⟩ q)
    + ∑ n : Fin 160, kZ x (ix2 g n) * kTab (ix2 ⟨160 + n.val, by omega⟩ q)
    + ∑ n : Fin 160, kZ x (ix2 ⟨1 + g.val, by omega⟩ n) * kTab (ix2 ⟨320 + n.val, by omega⟩ q)

theorem kFeat_rows (x : FVec Ideal S4x96000 .f32) (mw : FVec Ideal S80x201 .f32) (g : Fin 2400) (h1 : 1 ≤ g.val) (h2 : g.val < 2399) (c : Fin 80) :
    kFeat x mw (ix2 g c) = Ideal.log (∑ k : Fin 256,
      (dotRow x g h1 h2 ⟨k.val, by omega⟩ * dotRow x g h1 h2 ⟨k.val, by omega⟩
        + dotRow x g h1 h2 ⟨256 + k.val, by omega⟩ * dotRow x g h1 h2 ⟨256 + k.val, by omega⟩) * kMt mw (ix2 k c)
      + Ideal.ofBits FTy.f32 786163455#32) := by
  pointwise [kFeat, k0_pay1]
  simp only [dif_neg (show ¬ g.val < 1 by omega), dif_pos h2]
  rfl

theorem kZ_at (x : FVec Ideal S4x96000 .f32) (g : Fin 2400) (k : Fin 160) :
    kZ x (ix2 g k) = x (ix2 ⟨g.val / 600, by omega⟩ ⟨g.val % 600 * 160 + k.val, by omega⟩) := by
  pointwise [kZ]

theorem dotRow_eq (x : FVec Ideal S4x96000 .f32) (b : Fin 4) (r : Fin 600) (h1 : 1 ≤ r.val) (h2 : r.val ≤ 598) (q : Fin 512) (T : Nat → EReal)
    (hT : ∀ n : Fin 480, kTab (ix2 n q) = if n.val < 400 then T n.val else 0) :
    dotRow x ⟨b.val * 600 + r.val, by omega⟩ (by show 1 ≤ b.val * 600 + r.val; omega) (by show b.val * 600 + r.val < 2399; omega) q
      = Spec.ip (fun n => x (ix2 b ⟨(r.val - 1) * 160 + n.val, by omega⟩)) T := by
  unfold dotRow
  refine Spec.ip_three _ T _ _ _ (fun n => ?_) (fun n => ?_) (fun n h => ?_) (fun n h => ?_)
  · rw [kZ_at, hT, if_pos (show n.val < 400 by omega)]
    congr 3 <;> exact Fin.ext (by dsimp only; omega)
  · rw [kZ_at, hT, if_pos (show 160 + n.val < 400 by omega)]
    congr 3 <;> exact Fin.ext (by dsimp only; omega)
  · rw [kZ_at, hT, if_pos (show 320 + n.val < 400 by omega)]
    congr 3 <;> exact Fin.ext (by dsimp only; omega)
  · rw [hT, if_neg (show ¬ 320 + n.val < 400 by omega), mul_zero]

/-- The kernel's feature of frame `r - 1` of batch `b`, which it keeps in row `b * 600 + r`. -/
theorem kFeat_at (x : FVec Ideal S4x96000 .f32) (mw : FVec Ideal S80x201 .f32) (b : Fin 4) (r : Fin 600) (h1 : 1 ≤ r.val) (h2 : r.val ≤ 598) (c : Fin 80) :
    kFeat x mw (ix2 ⟨b.val * 600 + r.val, by omega⟩ c)
      = Spec.feat (fun n => x (ix2 b ⟨(r.val - 1) * 160 + n.val, by omega⟩)) (fun k => mw (ix2 c k)) := by
  rw [kFeat_rows x mw _ (by show 1 ≤ b.val * 600 + r.val; omega) (by show b.val * 600 + r.val < 2399; omega)]
  unfold Spec.feat
  rw [Spec.sum_zero_tail (show 201 ≤ 256 by omega)]
  · refine congrArg (fun s => Ideal.log (s + _)) (Finset.sum_congr rfl fun k _ => ?_)
    dsimp only
    rw [kMt_at, dif_pos (show k.val < 201 from k.isLt),
      dotRow_eq x b r h1 h2 ⟨k.val, by omega⟩ (Spec.cosW · k.val), dotRow_eq x b r h1 h2 ⟨256 + k.val, by omega⟩ (Spec.sinW · k.val)]
    · rfl
    · intro n
      rw [kTab_at]
      by_cases h : n.val < 400
      · rw [if_pos ⟨h, by dsimp only; omega, by dsimp only; omega⟩, if_pos h]
        dsimp only
        rw [Nat.add_sub_cancel_left]
      · rw [if_neg (fun q => h q.1), if_neg (fun q => h q.1), if_neg h]
    · intro n
      rw [kTab_at, if_neg (by dsimp only; omega)]
      by_cases h : n.val < 400
      · rw [if_pos ⟨h, k.isLt⟩, if_pos h]
      · rw [if_neg (fun q => h q.1), if_neg h]
  · intro i hi
    rw [kMt_at, dif_neg (by omega), mul_zero]

end Cert.Proof.Run

end
-- ==== Proof.TokWord.lean ====
/-
  The tile kernel's token, by the row: the begin mark, a level, the end mark or the padding.
-/
module

public import proofs.«01_k».proof.Proof.Tok
public import Idealize.ShloMosaic.Lib.WordCmp
public import Idealize.ShloMosaic.Lib.WordArith

@[expose] public section

noncomputable section

namespace Cert.Proof.Run

open Cert.KernelIdeal Cert.KernelIdeal.Gen
open Idealize.ShloMosaic

theorem clamp01_one (x : BitVec 32) (h : 1 ≤ x.toInt) : clamp01 x = 1#32 := by
  have h0 : (0#32).toInt = 0 := rfl
  have h1 : (1#32).toInt = 1 := rfl
  have hm : IntOp.maxsi x 0#32 = x := by
    unfold IntOp.maxsi
    simp only [BitVec.slt, BitVec.sle, h0, decide_eq_true_eq]
    split_ifs <;> first | rfl | omega
  unfold clamp01
  rw [hm]
  unfold IntOp.minsi
  simp only [BitVec.slt, BitVec.sle, h1, decide_eq_true_eq]
  split_ifs with hc
  · exact BitVec.eq_of_toInt_eq (by rw [h1]; omega)
  · rfl

theorem clamp01_zero (x : BitVec 32) (h : x.toInt ≤ 0) : clamp01 x = 0#32 := by
  have h0 : (0#32).toInt = 0 := rfl
  have hm : IntOp.maxsi x 0#32 = 0#32 := by
    unfold IntOp.maxsi
    simp only [BitVec.slt, BitVec.sle, h0, decide_eq_true_eq]
    split_ifs
    · exact BitVec.eq_of_toInt_eq (by rw [h0]; omega)
    · rfl
  unfold clamp01
  rw [hm]
  decide

/-- A small difference of small words, moved by a small word, read as an integer. -/
theorem diff_toInt (a b k : Nat) (ha : a ≤ 1000) (hb : b ≤ 1000) (hk : k ≤ 2) :
    (IntOp.addi (IntOp.subi (BitVec.ofNat 32 a) (BitVec.ofNat 32 b)) (BitVec.ofNat 32 k)).toInt = (a : Int) - b + k := by
  show (BitVec.ofNat 32 a - BitVec.ofNat 32 b + BitVec.ofNat 32 k).toInt = _
  rw [BitVec.toInt_add, BitVec.toInt_sub, WordArith.toInt_ofNat_small a (by omega), WordArith.toInt_ofNat_small b (by omega),
    WordArith.toInt_ofNat_small k (by omega)]
  simp only [Int.bmod]
  omega

theorem validW_one (N r : Nat) (hN : N ≤ 1000) (hr : r ≤ N) : validW (BitVec.ofNat 32 N) (BitVec.ofNat 32 r) = 1#32 :=
  clamp01_one _ (by have := diff_toInt N r 1 (by omega) (by omega) (by omega); omega)

theorem validW_zero (N r : Nat) (hr' : r ≤ 1000) (hr : N < r) : validW (BitVec.ofNat 32 N) (BitVec.ofNat 32 r) = 0#32 :=
  clamp01_zero _ (by have := diff_toInt N r 1 (by omega) (by omega) (by omega); omega)

theorem bosW_zero : bosW (BitVec.ofNat 32 0) = 1#32 := by decide

theorem bosW_pos (r : Nat) (hr' : r ≤ 1000) (hr : 1 ≤ r) : bosW (BitVec.ofNat 32 r) = 0#32 := by
  refine clamp01_zero _ ?_
  have := diff_toInt 1 r 0 (by omega) (by omega) (by omega)
  rw [show IntOp.addi (IntOp.subi (BitVec.ofNat 32 1) (BitVec.ofNat 32 r)) (BitVec.ofNat 32 0) = IntOp.subi 1#32 (BitVec.ofNat 32 r) from BitVec.add_zero _] at this
  omega

theorem tailW_in (N r : Nat) (hN : N ≤ 1000) (hr : r ≤ N) : tailW (BitVec.ofNat 32 N) (BitVec.ofNat 32 r) = 0#32 := by
  unfold tailW
  rw [validW_one N r hN hr, clamp01_one (IntOp.addi (IntOp.subi (BitVec.ofNat 32 N) (BitVec.ofNat 32 r)) 2#32)
    (by have := diff_toInt N r 2 (by omega) (by omega) (by omega); omega)]
  decide

theorem tailW_end (N : Nat) (hN : N < 1000) : tailW (BitVec.ofNat 32 N) (BitVec.ofNat 32 (N + 1)) = 258#32 := by
  unfold tailW
  rw [validW_zero N (N + 1) (by omega) (by omega), clamp01_one (IntOp.addi (IntOp.subi (BitVec.ofNat 32 N) (BitVec.ofNat 32 (N + 1))) 2#32)
    (by have := diff_toInt N (N + 1) 2 (by omega) (by omega) (by omega); omega)]
  decide

theorem tailW_past (N r : Nat) (hr' : r ≤ 1000) (hr : N + 2 ≤ r) : tailW (BitVec.ofNat 32 N) (BitVec.ofNat 32 r) = 256#32 := by
  unfold tailW
  rw [validW_zero N r hr' (by omega), clamp01_zero (IntOp.addi (IntOp.subi (BitVec.ofNat 32 N) (BitVec.ofNat 32 r)) 2#32)
    (by have := diff_toInt N r 2 (by omega) (by omega) (by omega); omega)]
  decide

theorem lay_on (b : BitVec 32) : IntOp.addi b (IntOp.muli 1#32 (IntOp.subi 257#32 b)) = 257#32 := by
  show b + 1#32 * (257#32 - b) = 257#32
  rw [BitVec.one_mul, BitVec.add_comm, BitVec.sub_add_cancel]

theorem lay_off (b : BitVec 32) : IntOp.addi b (IntOp.muli 0#32 (IntOp.subi 257#32 b)) = b := by
  show b + 0#32 * (257#32 - b) = b
  rw [BitVec.zero_mul, BitVec.add_zero]

theorem body_in (q : BitVec 32) : IntOp.addi (IntOp.muli q 1#32) 0#32 = q := by
  show q * 1#32 + 0#32 = q
  rw [BitVec.mul_one, BitVec.add_zero]

theorem body_out (q t : BitVec 32) : IntOp.addi (IntOp.muli q 0#32) t = t := by
  show q * 0#32 + t = t
  rw [BitVec.mul_zero, BitVec.zero_add]

/-- The token of row `r` of a batch of `N` frames. -/
theorem tokW_at (f : Ideal .f32) (N r : Nat) (hN : N ≤ 598) (hr : r < 600) :
    tokW (F := Ideal) f (BitVec.ofNat 32 N) (BitVec.ofNat 32 r)
      = if r = N + 1 then 258#32 else if r = 0 then 257#32 else if r ≤ N then quantW (F := Ideal) f else 256#32 := by
  by_cases h0 : r = 0
  · subst h0
    rw [if_neg (by omega), if_pos rfl]
    unfold tokW
    rw [bosW_zero, lay_on]
  · unfold tokW
    rw [bosW_pos r (by omega) (by omega), lay_off]
    unfold bodyW
    by_cases he : r = N + 1
    · subst he
      rw [if_pos rfl, validW_zero N (N + 1) (by omega) (by omega), tailW_end N (by omega), body_out]
    · rw [if_neg he, if_neg h0]
      by_cases hv : r ≤ N
      · rw [if_pos hv, validW_one N r (by omega) hv, tailW_in N r (by omega) hv, body_in]
      · rw [if_neg hv, validW_zero N r (by omega) (by omega), tailW_past N r (by omega) (by omega), body_out]

end Cert.Proof.Run

end
-- ==== Proof.KerOut.lean ====
/-
  The kernel's tokens, element by element.
-/
module

public import proofs.«01_k».proof.Proof.KerVals
public import proofs.«01_k».proof.Proof.KerFeat
public import proofs.«01_k».proof.Proof.TokWord
public import Idealize.ShloMosaic.Lib.Pointwise
public import Idealize.ShloMosaic.Lib.WordArith

@[expose] public section

set_option maxRecDepth 16384

noncomputable section

namespace Cert.Proof.Run

open Cert.KernelIdeal Cert.KernelIdeal.Gen
open Idealize.ShloMosaic

/-- The batch a tile is in. -/
theorem kBatch_at (w : Fin 32) : kBatch (ix1 w) = BitVec.ofNat 32 (w.val / 8) := by
  pointwise [kBatch]
  revert w
  decide +kernel

theorem kLens_at (n : IVec S4 32) (w : Fin 32) (l : Fin 16) : kLens n (ix2 w l) = n (ix1 ⟨w.val / 8, by omega⟩) := by
  pointwise [kLens]
  unfold Host.gather
  refine congrArg n (funext fun a => Fin.ext ?_)
  show gather_S4_S32x1_S32_n_0_n_n_0_1_1.start (ix1 w) _ a + gather_S4_S32x1_S32_n_0_n_n_0_1_1.batchCoord (ix1 w) a
    + gather_S4_S32x1_S32_n_0_n_n_0_1_1.offCoord (ix1 w) a = _
  match a with
  | ⟨0, _⟩ =>
    have hs : gather_S4_S32x1_S32_n_0_n_n_0_1_1.start (ix1 w) (broadcastInDim S32x1 ![0] bcast_S32_S32x1_0 kBatch) 0 = w.val / 8 := by
      unfold GatherDims.start
      rw [dif_pos (by decide)]
      have hi : ∀ h, gather_S4_S32x1_S32_n_0_n_n_0_1_1.siIdx (ix1 w) ⟨0, h⟩ = ix2 w 0 := fun h => by
        funext q
        match q with
        | ⟨0, _⟩ => rfl
        | ⟨1, _⟩ => rfl
      have hv : (broadcastInDim S32x1 ![0] bcast_S32_S32x1_0 kBatch) (ix2 w 0) = BitVec.ofNat 32 (w.val / 8) := by
        pointwise [kBatch_at]
      refine (congrArg (fun z => min (BitVec.toInt z).toNat 3) ((congrArg _ (hi _)).trans hv)).trans ?_
      show min (BitVec.ofNat 32 (w.val / 8)).toInt.toNat 3 = _
      rw [WordArith.toInt_ofNat_small _ (by omega)]
      omega
    have ho : gather_S4_S32x1_S32_n_0_n_n_0_1_1.offCoord (ix1 w) 0 = 0 := by
      unfold GatherDims.offCoord
      rw [dif_neg (by decide)]
    exact congrArg₂ (fun p q => p + 0 + q) hs ho

theorem kFlat_at (g : FVec Ideal S2400x80 .f32) (j : Fin 192000) : kFlat g (ix1 j) = g (ix2 ⟨j.val / 80, by omega⟩ ⟨j.val % 80, by omega⟩) := by
  pointwise [kFlat]

theorem kOut_at (o : IVec S192000 32) (b : Fin 4) (r : Fin 600) (c : Fin 80) :
    kOut o (ix3 b r c) = o (ix1 ⟨b.val * 48000 + r.val * 80 + c.val, by omega⟩) := by
  pointwise [kOut]

theorem kOut_tok (fe : FVec Ideal S2400x80 .f32) (n : IVec S4 32) (b : Fin 4) (r : Fin 600) (c : Fin 80) :
    kOut (outVal (F := Ideal) (kFlat fe) (kLens n)) (ix3 b r c)
      = tokW (F := Ideal) (fe (ix2 ⟨b.val * 600 + r.val, by omega⟩ c)) (n (ix1 b)) (BitVec.ofNat 32 r.val) := by
  rw [kOut_at]
  have ht : (tileOf (ix1 (⟨b.val * 48000 + r.val * 80 + c.val, by omega⟩ : Fin 192000))).val = (b.val * 48000 + r.val * 80 + c.val) / 6000 := rfl
  unfold outVal
  rw [kFlat_at]
  have hf : (ix2 (⟨(b.val * 48000 + r.val * 80 + c.val) / 80, by omega⟩ : Fin 2400) (⟨(b.val * 48000 + r.val * 80 + c.val) % 80, by omega⟩ : Fin 80))
      = ix2 (⟨b.val * 600 + r.val, by omega⟩ : Fin 2400) c := by
    congr 1 <;> apply Fin.ext <;> dsimp only <;> omega
  have hl : ∀ p, kLens n (lenAt (tileOf (ix1 (⟨b.val * 48000 + r.val * 80 + c.val, by omega⟩ : Fin 192000))) p) = n (ix1 b) := fun p => by
    refine (kLens_at n _ _).trans (congrArg (fun k => n (ix1 k)) (Fin.ext ?_))
    show (tileOf (ix1 (⟨b.val * 48000 + r.val * 80 + c.val, by omega⟩ : Fin 192000))).val / 8 = b.val
    rw [ht]
    omega
  have hr : (tileOf (ix1 (⟨b.val * 48000 + r.val * 80 + c.val, by omega⟩ : Fin 192000))).val % 8 * 75
      + (b.val * 48000 + r.val * 80 + c.val) % 6000 / 80 = r.val := by
    rw [ht]
    omega
  rw [hl]
  exact congrArg₂ (fun f k => tokW (F := Ideal) (fe f) (n (ix1 b)) (BitVec.ofNat 32 k)) hf hr

end Cert.Proof.Run

end
-- ==== Proof.Level.lean ====
/-
  The level of a clipped feature, over the reals: the nearest code where no two neighbouring codes tie.
-/
module

public import Idealize.ShloMosaic.PureOps.Ideal
public import Idealize.ShloMosaic.Lib.IdealHost

@[expose] public section

noncomputable section

namespace Cert.Proof.Spec

open Idealize.ShloMosaic

/-- The step between codes. -/
def stepR : ℝ := 2368943 / 67108864

/-- The level of a clipped feature. -/
def level (y : ℝ) : ℤ := ⌊(y + 7) * (67108864 / 2368943) + 1 / 2⌋

theorem dist_scaled (y : ℝ) (j : ℕ) : |y - ((j : ℝ) * stepR - 7)| = |(y + 7) * (67108864 / 2368943) - j| * stepR := by
  have hs : (0 : ℝ) < stepR := by unfold stepR; norm_num
  rw [← abs_of_pos hs, ← abs_mul, abs_of_pos hs]
  congr 1
  unfold stepR
  ring

/-- The level is the one nearest code. -/
theorem nearest (y : ℝ) (h1 : -7 ≤ y) (h2 : y ≤ 2) (code : ℕ → ℝ) (hc : ∀ j < 256, code j = (j : ℝ) * stepR - 7)
    (h256 : code 256 = 4) (h257 : code 257 = 5) (ht : ∀ j < 255, |y - code j| ≠ |y - code (j + 1)|) :
    ∃ q : ℕ, q ≤ 255 ∧ level y = q ∧ ∀ j ≤ 257, j ≠ q → |y - code q| < |y - code j| := by
  have hs : (0 : ℝ) < stepR := by unfold stepR; norm_num
  obtain ⟨v, hv⟩ : ∃ v, v = (y + 7) * (67108864 / 2368943) := ⟨_, rfl⟩
  have hv0 : 0 ≤ v := by rw [hv]; apply mul_nonneg <;> [linarith; norm_num]
  have hv1 : v < 255 := by rw [hv]; linarith
  have hfl := Int.floor_le (v + 1 / 2)
  have hlt := Int.lt_floor_add_one (v + 1 / 2)
  have hq0 : 0 ≤ ⌊v + 1 / 2⌋ := Int.floor_nonneg.2 (by linarith)
  obtain ⟨q, hq⟩ := Int.eq_ofNat_of_zero_le hq0
  have hlev : level y = q := by unfold level; rw [← hv]; exact hq
  rw [hq] at hfl hlt
  have hfl' : (q : ℝ) ≤ v + 1 / 2 := by exact_mod_cast hfl
  have hlt' : v + 1 / 2 < (q : ℝ) + 1 := by exact_mod_cast hlt
  have hq255 : q ≤ 255 := by
    have : (q : ℝ) < 256 := by linarith
    have : q < 256 := by exact_mod_cast this
    omega
  have hd : ∀ j < 256, |y - code j| = |v - j| * stepR := fun j hj => by rw [hc j hj, dist_scaled, hv]
  -- the nearest code is less than half a step away
  have hhalf : |v - q| < 1 / 2 := by
    rcases lt_or_eq_of_le hfl' with h | h
    · rw [abs_lt]; constructor <;> linarith
    · exfalso
      have hqpos : 1 ≤ q := by
        rcases Nat.eq_zero_or_pos q with h0 | h0
        · rw [h0] at h; push_cast at h; linarith
        · exact h0
      obtain ⟨p, rfl⟩ := Nat.exists_eq_add_of_le' hqpos
      refine ht p (by omega) ?_
      rw [hd p (by omega), hd (p + 1) (by omega)]
      push_cast at h ⊢
      rw [abs_of_nonneg (by linarith), abs_of_nonpos (by linarith)]
      congr 1
      linarith
  have hqd : |y - code q| < stepR / 2 := by
    rw [hd q (by omega)]
    calc |v - q| * stepR < 1 / 2 * stepR := mul_lt_mul_of_pos_right hhalf hs
      _ = stepR / 2 := by ring
  have hst : stepR / 2 < 2 := by unfold stepR; norm_num
  refine ⟨q, hq255, hlev, fun j hj hne => ?_⟩
  rcases Nat.lt_or_ge j 256 with hj' | hj'
  · refine lt_of_lt_of_le hqd ?_
    rw [hd j hj']
    have hfar : 1 / 2 ≤ |v - j| := by
      have hab := abs_lt.1 hhalf
      rcases Nat.lt_or_gt_of_ne hne with h | h
      · have : (j : ℝ) + 1 ≤ q := by exact_mod_cast h
        refine le_trans ?_ (le_abs_self _)
        linarith [hab.1]
      · have : (q : ℝ) + 1 ≤ j := by exact_mod_cast h
        refine le_trans ?_ (neg_le_abs _)
        linarith [hab.2]
    calc stepR / 2 = 1 / 2 * stepR := by ring
      _ ≤ |v - j| * stepR := mul_le_mul_of_nonneg_right hfar hs.le
  · refine lt_trans hqd ?_
    obtain rfl | rfl : j = 256 ∨ j = 257 := by omega
    · rw [h256]
      refine lt_of_lt_of_le hst (le_trans ?_ (neg_le_abs _))
      linarith
    · rw [h257]
      refine lt_of_lt_of_le hst (le_trans ?_ (neg_le_abs _))
      linarith

/-! ## The constants -/

theorem ofBits_half : Ideal.ofBits .f32 0x3F000000#32 = (((1 : ℝ) / 2 : ℝ) : EReal) := by
  simp [Ideal.ofBits, Ideal.ieee, -EReal.coe_mul]; norm_num
theorem ofBits_min : Ideal.ofBits .f32 0xC0E00000#32 = ((-(7 : ℝ)) : EReal) := by
  simp [Ideal.ofBits, Ideal.ieee, -EReal.coe_mul, -EReal.coe_neg]; norm_num
theorem ofBits_max : Ideal.ofBits .f32 0x40000000#32 = ((2 : ℝ) : EReal) := by
  simp [Ideal.ofBits, Ideal.ieee, -EReal.coe_mul]; norm_num
theorem ofBits_three : Ideal.ofBits .f32 0x40400000#32 = ((3 : ℝ) : EReal) := by
  simp [Ideal.ofBits, Ideal.ieee, -EReal.coe_mul]; norm_num
theorem ofBits_four : Ideal.ofBits .f32 0x40800000#32 = ((4 : ℝ) : EReal) := by
  simp [Ideal.ofBits, Ideal.ieee, -EReal.coe_mul]; norm_num
theorem ofBits_five : Ideal.ofBits .f32 0x40A00000#32 = ((5 : ℝ) : EReal) := by
  simp [Ideal.ofBits, Ideal.ieee, -EReal.coe_mul]; norm_num
theorem ofBits_step : Ideal.ofBits .f32 0x3D1096BC#32 = ((stepR : ℝ) : EReal) := by
  simp [Ideal.ofBits, Ideal.ieee, -EReal.coe_mul, stepR]; norm_num
theorem ofBits_inf : Ideal.ofBits .f32 0x7F800000#32 = ⊤ := by
  simp [Ideal.ofBits, Ideal.ieee]

/-- A feature clipped to the codes' range. -/
def clip (f : EReal) : EReal := min (max f ((-(7 : ℝ)) : EReal)) ((2 : ℝ) : EReal)

theorem clip_real (f : EReal) : ∃ y : ℝ, clip f = (y : EReal) ∧ -7 ≤ y ∧ y ≤ 2 := by
  have h1 : ((-7 : ℝ) : EReal) ≤ clip f := le_min (le_max_right _ _) (EReal.coe_le_coe_iff.2 (by norm_num))
  have h2 : clip f ≤ ((2 : ℝ) : EReal) := min_le_right _ _
  generalize clip f = y at h1 h2
  induction y using EReal.rec with
  | bot => exact absurd h1 (by simp)
  | top => exact absurd h2 (by simp)
  | coe y => exact ⟨y, rfl, EReal.coe_le_coe_iff.1 h1, EReal.coe_le_coe_iff.1 h2⟩

end Cert.Proof.Spec

end
-- ==== Proof.KerQuant.lean ====
/-
  The kernel's level of a feature: the level of the clipped feature.
-/
module

public import proofs.«01_k».proof.Proof.Tok
public import proofs.«01_k».proof.Proof.Level

@[expose] public section

noncomputable section

namespace Cert.Proof.Run

open Cert.KernelIdeal Cert.KernelIdeal.Gen
open Idealize.ShloMosaic

theorem named_inv : (Named.named (F := Ideal) κ "inv_step" (φ := .f32) 0x41E2A0FF#32 : EReal) = ((67108864 / 2368943 : ℝ) : EReal) := by
  rfl

theorem quantW_eq (f : EReal) (y : ℝ) (hy : Spec.clip f = (y : EReal)) (q : ℕ) (hq : q ≤ 255) (hl : Spec.level y = q) :
    quantW (F := Ideal) f = BitVec.ofNat 32 q := by
  have e : (FloatOps.addf (F := Ideal) (φ := .f32) (FloatOps.mulf
      (FloatOps.subf (FloatOps.minimumf (FloatOps.maximumf f (Scalar.ofBits .f32 0xC0E00000#32)) (Scalar.ofBits .f32 0x40000000#32)) (Scalar.ofBits .f32 0xC0E00000#32))
      (Named.named κ "inv_step" 0x41E2A0FF#32)) (Scalar.ofBits .f32 0x3F000000#32) : EReal)
      = (((y + 7) * (67108864 / 2368943) + 1 / 2 : ℝ) : EReal) := by
    show (min (max f (Ideal.ofBits .f32 0xC0E00000#32)) (Ideal.ofBits .f32 0x40000000#32) - Ideal.ofBits .f32 0xC0E00000#32)
      * (Named.named (F := Ideal) κ "inv_step" (φ := .f32) 0x41E2A0FF#32 : EReal) + Ideal.ofBits .f32 0x3F000000#32 = _
    rw [named_inv, Spec.ofBits_half, Spec.ofBits_min, Spec.ofBits_max]
    show (Spec.clip f - _) * _ + _ = _
    rw [hy, sub_eq_add_neg, neg_neg]
    norm_cast
  unfold quantW
  rw [e]
  have hfl : ⌊(y + 7) * (67108864 / 2368943) + 1 / 2⌋ = (q : ℤ) := hl
  have hnn : (0 : ℝ) ≤ (y + 7) * (67108864 / 2368943) + 1 / 2 := by
    have : (0 : ℤ) ≤ ⌊(y + 7) * (67108864 / 2368943) + 1 / 2⌋ := by rw [hfl]; exact Int.natCast_nonneg q
    exact le_trans (by exact_mod_cast this) (Int.floor_le _)
  have ef : FloatOps.fptosi (F := Ideal) (φ := .f32) 32 (((y + 7) * (67108864 / 2368943) + 1 / 2 : ℝ) : EReal) = BitVec.ofNat 32 q := by
    show BitVec.ofInt 32 (Ideal.toIntClamped _ _ _) = _
    rw [Ideal.toIntClamped_coe, if_pos hnn, hfl]
    have : max (-((2 ^ (32 - 1) : ℕ) : ℤ)) (min (((2 ^ (32 - 1) : ℕ) : ℤ) - 1) (q : ℤ)) = (q : ℤ) := by
      norm_num
      omega
    rw [this]
    rfl
  rw [ef]
  have hs : ∀ k : Fin 256, IntOp.minsi (BitVec.ofNat 32 k.val) 255#32 = BitVec.ofNat 32 k.val := by decide +kernel
  exact hs ⟨q, by omega⟩

end Cert.Proof.Run

end
-- ==== Proof.RefVals.lean ====
/-
  What the reference's steps compute, each a function of the arguments: the frames, the transform, the features, the nearest
  code, the marked rows.
-/
module

public import proofs.«01_k».proof.Proof.RefRun
public import Idealize.ShloMosaic.PureOps.Ideal

@[expose] public section

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo

/-- The sample each frame's each place reads. -/
def rIdx : IVec S598x400 32 :=
  (select (cmpi .slt (addi (broadcastInDim S598x400 ![0, 1] bcast_S598x1_S598x400_0_1 (muli (broadcastInDim S598x1 ![0] bcast_S598_S598x1_0 (iotaInDim S598 32 0)) (broadcastInDim S598x1 ![] bcast_S_S598x1 (constantI S_ 32 160#32)))) (broadcastInDim S598x400 ![0, 1] bcast_S1x400_S598x400_0_1 (broadcastInDim S1x400 ![1] bcast_S400_S1x400_1 (iotaInDim S400 32 0)))) (broadcastInDim S598x400 ![] bcast_S_S598x400 (constantI S_ 32 0#32))) (addi (addi (broadcastInDim S598x400 ![0, 1] bcast_S598x1_S598x400_0_1 (muli (broadcastInDim S598x1 ![0] bcast_S598_S598x1_0 (iotaInDim S598 32 0)) (broadcastInDim S598x1 ![] bcast_S_S598x1 (constantI S_ 32 160#32)))) (broadcastInDim S598x400 ![0, 1] bcast_S1x400_S598x400_0_1 (broadcastInDim S1x400 ![1] bcast_S400_S1x400_1 (iotaInDim S400 32 0)))) (broadcastInDim S598x400 ![] bcast_S_S598x400 (constantI S_ 32 96000#32))) (addi (broadcastInDim S598x400 ![0, 1] bcast_S598x1_S598x400_0_1 (muli (broadcastInDim S598x1 ![0] bcast_S598_S598x1_0 (iotaInDim S598 32 0)) (broadcastInDim S598x1 ![] bcast_S_S598x1 (constantI S_ 32 160#32)))) (broadcastInDim S598x400 ![0, 1] bcast_S1x400_S598x400_0_1 (broadcastInDim S1x400 ![1] bcast_S400_S1x400_1 (iotaInDim S400 32 0)))))

/-- The overlapping frames. -/
def rFrames (x : FVec Ideal S4x96000 .f32) : FVec Ideal S4x598x400 .f32 :=
  (Host.gather gather_S4x96000_S598x400x1_S4x598x400_0_1_n_n_1_2_41 x (broadcastInDim S598x400x1 ![0, 1] bcast_S598x400_S598x400x1_0_1 rIdx))

/-- The Hann window. -/
def rWin : FVec Ideal S400 .f32 :=
  (subf (broadcastInDim S400 ![] bcast_S_S400 (constant (F := Ideal) S_ .f32 0x3F000000#32)) (mulf (broadcastInDim S400 ![] bcast_S_S400 (constant (F := Ideal) S_ .f32 0x3F000000#32)) (Host.cos (Host.divf (mulf (broadcastInDim S400 ![] bcast_S_S400 (constant (F := Ideal) S_ .f32 0x40C90FDB#32)) (sitofp .f32 (iotaInDim S400 32 0))) (broadcastInDim S400 ![] bcast_S_S400 (constant (F := Ideal) S_ .f32 0x43C78000#32))))))

/-- The angle of sample and frequency. -/
def rAng : FVec Ideal S400x201 .f32 :=
  (Host.divf (mulf (broadcastInDim S400x201 ![] bcast_S_S400x201 (constant (F := Ideal) S_ .f32 0x40C90FDB#32)) (sitofp .f32 (muli (broadcastInDim S400x201 ![0, 1] bcast_S400x1_S400x201_0_1 (broadcastInDim S400x1 ![0] bcast_S400_S400x1_0 (iotaInDim S400 32 0))) (broadcastInDim S400x201 ![0, 1] bcast_S1x201_S400x201_0_1 (broadcastInDim S1x201 ![1] bcast_S201_S1x201_1 (iotaInDim S201 32 0)))))) (broadcastInDim S400x201 ![] bcast_S_S400x201 (constant (F := Ideal) S_ .f32 0x43C80000#32)))

/-- The windowed frames. -/
def rFw (x : FVec Ideal S4x96000 .f32) : FVec Ideal S4x598x400 .f32 :=
  (mulf (rFrames x) (broadcastInDim S4x598x400 ![0, 1, 2] bcast_S1x1x400_S4x598x400_0_1_2 (broadcastInDim S1x1x400 ![2] bcast_S400_S1x1x400_2 rWin)))

/-- The transform's real part. -/
def rRe (x : FVec Ideal S4x96000 .f32) : FVec Ideal S4x598x201 .f32 :=
  (Host.reduceAdd (mulf (broadcastInDim S4x598x400x201 ![0, 1, 2, 3] bcast_S4x598x400x1_S4x598x400x201_0_1_2_3 (broadcastInDim S4x598x400x1 ![0, 1, 2] bcast_S4x598x400_S4x598x400x1_0_1_2 (rFw x))) (broadcastInDim S4x598x400x201 ![0, 1, 2, 3] bcast_S1x1x400x201_S4x598x400x201_0_1_2_3 (broadcastInDim S1x1x400x201 ![2, 3] bcast_S400x201_S1x1x400x201_2_3 (Host.cos rAng)))) (constant (F := Ideal) S_ .f32 0x00000000#32) reducesTo_S4x598x400x201_S4x598x201_d2 h_S_)

/-- The transform's imaginary part. -/
def rIm (x : FVec Ideal S4x96000 .f32) : FVec Ideal S4x598x201 .f32 :=
  (Host.reduceAdd (mulf (broadcastInDim S4x598x400x201 ![0, 1, 2, 3] bcast_S4x598x400x1_S4x598x400x201_0_1_2_3 (broadcastInDim S4x598x400x1 ![0, 1, 2] bcast_S4x598x400_S4x598x400x1_0_1_2 (rFw x))) (broadcastInDim S4x598x400x201 ![0, 1, 2, 3] bcast_S1x1x400x201_S4x598x400x201_0_1_2_3 (broadcastInDim S1x1x400x201 ![2, 3] bcast_S400x201_S1x1x400x201_2_3 (Host.negf (Host.sin rAng))))) (constant (F := Ideal) S_ .f32 0x00000000#32) reducesTo_S4x598x400x201_S4x598x201_d2 h_S_)

/-- The power. -/
def rPow (x : FVec Ideal S4x96000 .f32) : FVec Ideal S4x598x201 .f32 :=
  (addf (mulf (rRe x) (rRe x)) (mulf (rIm x) (rIm x)))

/-- The log-mel features. -/
def rFeat (x : FVec Ideal S4x96000 .f32) (mw : FVec Ideal S80x201 .f32) : FVec Ideal S4x598x80 .f32 :=
  (Host.log (addf (Host.dotGeneral dot_S4x598x201_S201x80_S4x598x80_2_0_01_1_n_n none (rPow x) (transpose S201x80 [1, 0] mw transposes_S80x201_S201x80_1_0)) (broadcastInDim S4x598x80 ![] bcast_S_S4x598x80 (constant (F := Ideal) S_ .f32 0x2EDBE6FF#32))))

/-- The number of frames. -/
def rLen (le : IVec S4 32) : IVec S4 32 :=
  (addi (broadcastInDim S4 ![] bcast_S_S4 (constantI S_ 32 1#32)) (select (andi (cmpi .ne (signi (subi le (broadcastInDim S4 ![] bcast_S_S4 (constantI S_ 32 400#32)))) (broadcastInDim S4 ![] bcast_S_S4 (signi (constantI S_ 32 160#32)))) (cmpi .ne (Host.remsi (subi le (broadcastInDim S4 ![] bcast_S_S4 (constantI S_ 32 400#32))) (broadcastInDim S4 ![] bcast_S_S4 (constantI S_ 32 160#32))) (broadcastInDim S4 ![] bcast_S_S4 (constantI S_ 32 0#32)))) (subi (Host.divsi (subi le (broadcastInDim S4 ![] bcast_S_S4 (constantI S_ 32 400#32))) (broadcastInDim S4 ![] bcast_S_S4 (constantI S_ 32 160#32))) (broadcastInDim S4 ![] bcast_S_S4 (constantI S_ 32 1#32))) (Host.divsi (subi le (broadcastInDim S4 ![] bcast_S_S4 (constantI S_ 32 400#32))) (broadcastInDim S4 ![] bcast_S_S4 (constantI S_ 32 160#32)))))

/-- The features, clipped from above. -/
def rTop (x : FVec Ideal S4x96000 .f32) (mw : FVec Ideal S80x201 .f32) : FVec Ideal S4x598x80 .f32 :=
  (select (cmpf .ogt (rFeat x mw) (broadcastInDim S4x598x80 ![] bcast_S_S4x598x80 (constant (F := Ideal) S_ .f32 0x40000000#32))) (broadcastInDim S4x598x80 ![] bcast_S_S4x598x80 (constant (F := Ideal) S_ .f32 0x40000000#32)) (rFeat x mw))

/-- The clipped features. -/
def rClip (x : FVec Ideal S4x96000 .f32) (mw : FVec Ideal S80x201 .f32) : FVec Ideal S4x598x80 .f32 :=
  (select (andi (cmpf .olt (rTop x mw) (broadcastInDim S4x598x80 ![] bcast_S_S4x598x80 (constant (F := Ideal) S_ .f32 0xC0E00000#32))) (cmpf .une (rTop x mw) (broadcastInDim S4x598x80 ![] bcast_S_S4x598x80 (constant (F := Ideal) S_ .f32 0x40400000#32)))) (broadcastInDim S4x598x80 ![] bcast_S_S4x598x80 (constant (F := Ideal) S_ .f32 0xC0E00000#32)) (rTop x mw))

/-- The distance from each code. -/
def rDist (x : FVec Ideal S4x96000 .f32) (mw : FVec Ideal S80x201 .f32) (dm : FVec Ideal S80x258 .f32) : FVec Ideal S4x598x80x258 .f32 :=
  (Host.absf (subf (broadcastInDim S4x598x80x258 ![0, 1, 2, 3] bcast_S4x598x80x1_S4x598x80x258_0_1_2_3 (broadcastInDim S4x598x80x1 ![0, 1, 2] bcast_S4x598x80_S4x598x80x1_0_1_2 (rClip x mw))) (broadcastInDim S4x598x80x258 ![0, 1, 2, 3] bcast_S1x1x80x258_S4x598x80x258_0_1_2_3 (broadcastInDim S1x1x80x258 ![2, 3] bcast_S80x258_S1x1x80x258_2_3 dm))))

/-- The nearest code. -/
def rTok (x : FVec Ideal S4x96000 .f32) (mw : FVec Ideal S80x201 .f32) (dm : FVec Ideal S80x258 .f32) : IVec S4x598x80 32 :=
  (fun j => (Host.argReduce reducer_argmin_f32_i32 (rDist x mw dm) (iotaInDim S4x598x80x258 32 3) (constant (F := Ideal) S_ .f32 0x7F800000#32) (constantI S_ 32 0#32) reducesTo_S4x598x80x258_S4x598x80_d3 h_S_ j).2)

/-- The padding, under a row of begin marks. -/
def rOut0 : IVec S4x600x80 32 :=
  (Host.scatter scatter_S4x600x80_S1_S4x80_01_1_1_0 (fun _ b => b) (broadcastInDim S4x600x80 ![] bcast_S_S4x600x80 (constantI S_ 32 256#32)) (broadcastInDim S1 ![] bcast_S_S1 (constantI S_ 32 0#32)) (broadcastInDim S4x80 ![] bcast_S_S4x80 (constantI S_ 32 257#32)))

/-- The rows of codes, padded past the length. -/
def rRows (x : FVec Ideal S4x96000 .f32) (le : IVec S4 32) (mw : FVec Ideal S80x201 .f32) (dm : FVec Ideal S80x258 .f32) : IVec S4x598x80 32 :=
  (select (broadcastInDim S4x598x80 ![0, 1, 2] bcast_S4x598x1_S4x598x80_0_1_2 (cmpi .slt (broadcastInDim S4x598x1 ![0, 1, 2] bcast_S1x598x1_S4x598x1_0_1_2 (broadcastInDim S1x598x1 ![1] bcast_S598_S1x598x1_1 (iotaInDim S598 32 0))) (broadcastInDim S4x598x1 ![0, 1, 2] bcast_S4x1x1_S4x598x1_0_1_2 (broadcastInDim S4x1x1 ![0] bcast_S4_S4x1x1_0 (rLen le))))) (rTok x mw dm) (broadcastInDim S4x598x80 ![] bcast_S_S4x598x80 (constantI S_ 32 256#32)))

/-- The same with the rows of codes laid in. -/
def rOut1 (x : FVec Ideal S4x96000 .f32) (le : IVec S4 32) (mw : FVec Ideal S80x201 .f32) (dm : FVec Ideal S80x258 .f32) : IVec S4x600x80 32 :=
  (Host.scatter scatter_S4x600x80_S1_S4x598x80_012_n_1_0 (fun _ b => b) rOut0 (broadcastInDim S1 ![] bcast_S_S1 (constantI S_ 32 1#32)) (rRows x le mw dm))

/-- Where the end marks go: each batch with the row after its last. -/
def rAt (le : IVec S4 32) : IVec S4x2 32 :=
  (fn_main_v113 (F := Ideal) (broadcastInDim S4x1 ![0] bcast_S4_S4x1_0 (select (cmpi .slt (iotaInDim S4 32 0) (broadcastInDim S4 ![] bcast_S_S4 (constantI S_ 32 0#32))) (addi (iotaInDim S4 32 0) (broadcastInDim S4 ![] bcast_S_S4 (constantI S_ 32 4#32))) (iotaInDim S4 32 0))) (broadcastInDim S4x1 ![0] bcast_S4_S4x1_0 (select (cmpi .slt (addi (rLen le) (broadcastInDim S4 ![] bcast_S_S4 (constantI S_ 32 1#32))) (broadcastInDim S4 ![] bcast_S_S4 (constantI S_ 32 0#32))) (addi (addi (rLen le) (broadcastInDim S4 ![] bcast_S_S4 (constantI S_ 32 1#32))) (broadcastInDim S4 ![] bcast_S_S4 (constantI S_ 32 600#32))) (addi (rLen le) (broadcastInDim S4 ![] bcast_S_S4 (constantI S_ 32 1#32))))))

/-- The tokens. -/
def rOut (x : FVec Ideal S4x96000 .f32) (le : IVec S4 32) (mw : FVec Ideal S80x201 .f32) (dm : FVec Ideal S80x258 .f32) : IVec S4x600x80 32 :=
  (Host.scatter scatter_S4x600x80_S4x2_S4x80_1_01_01_1 (fun _ b => b) (rOut1 x le mw dm) (rAt le) (broadcastInDim S4x80 ![] bcast_S_S4x80 (constantI S_ 32 258#32)))

/-- The lengths with the two marks. -/
def rLen2 (le : IVec S4 32) : IVec S4 32 :=
  (addi (rLen le) (broadcastInDim S4 ![] bcast_S_S4 (constantI S_ 32 2#32)))

/-- The run's first result is `rOut` of the arguments. -/
theorem res_eq (m : (ℓ : Loc nD τ sig) → Buf (Elt Ideal) ℓ) (c : Dev nD) :
    res_main_v115 m c = rOut (m ((c.tc : Thread nD τ).loc main_arg0)) (m ((c.tc : Thread nD τ).loc main_arg1)) (m ((c.tc : Thread nD τ).loc main_arg2)) (m ((c.tc : Thread nD τ).loc main_arg3)) := rfl

end Cert.ReferenceIdeal.Value

end
-- ==== Proof.RefFeat.lean ====
/-
  The reference's features: the feature of one frame.
-/
module

public import proofs.«01_k».proof.Proof.RefVals
public import proofs.«01_k».proof.Proof.Spec
public import Idealize.ShloMosaic.Lib.Pointwise
public import Idealize.ShloMosaic.Lib.WordCmp
public import Idealize.ShloMosaic.Lib.Routing.OpsSet

@[expose] public section

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo

theorem rIdx_at (t : Fin 598) (n : Fin 400) : rIdx (ix2 t n) = BitVec.ofNat 32 (t.val * 160 + n.val) := by
  pointwise [rIdx]
  have e : IntOp.addi (IntOp.muli (BitVec.ofNat 32 t.val) 160#32) (BitVec.ofNat 32 n.val) = BitVec.ofNat 32 (t.val * 160 + n.val) := by
    show BitVec.ofNat 32 t.val * BitVec.ofNat 32 160 + BitVec.ofNat 32 n.val = _
    rw [← BitVec.ofNat_mul, ← BitVec.ofNat_add]
  rw [e]
  have h : (BitVec.ofNat 32 (t.val * 160 + n.val)).toNat < 2 ^ 31 := by
    rw [BitVec.toNat_ofNat, Nat.mod_eq_of_lt (by omega)]; omega
  rw [WordCmp.cmpi_slt_zero, WordCmp.select_decide, if_neg (Nat.not_le.2 h)]

theorem rFrames_at (x : FVec Ideal S4x96000 .f32) (b : Fin 4) (t : Fin 598) (n : Fin 400) :
    rFrames x (ix3 b t n) = x (ix2 b ⟨t.val * 160 + n.val, by omega⟩) := by
  unfold rFrames Host.gather
  refine congrArg x (funext fun a => Fin.ext ?_)
  show gather_S4x96000_S598x400x1_S4x598x400_0_1_n_n_1_2_41.start (ix3 b t n) _ a
    + gather_S4x96000_S598x400x1_S4x598x400_0_1_n_n_1_2_41.batchCoord (ix3 b t n) a
    + gather_S4x96000_S598x400x1_S4x598x400_0_1_n_n_1_2_41.offCoord (ix3 b t n) a = _
  match a with
  | ⟨0, _⟩ =>
    have hs : gather_S4x96000_S598x400x1_S4x598x400_0_1_n_n_1_2_41.start (ix3 b t n)
        (broadcastInDim S598x400x1 ![0, 1] bcast_S598x400_S598x400x1_0_1 rIdx) 0 = 0 := by
      unfold GatherDims.start
      rw [dif_neg (by decide)]
    have ho : gather_S4x96000_S598x400x1_S4x598x400_0_1_n_n_1_2_41.offCoord (ix3 b t n) 0 = b.val := by
      unfold GatherDims.offCoord
      rw [dif_pos (by decide)]
      rfl
    exact (congrArg₂ (fun p q => p + 0 + q) hs ho).trans (Nat.zero_add _)
  | ⟨1, _⟩ =>
    have hs : gather_S4x96000_S598x400x1_S4x598x400_0_1_n_n_1_2_41.start (ix3 b t n)
        (broadcastInDim S598x400x1 ![0, 1] bcast_S598x400_S598x400x1_0_1 rIdx) 1 = t.val * 160 + n.val := by
      unfold GatherDims.start
      rw [dif_pos (by decide)]
      have hi : ∀ h, gather_S4x96000_S598x400x1_S4x598x400_0_1_n_n_1_2_41.siIdx (ix3 b t n) ⟨0, h⟩ = ix3 t n 0 := fun h => by
        funext q
        match q with
        | ⟨0, _⟩ => rfl
        | ⟨1, _⟩ => rfl
        | ⟨2, _⟩ => rfl
      have hv : (broadcastInDim S598x400x1 ![0, 1] bcast_S598x400_S598x400x1_0_1 rIdx) (ix3 t n 0) = BitVec.ofNat 32 (t.val * 160 + n.val) := by
        pointwise [rIdx_at]
      refine (congrArg (fun i => min ((broadcastInDim S598x400x1 ![0, 1] bcast_S598x400_S598x400x1_0_1 rIdx) i).toInt.toNat (96000 - 1)) (hi _)).trans ?_
      rw [hv, Idealize.ShloMosaic.StableHlo.Predicate.toInt_ofNat_small _ (by omega)]
      show min (t.val * 160 + n.val) _ = _
      omega
    exact congrArg (· + 0 + 0) hs

/-- A sum of windowed products is the inner product with the windowed table. -/
theorem ip_win (X : Fin 400 → EReal) (T : Nat → EReal) :
    ∑ n : Fin 400, X n * Cert.Proof.Spec.win n.val * T n.val = Cert.Proof.Spec.ip X (fun n => T n * Cert.Proof.Spec.win n) :=
  Finset.sum_congr rfl fun n _ => by rw [mul_assoc, mul_comm (Cert.Proof.Spec.win n.val)]

theorem rWin_at (n : Fin 400) : rWin (ix1 n) = Cert.Proof.Spec.win n.val := by
  pointwise [rWin]
  rw [mul_comm (Ideal.ofBits FTy.f32 1086918619#32)]
  rfl

theorem rAng_at (n : Fin 400) (k : Fin 201) : rAng (ix2 n k) = Cert.Proof.Spec.ang n.val k.val := by
  pointwise [rAng]
  rw [mul_comm (Ideal.ofBits FTy.f32 1086918619#32)]
  rfl

theorem rRe_at (x : FVec Ideal S4x96000 .f32) (b : Fin 4) (t : Fin 598) (k : Fin 201) :
    rRe x (ix3 b t k) = Cert.Proof.Spec.ip (fun n => x (ix2 b ⟨t.val * 160 + n.val, by omega⟩)) (Cert.Proof.Spec.cosW · k.val) := by
  refine Eq.trans ?_ (ip_win _ (fun n => Ideal.cos (Cert.Proof.Spec.ang n k.val)))
  pointwise [rRe, rFw, rFrames_at, rWin_at, rAng_at]

theorem rIm_at (x : FVec Ideal S4x96000 .f32) (b : Fin 4) (t : Fin 598) (k : Fin 201) :
    rIm x (ix3 b t k) = Cert.Proof.Spec.ip (fun n => x (ix2 b ⟨t.val * 160 + n.val, by omega⟩)) (Cert.Proof.Spec.sinW · k.val) := by
  refine Eq.trans ?_ (ip_win _ (fun n => -Ideal.sin (Cert.Proof.Spec.ang n k.val)))
  pointwise [rIm, rFw, rFrames_at, rWin_at, rAng_at]

/-- The reference's feature of frame `t` of batch `b`. -/
theorem rFeat_at (x : FVec Ideal S4x96000 .f32) (mw : FVec Ideal S80x201 .f32) (b : Fin 4) (t : Fin 598) (c : Fin 80) :
    rFeat x mw (ix3 b t c) = Cert.Proof.Spec.feat (fun n => x (ix2 b ⟨t.val * 160 + n.val, by omega⟩)) (fun k => mw (ix2 c k)) := by
  pointwise [rFeat, rPow, rRe_at, rIm_at]
  rfl

end Cert.ReferenceIdeal.Value

end
-- ==== Proof.RefRows.lean ====
/-
  The reference's rows: begin marks, codes, end marks and padding, where each batch's length is small enough.
-/
module

public import proofs.«01_k».proof.Proof.RefVals
public import Idealize.ShloMosaic.Lib.Pointwise
public import Idealize.ShloMosaic.Lib.WordCmp
public import Idealize.ShloMosaic.Lib.Routing.OpsSet

@[expose] public section

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo

/-! ## Where the updates of the three scatters land -/

theorem sum3 {s si u : Shape} {w : Nat} (d : ScatterDims s si u) (k : u.Idx) (idx : IVec si w) (a : Fin s.rank) (p : Int) (q : Nat)
    (hp : d.start k idx a = p) (hq : d.window k a = q) : d.start k idx a + (d.window k a : Int) = p + (q : Int) := by rw [hp, hq]

theorem lands_bos (a : Fin 4) (e : Fin 80) (idx : IVec S1 32) (b : Fin 4) (r : Fin 600) (c : Fin 80) :
    scatter_S4x600x80_S1_S4x80_01_1_1_0.resultIdx? (ix2 a e) idx = some (ix3 b r c)
      ↔ a.val = b.val ∧ (idx (ix1 0)).toInt = r.val ∧ e.val = c.val := by
  have s0 : scatter_S4x600x80_S1_S4x80_01_1_1_0.start (ix2 a e) idx 0 = 0 := by
    unfold ScatterDims.start
    rw [dif_neg (by decide)]
  have s1 : scatter_S4x600x80_S1_S4x80_01_1_1_0.start (ix2 a e) idx 1 = (idx (ix1 0)).toInt := by
    unfold ScatterDims.start
    rw [dif_pos (by decide)]
    refine congrArg (fun i => (idx i).toInt) (funext fun b => ?_)
    match b with
    | ⟨0, _⟩ => rfl
  have s2 : scatter_S4x600x80_S1_S4x80_01_1_1_0.start (ix2 a e) idx 2 = 0 := by
    unfold ScatterDims.start
    rw [dif_neg (by decide)]
  have e0 := sum3 _ (ix2 a e) idx 0 _ a.val s0 rfl
  have e1 := sum3 _ (ix2 a e) idx 1 _ 0 s1 rfl
  have e2 := sum3 _ (ix2 a e) idx 2 _ e.val s2 rfl
  rw [Routing.resultIdx?_eq_some]
  constructor
  · intro h
    have h0 : (0 : Int) + (a.val : Int) = b.val := e0.symm.trans (h 0)
    have h1 : (idx (ix1 0)).toInt + ((0 : Nat) : Int) = r.val := e1.symm.trans (h 1)
    have h2 : (0 : Int) + (e.val : Int) = c.val := e2.symm.trans (h 2)
    omega
  · intro h q
    match q with
    | ⟨0, _⟩ => exact e0.trans (show (0 : Int) + (a.val : Int) = b.val by omega)
    | ⟨1, _⟩ => exact e1.trans (show (idx (ix1 0)).toInt + ((0 : Nat) : Int) = r.val by omega)
    | ⟨2, _⟩ => exact e2.trans (show (0 : Int) + (e.val : Int) = c.val by omega)

theorem lands_rows (a : Fin 4) (t : Fin 598) (e : Fin 80) (idx : IVec S1 32) (b : Fin 4) (r : Fin 600) (c : Fin 80) :
    scatter_S4x600x80_S1_S4x598x80_012_n_1_0.resultIdx? (ix3 a t e) idx = some (ix3 b r c)
      ↔ a.val = b.val ∧ (idx (ix1 0)).toInt + t.val = r.val ∧ e.val = c.val := by
  have s0 : scatter_S4x600x80_S1_S4x598x80_012_n_1_0.start (ix3 a t e) idx 0 = 0 := by
    unfold ScatterDims.start
    rw [dif_neg (by decide)]
  have s1 : scatter_S4x600x80_S1_S4x598x80_012_n_1_0.start (ix3 a t e) idx 1 = (idx (ix1 0)).toInt := by
    unfold ScatterDims.start
    rw [dif_pos (by decide)]
    refine congrArg (fun i => (idx i).toInt) (funext fun b => ?_)
    match b with
    | ⟨0, _⟩ => rfl
  have s2 : scatter_S4x600x80_S1_S4x598x80_012_n_1_0.start (ix3 a t e) idx 2 = 0 := by
    unfold ScatterDims.start
    rw [dif_neg (by decide)]
  have e0 := sum3 _ (ix3 a t e) idx 0 _ a.val s0 rfl
  have e1 := sum3 _ (ix3 a t e) idx 1 _ t.val s1 rfl
  have e2 := sum3 _ (ix3 a t e) idx 2 _ e.val s2 rfl
  rw [Routing.resultIdx?_eq_some]
  constructor
  · intro h
    have h0 : (0 : Int) + (a.val : Int) = b.val := e0.symm.trans (h 0)
    have h1 : (idx (ix1 0)).toInt + (t.val : Int) = r.val := e1.symm.trans (h 1)
    have h2 : (0 : Int) + (e.val : Int) = c.val := e2.symm.trans (h 2)
    omega
  · intro h q
    match q with
    | ⟨0, _⟩ => exact e0.trans (show (0 : Int) + (a.val : Int) = b.val by omega)
    | ⟨1, _⟩ => exact e1.trans (show (idx (ix1 0)).toInt + (t.val : Int) = r.val by omega)
    | ⟨2, _⟩ => exact e2.trans (show (0 : Int) + (e.val : Int) = c.val by omega)

theorem si_eos (a : Fin 4) (e : Fin 80) (q : Fin 2) (h) :
    scatter_S4x600x80_S4x2_S4x80_1_01_01_1.siIdx (ix2 a e) ⟨q.val, h⟩ = ix2 a q := by
  funext b
  match b with
  | ⟨0, _⟩ => rfl
  | ⟨1, _⟩ => rfl

theorem lands_eos (a : Fin 4) (e : Fin 80) (idx : IVec S4x2 32) (b : Fin 4) (r : Fin 600) (c : Fin 80) :
    scatter_S4x600x80_S4x2_S4x80_1_01_01_1.resultIdx? (ix2 a e) idx = some (ix3 b r c)
      ↔ (idx (ix2 a 0)).toInt = b.val ∧ (idx (ix2 a 1)).toInt = r.val ∧ e.val = c.val := by
  have s0 : scatter_S4x600x80_S4x2_S4x80_1_01_01_1.start (ix2 a e) idx 0 = (idx (ix2 a 0)).toInt := by
    unfold ScatterDims.start
    rw [dif_pos (by decide)]
    exact congrArg (fun i => (idx i).toInt) (si_eos a e 0 _)
  have s1 : scatter_S4x600x80_S4x2_S4x80_1_01_01_1.start (ix2 a e) idx 1 = (idx (ix2 a 1)).toInt := by
    unfold ScatterDims.start
    rw [dif_pos (by decide)]
    exact congrArg (fun i => (idx i).toInt) (si_eos a e 1 _)
  have s2 : scatter_S4x600x80_S4x2_S4x80_1_01_01_1.start (ix2 a e) idx 2 = 0 := by
    unfold ScatterDims.start
    rw [dif_neg (by decide)]
  have e0 := sum3 _ (ix2 a e) idx 0 _ 0 s0 rfl
  have e1 := sum3 _ (ix2 a e) idx 1 _ 0 s1 rfl
  have e2 := sum3 _ (ix2 a e) idx 2 _ e.val s2 rfl
  rw [Routing.resultIdx?_eq_some]
  constructor
  · intro h
    have h0 : (idx (ix2 a 0)).toInt + ((0 : Nat) : Int) = b.val := e0.symm.trans (h 0)
    have h1 : (idx (ix2 a 1)).toInt + ((0 : Nat) : Int) = r.val := e1.symm.trans (h 1)
    have h2 : (0 : Int) + (e.val : Int) = c.val := e2.symm.trans (h 2)
    omega
  · intro h q
    match q with
    | ⟨0, _⟩ => exact e0.trans (show (idx (ix2 a 0)).toInt + ((0 : Nat) : Int) = b.val by omega)
    | ⟨1, _⟩ => exact e1.trans (show (idx (ix2 a 1)).toInt + ((0 : Nat) : Int) = r.val by omega)
    | ⟨2, _⟩ => exact e2.trans (show (0 : Int) + (e.val : Int) = c.val by omega)

/-! ## The rows -/

theorem rOut0_at (b : Fin 4) (r : Fin 600) (c : Fin 80) : rOut0 (ix3 b r c) = if r.val = 0 then 257#32 else 256#32 := by
  unfold rOut0
  have h0 : ((broadcastInDim S1 ![] bcast_S_S1 (constantI S_ 32 0#32)) (ix1 0)).toInt = 0 := rfl
  by_cases h : r.val = 0
  · rw [if_pos h]
    refine Routing.scatter_set_hit _ _ _ _ _ _ (fun k _ => ?_) (ix2 b c) ((lands_bos _ _ _ _ _ _).2 ⟨rfl, by rw [h0]; omega, rfl⟩)
    pointwise
  · rw [if_neg h, Routing.scatter_set_miss]
    · pointwise
    · intro k hk
      idx_vars k
      have := ((lands_bos _ _ _ _ _ _).1 hk).2.1
      rw [h0] at this
      omega

theorem rOut1_at (x : FVec Ideal S4x96000 .f32) (le : IVec S4 32) (mw : FVec Ideal S80x201 .f32) (dm : FVec Ideal S80x258 .f32)
    (b : Fin 4) (r : Fin 600) (c : Fin 80) :
    rOut1 x le mw dm (ix3 b r c)
      = if h : 1 ≤ r.val ∧ r.val ≤ 598 then rRows x le mw dm (ix3 b ⟨r.val - 1, by omega⟩ c) else rOut0 (ix3 b r c) := by
  unfold rOut1
  have h0 : ((broadcastInDim S1 ![] bcast_S_S1 (constantI S_ 32 1#32)) (ix1 0)).toInt = 1 := rfl
  by_cases h : 1 ≤ r.val ∧ r.val ≤ 598
  · rw [dif_pos h]
    refine Routing.scatter_set_hit _ _ _ _ _ _ (fun k hk => ?_) (ix3 b ⟨r.val - 1, by omega⟩ c)
      ((lands_rows _ _ _ _ _ _ _).2 ⟨rfl, by rw [h0]; show (1 : Int) + ((r.val - 1 : Nat) : Int) = r.val; omega, rfl⟩)
    idx_vars k
    obtain ⟨p, q, s⟩ := (lands_rows _ _ _ _ _ _ _).1 hk
    rw [h0] at q
    rw [show k0 = b from Fin.ext p, show k1 = ⟨r.val - 1, by omega⟩ from Fin.ext (by show k1.val = r.val - 1; omega), show k2 = c from Fin.ext s]
  · rw [dif_neg h, Routing.scatter_set_miss]
    intro k hk
    idx_vars k
    have := ((lands_rows _ _ _ _ _ _ _).1 hk).2.1
    rw [h0] at this
    omega

theorem small_wrap (a : BitVec 32) (k : Nat) (h : k < 2 ^ 31) :
    Scalar.select (IntOp.cmpi CmpIPredicate.slt (BitVec.ofNat 32 k) 0#32) a (BitVec.ofNat 32 k) = BitVec.ofNat 32 k :=
  Routing.wrap_of_lt _ _ (by rw [BitVec.toNat_ofNat, Nat.mod_eq_of_lt (by omega)]; exact h)

theorem rAt0 (le : IVec S4 32) (b : Fin 4) : (rAt le (ix2 b 0)).toInt = b.val := by
  have e : rAt le (ix2 b 0) = BitVec.ofNat 32 b.val := by
    pointwise [rAt, fn_main_v113]
    exact small_wrap _ _ (by omega)
  rw [e, Idealize.ShloMosaic.StableHlo.Predicate.toInt_ofNat_small _ (by omega)]

theorem rAt1 (le : IVec S4 32) (b : Fin 4) (N : Nat) (hN : N ≤ 598) (hl : rLen le (ix1 b) = BitVec.ofNat 32 N) :
    (rAt le (ix2 b 1)).toInt = N + 1 := by
  have e : rAt le (ix2 b 1) = BitVec.ofNat 32 (N + 1) := by
    pointwise [rAt, fn_main_v113]
    rw [hl]
    have ea : IntOp.addi (BitVec.ofNat 32 N) 1#32 = BitVec.ofNat 32 (N + 1) := (BitVec.ofNat_add N 1).symm
    rw [ea]
    exact small_wrap _ _ (by omega)
  rw [e, Idealize.ShloMosaic.StableHlo.Predicate.toInt_ofNat_small _ (by omega)]
  rfl

theorem slt_small (a b : Nat) (ha : a < 2 ^ 31) (hb : b < 2 ^ 31) :
    IntOp.cmpi CmpIPredicate.slt (BitVec.ofNat 32 a) (BitVec.ofNat 32 b) = BitVec.ofBool (decide (a < b)) := by
  show BitVec.ofBool (BitVec.slt _ _) = _
  rw [BitVec.slt_eq_decide, Idealize.ShloMosaic.StableHlo.Predicate.toInt_ofNat_small _ ha, Idealize.ShloMosaic.StableHlo.Predicate.toInt_ofNat_small _ hb]
  congr 2
  exact propext Int.ofNat_lt

/-- Rows of codes padded past the lengths, of any codes. -/
def padRows (le : IVec S4 32) (z : IVec S4x598x80 32) : IVec S4x598x80 32 :=
  (select (broadcastInDim S4x598x80 ![0, 1, 2] bcast_S4x598x1_S4x598x80_0_1_2 (cmpi .slt (broadcastInDim S4x598x1 ![0, 1, 2] bcast_S1x598x1_S4x598x1_0_1_2 (broadcastInDim S1x598x1 ![1] bcast_S598_S1x598x1_1 (iotaInDim S598 32 0))) (broadcastInDim S4x598x1 ![0, 1, 2] bcast_S4x1x1_S4x598x1_0_1_2 (broadcastInDim S4x1x1 ![0] bcast_S4_S4x1x1_0 (rLen le))))) z (broadcastInDim S4x598x80 ![] bcast_S_S4x598x80 (constantI S_ 32 256#32)))

theorem rRows_eq (x : FVec Ideal S4x96000 .f32) (le : IVec S4 32) (mw : FVec Ideal S80x201 .f32) (dm : FVec Ideal S80x258 .f32) :
    rRows x le mw dm = padRows le (rTok x mw dm) := rfl

theorem padRows_at (le : IVec S4 32) (z : IVec S4x598x80 32)
    (b : Fin 4) (t : Fin 598) (c : Fin 80) (N : Nat) (hN : N ≤ 598) (hl : rLen le (ix1 b) = BitVec.ofNat 32 N) :
    padRows le z (ix3 b t c) = if t.val < N then z (ix3 b t c) else 256#32 := by
  pointwise [padRows]
  rw [hl, slt_small _ _ (by omega) (by omega)]
  by_cases h : t.val < N
  · rw [if_pos h, decide_eq_true h]; rfl
  · rw [if_neg h, decide_eq_false h]; rfl

theorem rRows_at (x : FVec Ideal S4x96000 .f32) (le : IVec S4 32) (mw : FVec Ideal S80x201 .f32) (dm : FVec Ideal S80x258 .f32)
    (b : Fin 4) (t : Fin 598) (c : Fin 80) (N : Nat) (hN : N ≤ 598) (hl : rLen le (ix1 b) = BitVec.ofNat 32 N) :
    rRows x le mw dm (ix3 b t c) = if t.val < N then rTok x mw dm (ix3 b t c) else 256#32 := by
  rw [rRows_eq]
  exact padRows_at le _ b t c N hN hl

/-- The reference's token at each place. -/
theorem rOut_at (x : FVec Ideal S4x96000 .f32) (le : IVec S4 32) (mw : FVec Ideal S80x201 .f32) (dm : FVec Ideal S80x258 .f32)
    (b : Fin 4) (r : Fin 600) (c : Fin 80) (len : Fin 4 → Nat) (hN : ∀ b, len b ≤ 598) (hl : ∀ b, rLen le (ix1 b) = BitVec.ofNat 32 (len b)) :
    rOut x le mw dm (ix3 b r c)
      = if r.val = len b + 1 then 258#32
        else if r.val = 0 then 257#32
        else if h : 1 ≤ r.val ∧ r.val ≤ len b then rTok x mw dm (ix3 b ⟨r.val - 1, by have := hN b; omega⟩ c)
        else 256#32 := by
  unfold rOut
  by_cases h : r.val = len b + 1
  · rw [if_pos h]
    refine Routing.scatter_set_hit _ _ _ _ _ _ (fun k _ => ?_) (ix2 b c)
      ((lands_eos _ _ _ _ _ _).2 ⟨rAt0 le b, by rw [rAt1 le b _ (hN b) (hl b)]; omega, rfl⟩)
    pointwise
  · rw [if_neg h, Routing.scatter_set_miss]
    · rw [rOut1_at]
      by_cases h0 : r.val = 0
      · rw [dif_neg (by omega), if_pos h0, rOut0_at, if_pos h0]
      · rw [if_neg h0]
        by_cases h1 : r.val ≤ 598
        · rw [dif_pos ⟨by omega, h1⟩, rRows_at x le mw dm b _ c (len b) (hN b) (hl b)]
          by_cases h2 : r.val ≤ len b
          · rw [dif_pos ⟨by omega, h2⟩, if_pos (show r.val - 1 < len b by omega)]
          · rw [dif_neg (by omega), if_neg (show ¬ r.val - 1 < len b by omega)]
        · have := hN b
          rw [dif_neg (by omega), rOut0_at, if_neg h0, dif_neg (by omega)]
    · intro k hk
      idx_vars k
      obtain ⟨p, q, _⟩ := (lands_eos _ _ _ _ _ _).1 hk
      rw [rAt0] at p
      have hb : k0 = b := Fin.ext (by exact_mod_cast p)
      rw [hb, rAt1 le b _ (hN b) (hl b)] at q
      omega

end Cert.ReferenceIdeal.Value

end
-- ==== Proof.LenWord.lean ====
/-
  The number of frames, as a word.
-/
module

public import proofs.«01_k».proof.Proof.RefVals
public import Idealize.ShloMosaic.Lib.Pointwise
public import Idealize.ShloMosaic.Lib.WordCmp

@[expose] public section

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo

theorem divsi_small (u : ArithUnit) (a b : Nat) (ha : a < 2 ^ 31) (hb : 0 < b) (hb' : b < 2 ^ 31) :
    IntOp.divsi u (BitVec.ofNat 32 a) (BitVec.ofNat 32 b) = BitVec.ofNat 32 (a / b) := by
  have hma : (BitVec.ofNat 32 a).msb = false := by
    rw [BitVec.msb_eq_false_iff_two_mul_lt, BitVec.toNat_ofNat, Nat.mod_eq_of_lt (by omega)]; omega
  have hmb : (BitVec.ofNat 32 b).msb = false := by
    rw [BitVec.msb_eq_false_iff_two_mul_lt, BitVec.toNat_ofNat, Nat.mod_eq_of_lt (by omega)]; omega
  have hc : ¬ IntOp.SDivCorner (BitVec.ofNat 32 a) (BitVec.ofNat 32 b) := by
    unfold IntOp.SDivCorner
    rintro (h | h)
    · have := congrArg BitVec.toNat h
      rw [BitVec.toNat_ofNat, Nat.mod_eq_of_lt (by omega)] at this
      simp at this
      omega
    · have := congrArg BitVec.msb h.1
      rw [hma] at this
      exact absurd this (by decide)
  unfold IntOp.divsi
  rw [if_neg hc, BitVec.sdiv_eq, hma, hmb]
  apply BitVec.eq_of_toNat_eq
  simp only [BitVec.udiv_eq, BitVec.toNat_udiv, BitVec.toNat_ofNat]
  rw [Nat.mod_eq_of_lt (show a < 2 ^ 32 by omega), Nat.mod_eq_of_lt (show b < 2 ^ 32 by omega),
    Nat.mod_eq_of_lt (lt_of_le_of_lt (Nat.div_le_self _ _) (by omega))]

theorem rLen_at (le : IVec S4 32) (b : Fin 4) (l : Nat) (h1 : 400 ≤ l) (h2 : l ≤ 96000) (hl : le (ix1 b) = BitVec.ofNat 32 l) :
    rLen le (ix1 b) = BitVec.ofNat 32 (1 + (l - 400) / 160) := by
  by_cases h0 : l = 400
  · subst h0
    pointwise [rLen]
    rw [hl]
    decide
  pointwise [rLen]
  rw [hl]
  have hs : IntOp.subi (BitVec.ofNat 32 l) 400#32 = BitVec.ofNat 32 (l - 400) := by
    apply BitVec.eq_of_toNat_eq
    show (BitVec.ofNat 32 l - BitVec.ofNat 32 400).toNat = _
    rw [BitVec.toNat_sub, BitVec.toNat_ofNat, BitVec.toNat_ofNat, BitVec.toNat_ofNat]
    omega
  have hz : BitVec.ofNat 32 (l - 400) ≠ 0 := fun h => by
    have := congrArg BitVec.toNat h
    rw [BitVec.toNat_ofNat, Nat.mod_eq_of_lt (by omega)] at this
    simp at this
    omega
  have hm : (BitVec.ofNat 32 (l - 400)).msb = false := by
    rw [BitVec.msb_eq_false_iff_two_mul_lt, BitVec.toNat_ofNat, Nat.mod_eq_of_lt (by omega)]; omega
  rw [hs, if_neg hz, hm, if_neg (by decide), if_neg (by decide)]
  have ha : ∀ z : BitVec 1, IntOp.andi (IntOp.cmpi CmpIPredicate.ne (1 : BitVec 32) 1) z = 0#1 := by decide
  refine (congrArg (fun z => IntOp.addi 1#32 (Scalar.select z
    (IntOp.subi (IntOp.divsi ArithUnit.host (BitVec.ofNat 32 (l - 400)) 160#32) 1#32)
    (IntOp.divsi ArithUnit.host (BitVec.ofNat 32 (l - 400)) 160#32)))
    (ha (IntOp.cmpi CmpIPredicate.ne (IntOp.remsi ArithUnit.host (BitVec.ofNat 32 (l - 400)) 160#32) 0#32))).trans ?_
  show IntOp.addi 1#32 (IntOp.divsi ArithUnit.host (BitVec.ofNat 32 (l - 400)) 160#32) = _
  rw [divsi_small _ _ _ (by omega) (by omega) (by omega)]
  exact (BitVec.ofNat_add 1 _).symm

end Cert.ReferenceIdeal.Value

end
-- ==== Proof.RefQuant.lean ====
/-
  The reference's nearest code: the level of the clipped feature, where no two neighbouring codes tie.
-/
module

public import proofs.«01_k».proof.Proof.RefVals
public import proofs.«01_k».proof.Proof.Level
public import Idealize.ShloMosaic.Lib.Pointwise

@[expose] public section

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo

/-! ## The clip -/

theorem rTop_at (x : FVec Ideal S4x96000 .f32) (mw : FVec Ideal S80x201 .f32) (b : Fin 4) (t : Fin 598) (c : Fin 80) :
    rTop x mw (ix3 b t c) = min (rFeat x mw (ix3 b t c)) ((2 : ℝ) : EReal) := by
  pointwise [rTop]
  rw [Cert.Proof.Spec.ofBits_max]
  by_cases h : ((2 : ℝ) : EReal) < rFeat x mw (ix3 b t c)
  · rw [if_pos h, min_eq_right h.le]
  · rw [if_neg h, min_eq_left (not_lt.1 h)]

theorem rClip_at (x : FVec Ideal S4x96000 .f32) (mw : FVec Ideal S80x201 .f32) (b : Fin 4) (t : Fin 598) (c : Fin 80) :
    rClip x mw (ix3 b t c) = Cert.Proof.Spec.clip (rFeat x mw (ix3 b t c)) := by
  pointwise [rClip, rTop_at]
  rw [Cert.Proof.Spec.ofBits_min, Cert.Proof.Spec.ofBits_three]
  generalize rFeat x mw (ix3 b t c) = f
  unfold Cert.Proof.Spec.clip
  have h2 : ((-(7 : ℝ)) : EReal) ≤ ((2 : ℝ) : EReal) := EReal.coe_le_coe_iff.2 (by norm_num)
  have h3 : ((2 : ℝ) : EReal) < ((3 : ℝ) : EReal) := EReal.coe_lt_coe_iff.2 (by norm_num)
  have hne : min f ((2 : ℝ) : EReal) ≠ ((3 : ℝ) : EReal) := ((min_le_right _ _).trans_lt h3).ne
  by_cases h : min f ((2 : ℝ) : EReal) < ((-(7 : ℝ)) : EReal)
  · have hf : f < ((-(7 : ℝ)) : EReal) := by
      rcases min_lt_iff.1 h with h | h
      · exact h
      · exact absurd h (not_lt.2 h2)
    rw [decide_eq_true h, decide_eq_true hne, max_eq_right hf.le, min_eq_left h2]
    rfl
  · rw [decide_eq_false h]
    have hf : ((-(7 : ℝ)) : EReal) ≤ f := (not_lt.1 h).trans (min_le_left _ _)
    rw [max_eq_left hf, decide_eq_true hne]
    rfl

/-! ## The nearest code -/

theorem red_keep (p r : Ideal .f32 × BitVec 32) (h : p.1 < r.1) : reducer_argmin_f32_i32 (F := Ideal) p r = p := by
  have e : FloatOps.cmpf (F := Ideal) (φ := .f32) .olt p.1 r.1 = 1#1 := by
    show BitVec.ofBool (decide (p.1 < r.1)) = 1#1
    rw [decide_eq_true h]; rfl
  unfold reducer_argmin_f32_i32
  dsimp only
  rw [e]
  have o : ∀ z : BitVec 1, IntOp.ori 1#1 z = 1#1 := by decide
  rw [o, o]
  rfl

theorem red_take (p r : Ideal .f32 × BitVec 32) (h : p.1 < r.1) : reducer_argmin_f32_i32 (F := Ideal) r p = p := by
  have e : FloatOps.cmpf (F := Ideal) (φ := .f32) .olt r.1 p.1 = 0#1 := by
    show BitVec.ofBool (decide (r.1 < p.1)) = 0#1
    rw [decide_eq_false (not_lt.2 h.le)]; rfl
  have e2 : FloatOps.cmpf (F := Ideal) (φ := .f32) .une r.1 r.1 = 0#1 := by
    show BitVec.ofBool (decide (r.1 ≠ r.1)) = 0#1
    rw [decide_eq_false (fun h => h rfl)]; rfl
  have e3 : FloatOps.cmpf (F := Ideal) (φ := .f32) .oeq r.1 p.1 = 0#1 := by
    show BitVec.ofBool (decide (r.1 = p.1)) = 0#1
    rw [decide_eq_false h.ne']; rfl
  unfold reducer_argmin_f32_i32
  dsimp only
  rw [e, e2, e3]
  have o : ∀ z : BitVec 1, IntOp.ori (IntOp.ori 0#1 0#1) (IntOp.andi 0#1 z) = 0#1 := by decide
  rw [o]
  rfl

theorem red_self (p : Ideal .f32 × BitVec 32) : reducer_argmin_f32_i32 (F := Ideal) p p = p := by
  unfold reducer_argmin_f32_i32
  dsimp only
  unfold Scalar.select
  simp only [ite_self]

/-- Of two pairs above `p` the reducer makes one above `p`. -/
theorem red_above (p r s : Ideal .f32 × BitVec 32) (hr : p.1 < r.1) (hs : p.1 < s.1) : p.1 < (reducer_argmin_f32_i32 (F := Ideal) r s).1 := by
  unfold reducer_argmin_f32_i32
  dsimp only
  unfold Scalar.select
  split
  · exact hr
  · exact hs

/-- The fold ends at the one least pair. -/
theorem fold_least (p : Ideal .f32 × BitVec 32) (l : List (Ideal .f32 × BitVec 32)) :
    ∀ a, (a = p ∨ p.1 < a.1 ∧ p ∈ l) → (∀ r ∈ l, r = p ∨ p.1 < r.1) → l.foldl (reducer_argmin_f32_i32 (F := Ideal)) a = p := by
  induction l with
  | nil =>
    intro a h _
    rcases h with h | h
    · exact h
    · exact absurd h.2 List.not_mem_nil
  | cons r l ih =>
    intro a h hl
    rw [List.foldl_cons]
    refine ih _ ?_ (fun s hs => hl s (List.mem_cons_of_mem _ hs))
    rcases hl r List.mem_cons_self with hr | hr
    · subst hr
      left
      rcases h with h | h
      · rw [h]; exact red_self _
      · exact red_take _ _ h.1
    · rcases h with h | h
      · left; rw [h]; exact red_keep _ _ hr
      · right
        refine ⟨red_above p a r h.1 hr, ?_⟩
        rcases List.mem_cons.1 h.2 with e | e
        · exact absurd hr (by rw [e]; exact lt_irrefl _)
        · exact e

/-- What a fiber holds: the pairs at the indices that drop to its own. -/
theorem mem_fiber {s t : Shape} {axes : List (Fin s.rank)} {α β : Type} (x : s.Idx → α) (y : s.Idx → β) (h : s.ReducesTo axes t) (j : t.Idx)
    (p : α × β) : p ∈ Host.argReduceFiber x y h j ↔ ∃ i, h.drop i = j ∧ (x i, y i) = p := by
  unfold Host.argReduceFiber
  rw [List.mem_map]
  constructor
  · rintro ⟨n, hn, e⟩
    exact ⟨_, of_decide_eq_true (List.mem_filter.1 hn).2, e⟩
  · rintro ⟨i, hi, e⟩
    refine ⟨s.rowMajor i, List.mem_filter.2 ⟨List.mem_finRange _, decide_eq_true ?_⟩, ?_⟩
    · rw [Equiv.symm_apply_apply]; exact hi
    · rw [Equiv.symm_apply_apply]; exact e

/-- The nearest of a fiber's pairs, where one is nearer than all others. -/
theorem argmin_least {s t u : Shape} {axes : List (Fin s.rank)} (x : FVec Ideal s .f32) (y : s.Idx → BitVec 32) (ix : u.Idx → Ideal .f32)
    (iy : u.Idx → BitVec 32) (h : s.ReducesTo axes t) (hu : 0 < u.numel) (j : t.Idx) (p : Ideal .f32 × BitVec 32)
    (hx : ix (Shape.Idx.first hu) = (⊤ : EReal)) (hp : p.1 < (⊤ : EReal)) (hmem : ∃ i, h.drop i = j ∧ (x i, y i) = p)
    (hall : ∀ i, h.drop i = j → (x i, y i) = p ∨ p.1 < x i) :
    Host.argReduce (reducer_argmin_f32_i32 (F := Ideal)) x y ix iy h hu j = p := by
  rw [Ideal.argReduce_eq_reduce2, Host.reduce2_eq_foldl_fiber]
  refine fold_least p _ _ (Or.inr ⟨?_, (mem_fiber _ _ _ _ _).2 hmem⟩) (fun r hr => ?_)
  · show p.1 < ix (Shape.Idx.first hu)
    rw [hx]
    exact hp
  · obtain ⟨i, hn, rfl⟩ := (mem_fiber _ _ _ _ _).1 hr
    exact hall i hn

theorem drop_at (b : Fin 4) (t : Fin 598) (c : Fin 80) (k : Fin 258) :
    reducesTo_S4x598x80x258_S4x598x80_d3.drop (ix4 b t c k) = ix3 b t c := by
  funext a
  match a with
  | ⟨0, _⟩ => rfl
  | ⟨1, _⟩ => rfl
  | ⟨2, _⟩ => rfl

theorem ix4_ext (i : S4x598x80x258.Idx) (b : Fin 4) (t : Fin 598) (c : Fin 80)
    (h : reducesTo_S4x598x80x258_S4x598x80_d3.drop i = ix3 b t c) : ∃ k : Fin 258, i = ix4 b t c k := by
  idx_vars i
  rw [drop_at] at h
  have h0 : i0 = b := congrFun h 0
  have h1 : i1 = t := congrFun h 1
  have h2 : i2 = c := congrFun h 2
  exact ⟨i3, by rw [h0, h1, h2]⟩

/-- The nearest distance with its code, before the code alone is taken. -/
def rArg (x : FVec Ideal S4x96000 .f32) (mw : FVec Ideal S80x201 .f32) (dm : FVec Ideal S80x258 .f32) : S4x598x80.Idx → Ideal .f32 × BitVec 32 :=
  Host.argReduce reducer_argmin_f32_i32 (rDist x mw dm) (iotaInDim S4x598x80x258 32 3) (constant (F := Ideal) S_ .f32 0x7F800000#32)
    (constantI S_ 32 0#32) reducesTo_S4x598x80x258_S4x598x80_d3 h_S_

theorem rTok_eq (x : FVec Ideal S4x96000 .f32) (mw : FVec Ideal S80x201 .f32) (dm : FVec Ideal S80x258 .f32) :
    rTok x mw dm = fun j => (rArg x mw dm j).2 := rfl

/-- The reference's code where one code is nearest. -/
theorem rTok_least (x : FVec Ideal S4x96000 .f32) (mw : FVec Ideal S80x201 .f32) (dm : FVec Ideal S80x258 .f32)
    (b : Fin 4) (t : Fin 598) (c : Fin 80) (q : Fin 258) (htop : rDist x mw dm (ix4 b t c q) < ⊤)
    (h : ∀ k : Fin 258, k ≠ q → rDist x mw dm (ix4 b t c q) < rDist x mw dm (ix4 b t c k)) :
    rTok x mw dm (ix3 b t c) = BitVec.ofNat 32 q.val := by
  have hi : ∀ k : Fin 258, iotaInDim S4x598x80x258 32 3 (ix4 b t c k) = BitVec.ofNat 32 k.val := fun k => by pointwise
  rw [rTok_eq]
  show (rArg x mw dm (ix3 b t c)).2 = _
  suffices e : rArg x mw dm (ix3 b t c) = (rDist x mw dm (ix4 b t c q), BitVec.ofNat 32 q.val) by rw [e]
  unfold rArg
  refine (argmin_least (rDist x mw dm) (iotaInDim S4x598x80x258 32 3) _ _ reducesTo_S4x598x80x258_S4x598x80_d3 h_S_ (ix3 b t c)
    (rDist x mw dm (ix4 b t c q), BitVec.ofNat 32 q.val) Cert.Proof.Spec.ofBits_inf htop
    ⟨ix4 b t c q, drop_at b t c q, Prod.ext rfl (hi q)⟩ (fun i hn => ?_))
  obtain ⟨k, rfl⟩ := ix4_ext i b t c hn
  by_cases e : k = q
  · left
    rw [e]
    exact Prod.ext rfl (hi q)
  · right
    exact h k e

theorem rDist_at (x : FVec Ideal S4x96000 .f32) (mw : FVec Ideal S80x201 .f32) (dm : FVec Ideal S80x258 .f32)
    (b : Fin 4) (t : Fin 598) (c : Fin 80) (k : Fin 258) (y d : ℝ) (hy : Cert.Proof.Spec.clip (rFeat x mw (ix3 b t c)) = (y : EReal))
    (hd : dm (ix2 c k) = (d : EReal)) : rDist x mw dm (ix4 b t c k) = ((|y - d| : ℝ) : EReal) := by
  pointwise [rDist, rClip_at]
  rw [hy, hd]
  show max ((y : EReal) - (d : EReal)) (-((y : EReal) - (d : EReal))) = _
  rw [← EReal.coe_sub, ← EReal.coe_neg, abs_eq_max_neg]
  exact (EReal.coe_strictMono.monotone.map_max).symm

/-- The reference's code under the codes' values and no tie between neighbours: the level of the clipped feature. -/
theorem rTok_at (x : FVec Ideal S4x96000 .f32) (mw : FVec Ideal S80x201 .f32) (dm : FVec Ideal S80x258 .f32)
    (hcode : ∀ (c : Fin 80) (k : Fin 256), dm (ix2 c ⟨k.val, by omega⟩) = (((k.val : ℝ) * Cert.Proof.Spec.stepR - 7 : ℝ) : EReal))
    (hbos : ∀ c : Fin 80, dm (ix2 c 256) = ((4 : ℝ) : EReal)) (heos : ∀ c : Fin 80, dm (ix2 c 257) = ((5 : ℝ) : EReal))
    (b : Fin 4) (t : Fin 598) (c : Fin 80)
    (htie : ∀ k : Fin 257, rDist x mw dm (ix4 b t c ⟨k.val, by omega⟩) ≠ rDist x mw dm (ix4 b t c ⟨1 + k.val, by omega⟩)) :
    ∃ (y : ℝ) (q : ℕ), Cert.Proof.Spec.clip (rFeat x mw (ix3 b t c)) = (y : EReal) ∧ q ≤ 255 ∧ Cert.Proof.Spec.level y = q
      ∧ rTok x mw dm (ix3 b t c) = BitVec.ofNat 32 q := by
  obtain ⟨y, hy, h1, h2⟩ := Cert.Proof.Spec.clip_real (rFeat x mw (ix3 b t c))
  obtain ⟨code, hcd⟩ : ∃ code : ℕ → ℝ, code = fun (j : ℕ) => if j < 256 then (j : ℝ) * Cert.Proof.Spec.stepR - 7 else if j = 256 then 4 else 5 := ⟨_, rfl⟩
  have hdm : ∀ k : Fin 258, dm (ix2 c k) = ((code k.val : ℝ) : EReal) := fun k => by
    rw [hcd]
    dsimp only
    by_cases hk : k.val < 256
    · rw [if_pos hk]; exact hcode c ⟨k.val, hk⟩
    · rw [if_neg hk]
      by_cases hk' : k.val = 256
      · rw [if_pos hk', show k = 256 from Fin.ext hk']; exact hbos c
      · rw [if_neg hk', show k = 257 from Fin.ext (by show k.val = 257; omega)]; exact heos c
  have hdist : ∀ k : Fin 258, rDist x mw dm (ix4 b t c k) = ((|y - code k.val| : ℝ) : EReal) := fun k =>
    rDist_at x mw dm b t c k y _ hy (hdm k)
  obtain ⟨q, hq, hl, hmin⟩ := Cert.Proof.Spec.nearest y h1 h2 code (fun j hj => by rw [hcd]; exact if_pos hj)
    (by rw [hcd]; norm_num) (by rw [hcd]; norm_num) (fun j hj e => by
      refine htie ⟨j, by omega⟩ ?_
      rw [hdist, hdist]
      show ((|y - code j| : ℝ) : EReal) = ((|y - code (1 + j)| : ℝ) : EReal)
      rw [e, Nat.add_comm])
  refine ⟨y, q, hy, hq, hl, ?_⟩
  refine rTok_least x mw dm b t c ⟨q, by omega⟩ ?_ (fun k hk => ?_)
  · rw [hdist]; exact EReal.coe_lt_top _
  · rw [hdist, hdist]
    exact EReal.coe_lt_coe_iff.2 (hmin k.val (by omega) (fun e => hk (Fin.ext e)))

end Cert.ReferenceIdeal.Value

end
-- ==== Proof.PreFacts.lean ====
/-
  What the precondition says: the lengths' range, the codes' values, and that no two neighbouring codes are equally near.
-/
module

public import proofs.«01_k».proof.Proof.RefQuant
public import proofs.«01_k».proof.Pre_in_range
public import Idealize.ShloMosaic.Lib.Pointwise
public import Idealize.ShloMosaic.Lib.ReduceAll
public import Idealize.ShloMosaic.Lib.WordArith

@[expose] public section

set_option maxRecDepth 16384

noncomputable section

namespace Cert.Proof.Pre

open Cert.Pre_in_range Idealize.ShloMosaic

variable [Cert.Pre_in_range.Facts] (x : FVec Ideal S4x96000 .f32) (le : IVec S4 32) (mw : FVec Ideal S80x201 .f32) (dm : FVec Ideal S80x258 .f32)

instance : Subsingleton S_.Idx := ⟨fun i j => funext fun a => a.elim0⟩

theorem and_one (a b : BitVec 1) (h : IntOp.andi a b = 1#1) : a = 1#1 ∧ b = 1#1 := by
  revert a b; decide

theorem ofBool_one (p : Prop) [Decidable p] (h : BitVec.ofBool (decide p) = 1#1) : p := by
  by_contra hp
  rw [decide_eq_false hp] at h
  exact absurd h (by decide)

/-- The lengths are from 400 to 96000. -/
theorem len_range (h : (fn (F := Ideal) x le mw dm).1 = fun _ => 1#1) (b : Fin 4) :
    ∃ l : Nat, 400 ≤ l ∧ l ≤ 96000 ∧ le (ix1 b) = BitVec.ofNat 32 l := by
  have h1 : andi (cmpi .sge le (broadcastInDim S4 ![] Facts.bcast_S_S4 (constantI S_ 32 400#32)))
      (cmpi .sle le (broadcastInDim S4 ![] Facts.bcast_S_S4 (constantI S_ 32 96000#32))) (ix1 b) = 1#1 :=
    Host.reduce_andi_all _ _ _ _ ix0 (congrFun h ix0) (ix1 b)
  obtain ⟨h2, h3⟩ := and_one _ _ h1
  have h2' : (400#32).sle (le (ix1 b)) = true := by
    by_contra hp
    rw [Bool.not_eq_true] at hp
    have : BitVec.ofBool ((400#32).sle (le (ix1 b))) = 1#1 := h2
    rw [hp] at this
    exact absurd this (by decide)
  have h3' : (le (ix1 b)).sle 96000#32 = true := by
    by_contra hp
    rw [Bool.not_eq_true] at hp
    have : BitVec.ofBool ((le (ix1 b)).sle 96000#32) = 1#1 := h3
    rw [hp] at this
    exact absurd this (by decide)
  rw [BitVec.sle_iff_toInt_le] at h2' h3'
  have e1 : (400#32).toInt = 400 := rfl
  have e2 : (96000#32).toInt = 96000 := rfl
  rw [e1] at h2'
  rw [e2] at h3'
  refine ⟨(le (ix1 b)).toNat, ?_, ?_, (by simp)⟩
  · rw [BitVec.toInt_eq_toNat_cond] at h2' h3'
    split_ifs at h2' <;> omega
  · rw [BitVec.toInt_eq_toNat_cond] at h2' h3'
    split_ifs at h2' h3' <;> omega

/-- The first 256 codes are the grid's. -/
theorem code_grid (h : (fn (F := Ideal) x le mw dm).2.1 = fun _ => 1#1) (c : Fin 80) (k : Fin 256) :
    dm (ix2 c ⟨k.val, by omega⟩) = (((k.val : ℝ) * Cert.Proof.Spec.stepR - 7 : ℝ) : EReal) := by
  have h1 : Host.reduce IntOp.andi (cmpf (F := Ideal) (φ := .f32) .oeq (extractStridedSlice S80x256 ![0, 0] dm Facts.slices_S80x258_S80x256_0_0)
      (broadcastInDim S80x256 ![0, 1] Facts.bcast_S1x256_S80x256_0_1 (broadcastInDim S1x256 ![1] Facts.bcast_S256_S1x256_1
        (addf (mulf (sitofp .f32 (iotaInDim S256 32 0)) (broadcastInDim S256 ![] Facts.bcast_S_S256 (constant (F := Ideal) S_ .f32 0x3D1096BC#32)))
          (broadcastInDim S256 ![] Facts.bcast_S_S256 (constant (F := Ideal) S_ .f32 0xC0E00000#32)))))) (constantI S_ 1 1#1) Facts.reducesTo_S80x256_S_d0_1 Facts.h_S_ ix0 = 1#1 := by
    have := congrFun h ix0
    dsimp only [fn, fn_part1, fn_part2, fn_part3, fn_part4, fn_part5] at this
    exact this
  replace h1 := Host.reduce_andi_all _ _ _ _ _ h1 (ix2 c k)
  revert h1
  pointwise
  intro h1
  refine (ofBool_one _ h1).trans ?_
  rw [Cert.Proof.Spec.ofBits_step, Cert.Proof.Spec.ofBits_min]
  show (((BitVec.ofNat 32 k.val).toInt : ℝ) : EReal) * _ + _ = _
  rw [WordArith.toInt_ofNat_small k.val (by omega), Int.cast_natCast, ← EReal.coe_mul, ← EReal.coe_neg, ← EReal.coe_add, sub_eq_add_neg]

/-- The code after them is 4. -/
theorem code_bos (h : (fn (F := Ideal) x le mw dm).2.2.1 = fun _ => 1#1) (c : Fin 80) : dm (ix2 c 256) = ((4 : ℝ) : EReal) := by
  have h1 : Host.reduce IntOp.andi (cmpf (F := Ideal) (φ := .f32) .oeq (shapeCast S80 (extractStridedSlice S80x1 ![0, 256] dm Facts.slices_S80x258_S80x1_0_256) Facts.shapeCasts_S80x1_S80)
      (broadcastInDim S80 ![] Facts.bcast_S_S80 (constant (F := Ideal) S_ .f32 0x40800000#32))) (constantI S_ 1 1#1) Facts.reducesTo_S80_S_d0 Facts.h_S_ ix0 = 1#1 := by
    have := congrFun h ix0
    dsimp only [fn, fn_part1, fn_part2, fn_part3, fn_part4, fn_part5] at this
    exact this
  replace h1 := Host.reduce_andi_all _ _ _ _ _ h1 (ix1 c)
  revert h1
  pointwise
  intro h1
  exact (ofBool_one _ h1).trans Cert.Proof.Spec.ofBits_four

/-- The last code is 5. -/
theorem code_eos (h : (fn (F := Ideal) x le mw dm).2.2.2.1 = fun _ => 1#1) (c : Fin 80) : dm (ix2 c 257) = ((5 : ℝ) : EReal) := by
  have h1 : Host.reduce IntOp.andi (cmpf (F := Ideal) (φ := .f32) .oeq (shapeCast S80 (extractStridedSlice S80x1 ![0, 257] dm Facts.slices_S80x258_S80x1_0_257) Facts.shapeCasts_S80x1_S80)
      (broadcastInDim S80 ![] Facts.bcast_S_S80 (constant (F := Ideal) S_ .f32 0x40A00000#32))) (constantI S_ 1 1#1) Facts.reducesTo_S80_S_d0 Facts.h_S_ ix0 = 1#1 := by
    have := congrFun h ix0
    dsimp only [fn, fn_part1, fn_part2, fn_part3, fn_part4, fn_part5] at this
    exact this
  replace h1 := Host.reduce_andi_all _ _ _ _ _ h1 (ix1 c)
  revert h1
  pointwise
  intro h1
  exact (ofBool_one _ h1).trans Cert.Proof.Spec.ofBits_five

/-- No two neighbouring codes are equally near a feature. -/
theorem ties (h : (fn (F := Ideal) x le mw dm).2.2.2.2 = fun _ => 1#1) (b : Fin 4) (t : Fin 598) (c : Fin 80) (k : Fin 257) :
    Cert.ReferenceIdeal.Value.rDist x mw dm (ix4 b t c ⟨k.val, by omega⟩) ≠ Cert.ReferenceIdeal.Value.rDist x mw dm (ix4 b t c ⟨1 + k.val, by omega⟩) := by
  have h1 : Host.reduce IntOp.andi (cmpf (F := Ideal) (φ := .f32) .une (extractStridedSlice S4x598x80x257 ![0, 0, 0, 0] (Cert.ReferenceIdeal.Value.rDist x mw dm) Facts.slices_S4x598x80x258_S4x598x80x257_0_0_0_0)
      (extractStridedSlice S4x598x80x257 ![0, 0, 0, 1] (Cert.ReferenceIdeal.Value.rDist x mw dm) Facts.slices_S4x598x80x258_S4x598x80x257_0_0_0_1)) (constantI S_ 1 1#1) Facts.reducesTo_S4x598x80x257_S_d0_1_2_3 Facts.h_S_ ix0 = 1#1 := by
    have := congrFun h ix0
    dsimp only [fn, fn_part1, fn_part2, fn_part3, fn_part4, fn_part5] at this
    exact this
  replace h1 := Host.reduce_andi_all _ _ _ _ _ h1 (ix4 b t c k)
  revert h1
  generalize Cert.ReferenceIdeal.Value.rDist x mw dm = D
  pointwise
  intro h1
  exact ofBool_one _ h1

end Cert.Proof.Pre

end
-- ==== Proof.Algebraic.lean ====
/-
  Over the reals, where the precondition holds, the kernel's two results are the reference's.
-/
module

public import proofs.«01_k».proof.Defs
public import proofs.«01_k».proof.Proof.Frames
public import proofs.«01_k».proof.Proof.KerOut
public import proofs.«01_k».proof.Proof.KerQuant
public import proofs.«01_k».proof.Proof.RefFeat
public import proofs.«01_k».proof.Proof.RefRows
public import proofs.«01_k».proof.Proof.LenWord
public import proofs.«01_k».proof.Proof.PreFacts

@[expose] public section

set_option maxRecDepth 16384

noncomputable section

namespace Cert.Proof

open Idealize.ShloMosaic Idealize.SL.Sem
open Idealize.ShloMosaic.TcCoe
open Cert.KernelIdeal (S4x96000 S4 S80x201 S80x258 S4x600x80)

theorem kLen_eq (le : IVec S4 32) : Run.kLen le = Cert.ReferenceIdeal.Value.rLen le := rfl
theorem kLen2_eq (le : IVec S4 32) : Run.kLen2 (Run.kLen le) = Cert.ReferenceIdeal.Value.rLen2 le := rfl

/-- On a row with frames the kernel's level is the reference's code. -/
theorem level_eq [Cert.Pre_in_range.Facts] (x : FVec Ideal S4x96000 .f32) (le : IVec S4 32) (mw : FVec Ideal S80x201 .f32) (dm : FVec Ideal S80x258 .f32)
    (h2 : (Cert.Pre_in_range.fn (F := Ideal) x le mw dm).2.1 = fun _ => 1#1) (h3 : (Cert.Pre_in_range.fn (F := Ideal) x le mw dm).2.2.1 = fun _ => 1#1)
    (h4 : (Cert.Pre_in_range.fn (F := Ideal) x le mw dm).2.2.2.1 = fun _ => 1#1) (h5 : (Cert.Pre_in_range.fn (F := Ideal) x le mw dm).2.2.2.2 = fun _ => 1#1)
    (b : Fin 4) (r : Fin 600) (c : Fin 80) (hr1 : 1 ≤ r.val) (hr2 : r.val ≤ 598) :
    Run.quantW (F := Ideal) (Run.kFeat x mw (ix2 ⟨b.val * 600 + r.val, by omega⟩ c))
      = Cert.ReferenceIdeal.Value.rTok x mw dm (ix3 b ⟨r.val - 1, by omega⟩ c) := by
  obtain ⟨y, q, hy, hq, hl, ht⟩ := Cert.ReferenceIdeal.Value.rTok_at x mw dm (Pre.code_grid x le mw dm h2) (Pre.code_bos x le mw dm h3)
    (Pre.code_eos x le mw dm h4) b ⟨r.val - 1, by omega⟩ c (Pre.ties x le mw dm h5 b ⟨r.val - 1, by omega⟩ c)
  rw [ht]
  rw [Cert.ReferenceIdeal.Value.rFeat_at] at hy
  rw [Run.kFeat_at x mw b r hr1 hr2 c]
  exact Run.quantW_eq _ y hy q hq hl

/-- The tokens agree. -/
theorem tokens_eq [Cert.Pre_in_range.Facts] (x : FVec Ideal S4x96000 .f32) (le : IVec S4 32) (mw : FVec Ideal S80x201 .f32) (dm : FVec Ideal S80x258 .f32)
    (h1 : (Cert.Pre_in_range.fn (F := Ideal) x le mw dm).1 = fun _ => 1#1)
    (h2 : (Cert.Pre_in_range.fn (F := Ideal) x le mw dm).2.1 = fun _ => 1#1) (h3 : (Cert.Pre_in_range.fn (F := Ideal) x le mw dm).2.2.1 = fun _ => 1#1)
    (h4 : (Cert.Pre_in_range.fn (F := Ideal) x le mw dm).2.2.2.1 = fun _ => 1#1) (h5 : (Cert.Pre_in_range.fn (F := Ideal) x le mw dm).2.2.2.2 = fun _ => 1#1) :
    Cert.ReferenceIdeal.Value.rOut x le mw dm = Run.kOut (Run.outVal (F := Ideal) (Run.kFlat (Run.kFeat x mw)) (Run.kLens (Run.kLen le))) := by
  choose l hl1 hl2 hl3 using Pre.len_range x le mw dm h1
  have hN : ∀ b, 1 + (l b - 400) / 160 ≤ 598 := fun b => by have := hl2 b; omega
  have hlen : ∀ b : Fin 4, Cert.ReferenceIdeal.Value.rLen le (ix1 b) = BitVec.ofNat 32 (1 + (l b - 400) / 160) := fun b =>
    Cert.ReferenceIdeal.Value.rLen_at le b (l b) (hl1 b) (hl2 b) (hl3 b)
  funext j
  idx_vars j
  rw [Cert.ReferenceIdeal.Value.rOut_at x le mw dm j0 j1 j2 (fun b => 1 + (l b - 400) / 160) hN hlen, Run.kOut_tok, kLen_eq, hlen,
    Run.tokW_at _ _ _ (hN j0) j1.isLt]
  by_cases he : j1.val = 1 + (l j0 - 400) / 160 + 1
  · rw [if_pos he, if_pos he]
  · rw [if_neg he, if_neg he]
    by_cases h0 : j1.val = 0
    · rw [if_pos h0, if_pos h0]
    · rw [if_neg h0, if_neg h0]
      by_cases hv : j1.val ≤ 1 + (l j0 - 400) / 160
      · rw [dif_pos ⟨by omega, hv⟩, if_pos hv]
        exact (level_eq x le mw dm h2 h3 h4 h5 j0 j1 j2 (by omega) (by have := hN j0; omega)).symm
      · rw [dif_neg (fun h => hv h.2), if_neg hv]

section
open Cert.KernelIdeal
variable (m : (ℓ : Loc nD τ sig) → Buf (Elt Ideal) ℓ) (d : Dev nD)

/-- The kernel's tokens are those of its arguments. -/
theorem ker_tokens : Run.VE m d main_v63 = Run.kOut (Run.outVal (F := Ideal)
    (Run.kFlat (Run.kFeat (m (d, (main_arg0 : DevRef τ sig))) (m (d, (main_arg2 : DevRef τ sig))))) (Run.kLens (Run.kLen (m (d, (main_arg1 : DevRef τ sig)))))) := by
  rw [Run.VE_v63, Run.VD_out, Run.VC_v61, Run.VC_v60, Run.VB_out, Run.VB_ne m d main_v5 (by decide), Run.VA_v48, Run.VA_v47, Run.VA_v9, Run.VA_v5]
  rfl

/-- The kernel's lengths are those of its arguments. -/
theorem ker_lens : Run.VE m d main_v65 = Run.kLen2 (Run.kLen (m (d, (main_arg1 : DevRef τ sig)))) := by
  rw [Run.VE_v65, Run.VD_ne m d main_v5 (by decide), Run.VC_keep m d main_v5 (by decide) (by decide), Run.VA_v5]

end

theorem algebraic [Cert.Pre_in_range.Facts] : Cert.algebraic_KernelIdeal_ReferenceIdeal_pre_in_range
    (hKernelIdeal := Cert.KernelIdeal.Gen.facts) (hReferenceIdeal := Cert.ReferenceIdeal.Gen.facts) := fun m g m' g' hpre hargs => by
  refine ⟨fun c => Run.VE m c Cert.KernelIdeal.main_v63, fun c => Run.VE m c Cert.KernelIdeal.main_v65, ?_, ?_⟩
  · exact (θ_run Cert.KernelIdeal.defs _ _).mono (fun _ h c =>
      ⟨h.1 c Cert.KernelIdeal.main_v63 (by decide), h.1 c Cert.KernelIdeal.main_v65 (by decide),
       (h.1 c Cert.KernelIdeal.main_arg0 (by decide)).trans (Run.VE_keep m c Cert.KernelIdeal.main_arg0 (by decide) (by decide) (by decide) (by decide) (by decide)),
       (h.1 c Cert.KernelIdeal.main_arg1 (by decide)).trans (Run.VE_keep m c Cert.KernelIdeal.main_arg1 (by decide) (by decide) (by decide) (by decide) (by decide)),
       (h.1 c Cert.KernelIdeal.main_arg2 (by decide)).trans (Run.VE_keep m c Cert.KernelIdeal.main_arg2 (by decide) (by decide) (by decide) (by decide) (by decide)),
       (h.1 c Cert.KernelIdeal.main_arg3 (by decide)).trans (Run.VE_keep m c Cert.KernelIdeal.main_arg3 (by decide) (by decide) (by decide) (by decide) (by decide))⟩)
      (Run.run_main (F := Ideal) m g)
  · refine (θ_run Cert.ReferenceIdeal.defs _ _).mono (fun r h c => ?_) (Cert.ReferenceIdeal.Value.run (F := Ideal) m' g')
    obtain ⟨a0, a1, a2, a3⟩ := hargs c
    obtain ⟨p1, p2, p3, p4, p5⟩ := hpre c
    refine ⟨(h c).1.trans ?_, (h c).2.1.trans ?_, (h c).2.2⟩
    · rw [Cert.ReferenceIdeal.Value.res_eq, a0, a1, a2, a3]
      exact (tokens_eq _ _ _ _ p1 p2 p3 p4 p5).trans (ker_tokens m c).symm
    · rw [a1]
      exact (kLen2_eq _).symm.trans (ker_lens m c).symm

end Cert.Proof

end
-- ==== Proof.lean ====
/-
  The certificate: every weakly fair execution of each program ends with its arguments unchanged and its counters at zero; the
  one named constant is the value it stands for; and over the reals the kernel's two results are the
  reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_in_range
public import proofs.«01_k».proof.Proof.Frames
public import proofs.«01_k».proof.Proof.Algebraic

@[expose] public section

noncomputable section

namespace Cert.Proof

theorem claim : Cert.Claim := ⟨Cert.Kernel.Gen.facts, Cert.KernelIdeal.Gen.facts, Cert.ReferenceIdeal.Gen.facts, Cert.Pre_in_range.Gen.facts,
  frame_p, frame_pi, fun m ρ _ => frame_pi m ρ trivial, frame_ri, fun m ρ _ => frame_ri m ρ trivial, preserves, algebraic⟩

end Cert.Proof

end
